-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v17_2)) (v1 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_2) = v0 c
          ∧ r.2.mem ((c.tc : Thread Cert.Kernel4Ideal.nD Cert.Kernel4Ideal.τ).loc Cert.Kernel4Ideal.main_v17_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_indices) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables : Cert.Pre_tables.Facts) (hPre_finite : Cert.Pre_finite.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32768x1024 .bf16) (main_arg1 : FVec F S32768x1024 .bf16) (main_arg2 : FVec F S32768x2048 .bf16) (main_arg3 : FVec F S32768x1024 .f32) (main_arg4 : FVec F S1024x1024 .f32) (main_arg5 : FVec F S1024x1024 .f32) (main_arg6 : FVec F S1024x1024 .f32) (main_arg7 : FVec F S1024 .f32) (main_arg8 : FVec F S1024x32 .f32) (main_arg9 : FVec F S32 .f32) : IVec S_ 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x32 .f32 := Host.absf main_arg8
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_v9 : FVec F S32 .f32 := Host.absf main_arg9
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Pre_tables.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : FVec F S1179648x128 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S147456x1024 : Shape := ⟨2, ![147456, 1024]⟩
abbrev S288x512 : Shape := ⟨2, ![288, 512]⟩
abbrev S147456 : Shape := ⟨1, ![147456]⟩
abbrev S_ : Shape := ⟨0, ![]⟩
abbrev S147456x1 : Shape := ⟨2, ![147456, 1]⟩
abbrev S1x32 : Shape := ⟨2, ![1, 32]⟩
abbrev S147456x32 : Shape := ⟨2, ![147456, 32]⟩
abbrev S147456x32x2048 : Shape := ⟨3, ![147456, 32, 2048]⟩
abbrev S1x32x2048 : Shape := ⟨3, ![1, 32, 2048]⟩
abbrev S147456x32x1024 : Shape := ⟨3, ![147456, 32, 1024]⟩
abbrev S32x1024x147456 : Shape := ⟨3, ![32, 1024, 147456]⟩
abbrev S1x32x1024 : Shape := ⟨3, ![1, 32, 1024]⟩

abbrev nBuf : Space → Nat
  | .hbm => 68
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S1179648x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S147456x1024, .f32⟩
  | .hbm, ⟨8, _⟩ => ⟨S288x512, .i32⟩
  | .hbm, ⟨9, _⟩ => ⟨S147456, .i32⟩
  | .hbm, ⟨10, _⟩ => ⟨S288, .i32⟩
  | .hbm, ⟨11, _⟩ => ⟨S_, .i32⟩
  | .hbm, ⟨12, _⟩ => ⟨S288, .i32⟩
  | .hbm, ⟨13, _⟩ => ⟨S288, .i1⟩
  | .hbm, ⟨14, _⟩ => ⟨S288x512, .i1⟩
  | .hbm, ⟨15, _⟩ => ⟨S147456, .i1⟩
  | .hbm, ⟨16, _⟩ => ⟨S147456x1, .i1⟩
  | .hbm, ⟨17, _⟩ => ⟨S147456x1, .i32⟩
  | .hbm, ⟨18, _⟩ => ⟨S1x32, .i32⟩
  | .hbm, ⟨19, _⟩ => ⟨S147456x32, .i32⟩
  | .hbm, ⟨20, _⟩ => ⟨S147456x32, .i32⟩
  | .hbm, ⟨21, _⟩ => ⟨S147456x32, .i1⟩
  | .hbm, ⟨22, _⟩ => ⟨S147456x32, .f32⟩
  | .hbm, ⟨23, _⟩ => ⟨S_, .f32⟩
  | .hbm, ⟨24, _⟩ => ⟨S_, .f32⟩
  | .hbm, ⟨25, _⟩ => ⟨S147456x32, .i1⟩
  | .hbm, ⟨26, _⟩ => ⟨S147456x32, .f32⟩
  | .hbm, ⟨27, _⟩ => ⟨S147456x32, .f32⟩
  | .hbm, ⟨28, _⟩ => ⟨S147456x32x2048, .f32⟩
  | .hbm, ⟨29, _⟩ => ⟨S1x32x2048, .f32⟩
  | .hbm, ⟨30, _⟩ => ⟨S147456x32x2048, .f32⟩
  | .hbm, ⟨31, _⟩ => ⟨S147456x32x2048, .f32⟩
  | .hbm, ⟨32, _⟩ => ⟨S147456x32x1024, .f32⟩
  | .hbm, ⟨33, _⟩ => ⟨S147456x32x1024, .f32⟩
  | .hbm, ⟨34, _⟩ => ⟨S_, .f32⟩
  | .hbm, ⟨35, _⟩ => ⟨S147456x32x1024, .f32⟩
  | .hbm, ⟨36, _⟩ => ⟨S147456x32x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S147456x32x1024, .f32⟩
  | .hbm, ⟨41, _⟩ => ⟨S147456x32x1024, .f32⟩
  | .hbm, ⟨42, _⟩ => ⟨S_, .f32⟩
  | .hbm, ⟨43, _⟩ => ⟨S147456x32x1024, .f32⟩
  | .hbm, ⟨44, _⟩ => ⟨S147456x32x1024, .f32⟩
  | .hbm, ⟨45, _⟩ => ⟨S_, .f32⟩
  | .hbm, ⟨46, _⟩ => ⟨S147456x32x1024, .f32⟩
  | .hbm, ⟨47, _⟩ => ⟨S147456x32x1024, .f32⟩
  | .hbm, ⟨48, _⟩ => ⟨S147456x32x1024, .f32⟩
  | .hbm, ⟨49, _⟩ => ⟨S147456x32x1024, .f32⟩
  | .hbm, ⟨50, _⟩ => ⟨S_, .f32⟩
  | .hbm, ⟨51, _⟩ => ⟨S147456x32x1024, .f32⟩
  | .hbm, ⟨52, _⟩ => ⟨S147456x32x1024, .f32⟩
  | .hbm, ⟨53, _⟩ => ⟨S_, .f32⟩
  | .hbm, ⟨54, _⟩ => ⟨S147456x32x1024, .f32⟩
  | .hbm, ⟨55, _⟩ => ⟨S147456x32x1024, .f32⟩
  | .hbm, ⟨56, _⟩ => ⟨S147456x32x1024, .f32⟩
  | .hbm, ⟨57, _⟩ => ⟨S_, .f32⟩
  | .hbm, ⟨58, _⟩ => ⟨S147456x32x1024, .f32⟩
  | .hbm, ⟨59, _⟩ => ⟨S147456x32x1024, .f32⟩
  | .hbm, ⟨60, _⟩ => ⟨S147456x32x1024, .f32⟩
  | .hbm, ⟨61, _⟩ => ⟨S32x1024x147456, .f32⟩
  | .hbm, ⟨62, _⟩ => ⟨S147456x32x1024, .f32⟩
  | .hbm, ⟨63, _⟩ => ⟨S1x32x1024, .f32⟩
  | .hbm, ⟨64, _⟩ => ⟨S147456x32x1024, .f32⟩
  | .hbm, ⟨65, _⟩ => ⟨S147456x32x1024, .f32⟩
  | .hbm, ⟨66, _⟩ => ⟨S147456x1024, .f32⟩
  | .hbm, ⟨67, _⟩ => ⟨S1179648x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_cst_2 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x8224 : Shape := ⟨2, ![1024, 8224]⟩
abbrev S1024x3072 : Shape := ⟨2, ![1024, 3072]⟩
abbrev S1024x5120 : Shape := ⟨2, ![1024, 5120]⟩
abbrev S1024x32 : Shape := ⟨2, ![1024, 32]⟩
abbrev S_ : Shape := ⟨0, ![]⟩
abbrev S1024x96 : Shape := ⟨2, ![1024, 96]⟩
abbrev S1024x8320 : Shape := ⟨2, ![1024, 8320]⟩
abbrev S1x1024 : Shape := ⟨2, ![1, 1024]⟩
abbrev S32768x3072 : Shape := ⟨2, ![32768, 3072]⟩
abbrev S32768x2048 : Shape := ⟨2, ![32768, 2048]⟩
abbrev S32768x128 : Shape := ⟨2, ![32768, 128]⟩
abbrev S512x1024 : Shape := ⟨2, ![512, 1024]⟩
abbrev S512x3072 : Shape := ⟨2, ![512, 3072]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x128 : Shape := ⟨2, ![1024, 128]⟩

abbrev nBuf : Space → Nat
  | .hbm => 15
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8224, .f32⟩
  | .hbm, ⟨3, _⟩ => ⟨S1024x8224, .bf16⟩
  | .hbm, ⟨4, _⟩ => ⟨S1024x3072, .bf16⟩
  | .hbm, ⟨5, _⟩ => ⟨S1024x5120, .bf16⟩
  | .hbm, ⟨6, _⟩ => ⟨S1024x32, .bf16⟩
  | .hbm, ⟨7, _⟩ => ⟨S_, .bf16⟩
  | .hbm, ⟨8, _⟩ => ⟨S1024x96, .bf16⟩
  | .hbm, ⟨9, _⟩ => ⟨S1024x8320, .bf16⟩
  | .hbm, ⟨10, _⟩ => ⟨S1x1024, .f32⟩
  | .hbm, ⟨11, _⟩ => ⟨S32768x3072, .bf16⟩
  | .hbm, ⟨12, _⟩ => ⟨S32768x3072, .bf16⟩
  | .hbm, ⟨13, _⟩ => ⟨S32768x2048, .bf16⟩
  | .hbm, ⟨14, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8320, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024 : Shape := ⟨1, ![1024]⟩
abbrev S1024x8224 : Shape := ⟨2, ![1024, 8224]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8224 : Shape := ⟨2, ![32768, 8224]⟩
abbrev S32768x3072 : Shape := ⟨2, ![32768, 3072]⟩
abbrev S32768x32 : Shape := ⟨2, ![32768, 32]⟩
abbrev S32768x2048 : Shape := ⟨2, ![32768, 2048]⟩
abbrev S32768x128 : Shape := ⟨2, ![32768, 128]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8224, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8224, .f32⟩
  | .hbm, ⟨20, _⟩ => ⟨S32768x3072, .f32⟩
  | .hbm, ⟨21, _⟩ => ⟨S32768x32, .f32⟩
  | .hbm, ⟨22, _⟩ => ⟨S32768x3072, .f32⟩
  | .hbm, ⟨23, _⟩ => ⟨S32768x2048, .f32⟩
  | .hbm, ⟨24, _⟩ => ⟨S32768x3072, .bf16⟩
  | .hbm, ⟨25, _⟩ => ⟨S32768x3072, .bf16⟩
  | .hbm, ⟨26, _⟩ => ⟨S32768x2048, .bf16⟩
  | .hbm, ⟨27, _⟩ => ⟨S_, .i32⟩
  | .hbm, ⟨28, _⟩ => ⟨S_, .f32⟩
  | .hbm, ⟨29, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S262144x128 : Shape := ⟨2, ![262144, 128]⟩
abbrev S32768x4 : Shape := ⟨2, ![32768, 4]⟩
abbrev S32768x128 : Shape := ⟨2, ![32768, 128]⟩
abbrev S512x1024 : Shape := ⟨2, ![512, 1024]⟩
abbrev S512x2048 : Shape := ⟨2, ![512, 2048]⟩
abbrev S4096x128 : Shape := ⟨2, ![4096, 128]⟩
abbrev S512x4 : Shape := ⟨2, ![512, 4]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128x512 : Shape := ⟨2, ![128, 512]⟩
abbrev S32x512 : Shape := ⟨2, ![32, 512]⟩
abbrev S1x512 : Shape := ⟨2, ![1, 512]⟩
abbrev S8x512 : Shape := ⟨2, ![8, 512]⟩
abbrev S120x512 : Shape := ⟨2, ![120, 512]⟩

abbrev nBuf : Space → Nat
  | .hbm => 36
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1024x256, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S32768x1024, .f32⟩
  | .hbm, ⟨33, _⟩ => ⟨S262144x128, .f32⟩
  | .hbm, ⟨34, _⟩ => ⟨S32768x4, .i32⟩
  | .hbm, ⟨35, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S4096x128, .f32⟩
  | .local _ .vmem, ⟨17, _⟩ => ⟨S4096x128, .f32⟩
  | .local _ .vmem, ⟨18, _⟩ => ⟨S512x4, .i32⟩
  | .local _ .vmem, ⟨19, _⟩ => ⟨S512x4, .i32⟩
  | .local _ .vmem, ⟨20, _⟩ => ⟨S512x128, .f32⟩
  | .local _ .vmem, ⟨21, _⟩ => ⟨S512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S32768x2048, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S262144x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S262144x128 : Shape := ⟨2, ![262144, 128]⟩
abbrev S32768x4 : Shape := ⟨2, ![32768, 4]⟩
abbrev S32768x128 : Shape := ⟨2, ![32768, 128]⟩
abbrev S512x1024 : Shape := ⟨2, ![512, 1024]⟩
abbrev S512x2048 : Shape := ⟨2, ![512, 2048]⟩
abbrev S4096x128 : Shape := ⟨2, ![4096, 128]⟩
abbrev S512x4 : Shape := ⟨2, ![512, 4]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128x512 : Shape := ⟨2, ![128, 512]⟩
abbrev S32x512 : Shape := ⟨2, ![32, 512]⟩
abbrev S1x512 : Shape := ⟨2, ![1, 512]⟩
abbrev S8x512 : Shape := ⟨2, ![8, 512]⟩
abbrev S120x512 : Shape := ⟨2, ![120, 512]⟩

abbrev nBuf : Space → Nat
  | .hbm => 36
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1024x256, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S32768x1024, .f32⟩
  | .hbm, ⟨33, _⟩ => ⟨S262144x128, .f32⟩
  | .hbm, ⟨34, _⟩ => ⟨S32768x4, .i32⟩
  | .hbm, ⟨35, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S4096x128, .f32⟩
  | .local _ .vmem, ⟨17, _⟩ => ⟨S4096x128, .f32⟩
  | .local _ .vmem, ⟨18, _⟩ => ⟨S512x4, .i32⟩
  | .local _ .vmem, ⟨19, _⟩ => ⟨S512x4, .i32⟩
  | .local _ .vmem, ⟨20, _⟩ => ⟨S512x128, .f32⟩
  | .local _ .vmem, ⟨21, _⟩ => ⟨S512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x32 : Shape := ⟨2, ![32768, 32]⟩
abbrev S1x32 : Shape := ⟨2, ![1, 32]⟩
abbrev S32768x4 : Shape := ⟨2, ![32768, 4]⟩
abbrev S32768x128 : Shape := ⟨2, ![32768, 128]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S32768x2048, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x32, .f32⟩
  | .hbm, ⟨55, _⟩ => ⟨S1x32, .f32⟩
  | .hbm, ⟨56, _⟩ => ⟨S32768x32, .f32⟩
  | .hbm, ⟨57, _⟩ => ⟨S32768x32, .f32⟩
  | .hbm, ⟨58, _⟩ => ⟨S32768x4, .f32⟩
  | .hbm, ⟨59, _⟩ => ⟨S32768x4, .i32⟩
  | .hbm, ⟨60, _⟩ => ⟨S_, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .f32⟩
  | .hbm, ⟨65, _⟩ => ⟨S32768x1, .f32⟩
  | .hbm, ⟨66, _⟩ => ⟨S32768x4, .f32⟩
  | .hbm, ⟨67, _⟩ => ⟨S32768x4, .f32⟩
  | .hbm, ⟨68, _⟩ => ⟨S32768x4, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S32768x4, .f32⟩
  | .hbm, ⟨73, _⟩ => ⟨S32768x4, .f32⟩
  | .hbm, ⟨74, _⟩ => ⟨S_, .i32⟩
  | .hbm, ⟨75, _⟩ => ⟨S_, .f32⟩
  | .hbm, ⟨76, _⟩ => ⟨S32768x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_values : Ref sig .tc := ⟨.hbm, 58, rfl⟩
abbrev main_indices : Ref sig .tc := ⟨.hbm, 59, rfl⟩
abbrev main_cst_6 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c : Ref sig .tc := ⟨.hbm, 74, rfl⟩
abbrev main_call0_v0 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.Body.lean ====
/- One grid point of the expert kernel, run once and for any floats: what the body of `cc0_moe_experts` leaves in
   its output block and in its two weight caches, as functions of the blocks and tables it reads.

   A token block is 512 rows of 1024 lanes stored as 4096 rows of 128: row `8 * t + s` holds lanes
   `128 * s … 128 * s + 127` of token `t`. The body gathers a token's eight pieces by strided loads and deals a result back
   by strided stores; `pieces` and `deal` name the two. -/
module

public import proofs.«01_k».proof.Proof.Gen.KernelIdeal.Launch
public import proofs.«01_k».proof.Proof.Gen.KernelIdeal.Skeleton
public import Idealize.ShloMosaic.Lib.Pipeline.Value
public import Idealize.ShloMosaic.Lib.Pipeline.Frame
public import Idealize.ShloMosaic.Lib.VecWindow
public import Idealize.ShloMosaic.Lib.ValueIdxCore
public import Idealize.ShloMosaic.Lib.Tactic

@[expose] public section

set_option maxRecDepth 16384

noncomputable section

namespace Cert.KernelIdeal.Experts

open Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The two layouts of a token block -/

/-- Piece `s` of every token: lanes `128 * s …` of token `t` are row `8 * t + s`. -/
def pieces (s : Fin 8) (x : Vec F S4096x128 .f32) : Vec F S512x128 .f32 :=
  fun j => x (ix2 (⟨8 * (j 0).val + s.val, by have := (j 0).isLt; have : (j 0).val < 512 := this; omega⟩ : Fin 4096) (j 1))

/-- Tokens of 1024 lanes dealt to rows of 128: row `r` is piece `r % 8` of token `r / 8`. -/
def deal (y : FVec F S512x1024 .f32) : Vec F S4096x128 .f32 :=
  fun j => y (ix2 (⟨(j 0).val / 8, by have : (j 0).val < 4096 := (j 0).isLt; omega⟩ : Fin 512)
    (⟨128 * ((j 0).val % 8) + (j 1).val, by have : (j 1).val < 128 := (j 1).isLt; omega⟩ : Fin 1024))

/-- A strided load of a token block reads one piece of every token. -/
theorem readAt_pieces {sp : Space} (v : View sig .tc sp S4096x128 .f32) (f : v.ty.Contents (Elt F)) (s : Fin 8) (inb) :
    v.readAt (Elt F) (⟨![s.val, 0], S512x128.size, ![8, 1], inb⟩ : LoadRect S4096x128) f = pieces s (v.read (Elt F) f) := by
  funext j
  refine congrArg (v.read (Elt F) f) (funext fun a => Fin.ext ?_)
  match a with
  | ⟨0, _⟩ => show s.val + 8 * (j 0).val = 8 * (j 0).val + s.val; omega
  | ⟨1, _⟩ => show 0 + 1 * (j 1).val = (j 1).val; omega

/-- What a strided store of one piece writes agrees with `deal` where it writes. -/
theorem slice_deal (s o : ℕ) (hs : s < 8) (ho : o = 128 * s) (y : FVec F S512x1024 .f32) (h : S512x1024.Slices ![0, o] S512x128)
    (inb) (sp) (x : (⟨⟨![s, 0], S512x128.size, ![8, 1], inb⟩, sp⟩ : Rect S4096x128).shape.Idx) :
    extractStridedSlice S512x128 ![0, o] y h x
      = deal y ((⟨⟨![s, 0], S512x128.size, ![8, 1], inb⟩, sp⟩ : Rect S4096x128).emb x) := by
  have h0 : (x 0).val < 512 := (x 0).isLt
  have h1 : (x 1).val < 128 := (x 1).isLt
  refine extractStridedSlice_apply _ _ _ x _ fun a => ?_
  match a with
  | ⟨0, _⟩ => show (s + 8 * (x 0).val) / 8 = 0 + (x 0).val; omega
  | ⟨1, _⟩ => show 128 * ((s + 8 * (x 0).val) % 8) + (0 + 1 * (x 1).val) = o + (x 1).val; omega

/-- Row `r` of the block lies in the piece of its remainder by eight. -/
theorem mem_piece (y : S4096x128.Idx) (s : ℕ) (hs : (y 0).val % 8 = s) (inb) (sp) :
    y ∈ (⟨⟨![s, 0], S512x128.size, ![8, 1], inb⟩, sp⟩ : Rect S4096x128).set := by
  refine (LoadRect.mem_set _).mpr fun a => ?_
  have h0 : (y 0).val < 4096 := (y 0).isLt
  have h1 : (y 1).val < 128 := (y 1).isLt
  match a with
  | ⟨0, _⟩ => exact ⟨(y 0).val / 8, by show (y 0).val / 8 < 512; omega, by show (y 0).val = s + 8 * ((y 0).val / 8); omega⟩
  | ⟨1, _⟩ => exact ⟨(y 1).val, h1, by show (y 1).val = 0 + 1 * (y 1).val; omega⟩

/-! ## The tables' words and the three conditions -/

/-- The expert of the token block at hand. -/
def cur (i : grid0.Coords) (te : Vec F S288 .i32) : BitVec 32 :=
  te ((Rect.unit (s := S288) (k0_off1 i) S1.size (k0_off1_inb i)).point numel1_S1)
/-- The expert of the token block before it (of the first one at the first). -/
def prev (i : grid0.Coords) (te : Vec F S288 .i32) : BitVec 32 :=
  te ((Rect.unit (s := S288) (k0_off2 i) S1.size (k0_off2_inb i)).point numel1_S1)
/-- The number of token blocks in use. -/
def used (nu : Vec F S1 .i32) : BitVec 32 :=
  nu ((Rect.unit (s := S1) ![0] S1.size inb_S1_S1_0).point numel1_S1)

/-- The condition under which the weights are converted again. -/
def reload (i : grid0.Coords) (te : Vec F S288 .i32) : BitVec 1 :=
  Scalar.cmpi .ne (Scalar.extui (Scalar.ori (Scalar.cmpi .eq (BitVec.ofNat 32 (i 0).val) 0#32)
    (Scalar.cmpi .ne (cur i te) (prev i te)))) 0#32

/-! ## The block a point leaves -/

/-- The hidden activations of a token block. -/
def act (x : Vec F S4096x128 .f32) (w : Vec F S1024x2048 .bf16) (b : Vec F S1x1x2048 .f32) : FVec F S512x1024 .bf16 :=
  k0_pay13 (pieces 0 x) (pieces 1 x) (pieces 2 x) (pieces 3 x) (pieces 4 x) (pieces 5 x) (pieces 6 x) (pieces 7 x) w b

/-- The output block of a token block in use. -/
def live (x : Vec F S4096x128 .f32) (w1 : Vec F S1x1024x2048 .f32) (b1 : Vec F S1x1x2048 .f32) (w2 : Vec F S1x1024x1024 .f32)
    (b2 : Vec F S1x1x1024 .f32) : Vec F S4096x128 .f32 :=
  deal (k0_pay3 (act x (k0_pay1 w1) b1) (k0_pay2 w2) b2)

/-- The output block a point leaves: the expert's result on a block in use, zeros past the last one. -/
def left (i : grid0.Coords) (nu : Vec F S1 .i32) (x : Vec F S4096x128 .f32) (w1 : Vec F S1x1024x2048 .f32) (b1 : Vec F S1x1x2048 .f32)
    (w2 : Vec F S1x1024x1024 .f32) (b2 : Vec F S1x1x1024 .f32) : Vec F S4096x128 .f32 :=
  if k0_cond2 i (used nu) = 1#1 then live x w1 b1 w2 b2 else k0_pay12

/-- The eight strided stores of a result fill the block, and it reads the result dealt to rows. -/
theorem read_dealt {sp : Space} (v : View sig .tc sp S4096x128 .f32) (f : v.ty.Contents (Elt F)) (h : FVec F S512x1024 .bf16)
    (w : Vec F S1024x1024 .bf16) (b : Vec F S1x1x1024 .f32) :
    v.read (Elt F) (v.writes (Elt F) f
      [⟨⟨⟨![7, 0], S512x128.size, ![8, 1], inb_S4096x128_S512x128_7_0_s_8_1⟩, spos_8_1⟩, k0_pay11 h w b⟩,
       ⟨⟨⟨![6, 0], S512x128.size, ![8, 1], inb_S4096x128_S512x128_6_0_s_8_1⟩, spos_8_1⟩, k0_pay10 h w b⟩,
       ⟨⟨⟨![5, 0], S512x128.size, ![8, 1], inb_S4096x128_S512x128_5_0_s_8_1⟩, spos_8_1⟩, k0_pay9 h w b⟩,
       ⟨⟨⟨![4, 0], S512x128.size, ![8, 1], inb_S4096x128_S512x128_4_0_s_8_1⟩, spos_8_1⟩, k0_pay8 h w b⟩,
       ⟨⟨⟨![3, 0], S512x128.size, ![8, 1], inb_S4096x128_S512x128_3_0_s_8_1⟩, spos_8_1⟩, k0_pay7 h w b⟩,
       ⟨⟨⟨![2, 0], S512x128.size, ![8, 1], inb_S4096x128_S512x128_2_0_s_8_1⟩, spos_8_1⟩, k0_pay6 h w b⟩,
       ⟨⟨⟨![1, 0], S512x128.size, ![8, 1], inb_S4096x128_S512x128_1_0_s_8_1⟩, spos_8_1⟩, k0_pay5 h w b⟩,
       ⟨⟨⟨![0, 0], S512x128.size, ![8, 1], inb_S4096x128_S512x128_0_0_s_8_1⟩, spos_8_1⟩, k0_pay4 h w b⟩])
      = deal (k0_pay3 h w b) := by
  have hcov : ∀ y : S4096x128.Idx, ∃ p ∈ ([⟨⟨⟨![7, 0], S512x128.size, ![8, 1], inb_S4096x128_S512x128_7_0_s_8_1⟩, spos_8_1⟩, k0_pay11 h w b⟩,
       ⟨⟨⟨![6, 0], S512x128.size, ![8, 1], inb_S4096x128_S512x128_6_0_s_8_1⟩, spos_8_1⟩, k0_pay10 h w b⟩,
       ⟨⟨⟨![5, 0], S512x128.size, ![8, 1], inb_S4096x128_S512x128_5_0_s_8_1⟩, spos_8_1⟩, k0_pay9 h w b⟩,
       ⟨⟨⟨![4, 0], S512x128.size, ![8, 1], inb_S4096x128_S512x128_4_0_s_8_1⟩, spos_8_1⟩, k0_pay8 h w b⟩,
       ⟨⟨⟨![3, 0], S512x128.size, ![8, 1], inb_S4096x128_S512x128_3_0_s_8_1⟩, spos_8_1⟩, k0_pay7 h w b⟩,
       ⟨⟨⟨![2, 0], S512x128.size, ![8, 1], inb_S4096x128_S512x128_2_0_s_8_1⟩, spos_8_1⟩, k0_pay6 h w b⟩,
       ⟨⟨⟨![1, 0], S512x128.size, ![8, 1], inb_S4096x128_S512x128_1_0_s_8_1⟩, spos_8_1⟩, k0_pay5 h w b⟩,
       ⟨⟨⟨![0, 0], S512x128.size, ![8, 1], inb_S4096x128_S512x128_0_0_s_8_1⟩, spos_8_1⟩, k0_pay4 h w b⟩]
        : List (View.Piece (Elt F) S4096x128 .f32)), y ∈ p.1.set := by
    intro y
    have hy : (y 0).val % 8 < 8 := Nat.mod_lt _ (by decide)
    generalize hs : (y 0).val % 8 = s at hy
    simp only [List.exists_mem_cons_iff]
    interval_cases s
    · exact .inr (.inr (.inr (.inr (.inr (.inr (.inr (.inl (mem_piece y 0 hs _ spos_8_1))))))))
    · exact .inr (.inr (.inr (.inr (.inr (.inr (.inl (mem_piece y 1 hs _ spos_8_1)))))))
    · exact .inr (.inr (.inr (.inr (.inr (.inl (mem_piece y 2 hs _ spos_8_1))))))
    · exact .inr (.inr (.inr (.inr (.inl (mem_piece y 3 hs _ spos_8_1)))))
    · exact .inr (.inr (.inr (.inl (mem_piece y 4 hs _ spos_8_1))))
    · exact .inr (.inr (.inl (mem_piece y 5 hs _ spos_8_1)))
    · exact .inr (.inl (mem_piece y 6 hs _ spos_8_1))
    · exact .inl (mem_piece y 7 hs _ spos_8_1)
  rw [View.read_writes_eq_canon _ _ _ hcov]
  funext y
  refine View.canon_apply_of_pieces (deal (k0_pay3 h w b)) _ ?_ y (hcov y)
  simp only [List.forall_mem_cons]
  exact ⟨fun x => slice_deal 7 896 (by decide) rfl (k0_pay3 h w b) slices_S512x1024_o0_896_S512x128 inb_S4096x128_S512x128_7_0_s_8_1 spos_8_1 x,
    fun x => slice_deal 6 768 (by decide) rfl (k0_pay3 h w b) slices_S512x1024_o0_768_S512x128 inb_S4096x128_S512x128_6_0_s_8_1 spos_8_1 x,
    fun x => slice_deal 5 640 (by decide) rfl (k0_pay3 h w b) slices_S512x1024_o0_640_S512x128 inb_S4096x128_S512x128_5_0_s_8_1 spos_8_1 x,
    fun x => slice_deal 4 512 (by decide) rfl (k0_pay3 h w b) slices_S512x1024_o0_512_S512x128 inb_S4096x128_S512x128_4_0_s_8_1 spos_8_1 x,
    fun x => slice_deal 3 384 (by decide) rfl (k0_pay3 h w b) slices_S512x1024_o0_384_S512x128 inb_S4096x128_S512x128_3_0_s_8_1 spos_8_1 x,
    fun x => slice_deal 2 256 (by decide) rfl (k0_pay3 h w b) slices_S512x1024_o0_256_S512x128 inb_S4096x128_S512x128_2_0_s_8_1 spos_8_1 x,
    fun x => slice_deal 1 128 (by decide) rfl (k0_pay3 h w b) slices_S512x1024_o0_128_S512x128 inb_S4096x128_S512x128_1_0_s_8_1 spos_8_1 x,
    fun x => slice_deal 0 0 (by decide) rfl (k0_pay3 h w b) slices_S512x1024_o0_0_S512x128 inb_S4096x128_S512x128_0_0_s_8_1 spos_8_1 x,
    by simp⟩

/-- A flag widened to a word and compared with zero is the flag. -/
theorem flag (b : Bool) : Scalar.cmpi .ne (Scalar.extui (BitVec.ofBool b)) 0#32 = 1#1 ↔ b = true := by
  cases b <;> decide

/-- The second condition: the point is before the number of blocks in use, as signed words. -/
theorem cond2_iff (i : grid0.Coords) (v : BitVec 32) : k0_cond2 i v = 1#1 ↔ (BitVec.ofNat 32 (i 0).val).toInt < v.toInt :=
  (flag _).trans decide_eq_true_iff
/-- The third condition: the point is not. -/
theorem cond3_iff (i : grid0.Coords) (v : BitVec 32) : k0_cond3 i v = 1#1 ↔ ¬ k0_cond2 i v = 1#1 :=
  ((flag _).trans decide_eq_true_iff).trans ((cond2_iff i v).not.trans not_lt).symm

set_option maxHeartbeats 2000000 in
/-- The body at a point: with the weight caches holding the point's own expert wherever they are not written again, it
    leaves them holding it, the output block `left`, and everything it reads as it was. -/
theorem sound_body (c : Dev nD) (q : PosShare TreeShare) (i : grid0.Coords) (arg1 : Memref sig .tc .smem S288 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (te : Vec F S288 .i32) (nu : Vec F S1 .i32) (x0 : Vec F S4096x128 .f32) (x1 : Vec F S1x1024x2048 .f32)
    (x2 : Vec F S1x1x2048 .f32) (x3 : Vec F S1x1024x1024 .f32) (x4 : Vec F S1x1x1024 .f32)
    (s0 : Vec F S1024x2048 .bf16) (s1 : Vec F S1024x1024 .bf16)
    (hs0 : ¬ reload i te = 1#1 → s0 = k0_pay1 x1) (hs1 : ¬ reload i te = 1#1 → s1 = k0_pay2 x3)
    (K : PUnit → sProp 𝕄) :
    iprop(owns (c : Thread nD τ) arg1 q te ∗ owns (c : Thread nD τ) arg2 q nu
        ∗ owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ owns (c : Thread nD τ) arg9 fullShare s0 ∗ owns (c : Thread nD τ) arg10 fullShare s1
        ∗ (owns (c : Thread nD τ) arg1 q te ∗ owns (c : Thread nD τ) arg2 q nu
        ∗ owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare (left i nu x0 x1 x2 x3 x4)
        ∗ owns (c : Thread nD τ) arg9 fullShare (k0_pay1 x1) ∗ owns (c : Thread nD τ) arg10 fullShare (k0_pay2 x3)
         -∗ K ⟨⟩))
      ⊢ wp frame (wpE (defs₀ (F := F)) Variants.none c none) Set.univ
          (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf1 hf2 hf3 hf4 hf5 hf6 hf7 hf9 hf10
  sl_exec
  sl_step
  have ec : sound_body.sl.r_1 c i arg1 f1 = cur i (View.read (Elt F) arg1.view f1) := rfl
  have ep : sound_body.sl.r c i arg1 f1 = prev i (View.read (Elt F) arg1.view f1) := rfl
  have eu : sound_body.sl.r_2 c arg2 f2 = used (View.read (Elt F) arg2.view f2) := rfl
  have e9 : (sound_body.sl.v29 c i arg1 arg4 arg9 f1 f4 f9) = k0_pay1 (View.read (Elt F) arg4.view f4) := by
    unfold sound_body.sl.v29
    split
    · rw [View.readAt_writes_full, View.readAt_full]
    · next h => rw [View.readAt_full]; exact hs0 h
  have e10 : (sound_body.sl.v51 c i arg1 arg6 arg10 f1 f6 f10) = k0_pay2 (View.read (Elt F) arg6.view f6) := by
    unfold sound_body.sl.v51
    split
    · rw [View.readAt_writes_full, View.readAt_full]
    · next h => rw [View.readAt_full]; exact hs1 h
  have er : sound_body.sl.r_3 c i arg1 arg3 arg4 arg5 arg9 f1 f3 f4 f5 f9
      = act (View.read (Elt F) arg3.view f3) (k0_pay1 (View.read (Elt F) arg4.view f4)) (View.read (Elt F) arg5.view f5) := by
    unfold sound_body.sl.r_3 act
    rw [e9, View.readAt_full]
    rw [← readAt_pieces arg3.view f3 0 inb_S4096x128_S512x128_0_0_s_8_1,
      ← readAt_pieces arg3.view f3 1 inb_S4096x128_S512x128_1_0_s_8_1,
      ← readAt_pieces arg3.view f3 2 inb_S4096x128_S512x128_2_0_s_8_1,
      ← readAt_pieces arg3.view f3 3 inb_S4096x128_S512x128_3_0_s_8_1,
      ← readAt_pieces arg3.view f3 4 inb_S4096x128_S512x128_4_0_s_8_1,
      ← readAt_pieces arg3.view f3 5 inb_S4096x128_S512x128_5_0_s_8_1,
      ← readAt_pieces arg3.view f3 6 inb_S4096x128_S512x128_6_0_s_8_1,
      ← readAt_pieces arg3.view f3 7 inb_S4096x128_S512x128_7_0_s_8_1]
    rfl
  iapply Hk
  isplitl [H1]
  · iexists f1
    isplitr
    · ipureintro
      rfl
    iexact H1
  isplitl [H2]
  · iexists f2
    isplitr
    · ipureintro
      rfl
    iexact H2
  isplitl [H3]
  · iexists f3
    isplitr
    · ipureintro
      rfl
    iexact H3
  isplitl [H4]
  · iexists f4
    isplitr
    · ipureintro
      rfl
    iexact H4
  isplitl [H5]
  · iexists f5
    isplitr
    · ipureintro
      rfl
    iexact H5
  isplitl [H6]
  · iexists f6
    isplitr
    · ipureintro
      rfl
    iexact H6
  isplitl [H7]
  · iexists f7
    isplitr
    · ipureintro
      rfl
    iexact H7
  isplitl [H8]
  · iexists _
    isplitr
    rotate_left
    · iexact H8
    ipureintro
    rw [er, e10, View.readAt_full, eu]
    unfold left
    by_cases h2 : k0_cond2 i (used (View.read (Elt F) arg2.view f2)) = 1#1
    · have h3 : ¬ k0_cond3 i (used (View.read (Elt F) arg2.view f2)) = 1#1 := fun h => (cond3_iff _ _).mp h h2
      rw [dif_neg h3, dif_pos h2, if_pos h2]
      exact read_dealt _ _ _ _ _
    · have h3 : k0_cond3 i (used (View.read (Elt F) arg2.view f2)) = 1#1 := (cond3_iff _ _).mpr h2
      rw [dif_pos h3, if_neg h2]
      exact View.read_writes_full _ _ _ _ _
  isplitl [H9]
  · iexists _
    isplitr
    rotate_left
    · iexact H9
    ipureintro
    rw [ec, ep]
    split
    · rw [View.read_writes_full, View.readAt_full]
    · next h => exact hs0 h
  iexists _
  isplitr
  rotate_left
  · iexact H10
  ipureintro
  rw [ec, ep]
  split
  · rw [View.read_writes_full, View.readAt_full]
  · next h => exact hs1 h

end Cert.KernelIdeal.Experts
-- ==== Proof.Run.lean ====
/- The expert call from its launch to its end, for any floats: the data of the pipeline at tables its side condition
   admits, the weight caches tracked from point to point, and the run of `main` with the array each point writes.

   The caches are written only where the expert changes. Between two points of one expert the two weight windows read the
   same block, so at every point the caches hold the conversions of the blocks that the point's own expert names. -/
module

public import proofs.«01_k».proof.Proof.Body
public import Idealize.ShloMosaic.Lib.WordCmp

@[expose] public section

set_option maxRecDepth 16384

noncomputable section

namespace Cert.KernelIdeal.Experts

open Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ)

/-! ## The host's two reshapes -/

/-- The memory at the region: after the two biases are given a middle axis of one. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The references the reshapes write. -/
abbrev hostOps0_W : List (Ref sig .tc) := [main_v0, main_v1]
theorem hostOps0_writes : (hostOps0 : List (HloOp τ sig (Elt F))).Forall fun op =>
    op.writes ⊆ (hostOps0_W.map (Proc.devRef (τ := τ) .tc)).toFinset :=
  StableHlo.forall_writes_sub_of_map rfl

/-- Any other reference keeps its contents. -/
theorem V_of_unwritten (c : Dev nD) (b : Ref sig .tc) (h : b ∉ hostOps0_W) : V m c b = m ((c : Thread nD τ).loc b) :=
  StableHlo.after_of_writes_sub hostOps0 _ hostOps0_writes h

/-! ## The tables -/

/-- The two tables' contents at the region. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The expert table and the count table. -/
abbrev experts : Vec F S288 .i32 := tbl m 0
abbrev count : Vec F S1 .i32 := tbl m 1

/-- The side condition, the tables as admissible contents, and the pipeline at them. -/
abbrev Ok : Prop := ok0 (F := F) (tbl m)
abbrev adm (hO : Ok m) : (pcfg0 (F := F)).Adm := ⟨tbl m, hO⟩
abbrev adms (hO : Ok m) : (p : Fin 1) → (pcfgs (F := F) p).Adm := fun _ => adm m hO
abbrev cfgM (hO : Ok m) : Cfg sig Λ₀ := cfg0 (adm m hO)

theorem PhiT_eq (c : Dev nD) :
    (Pipeline.ΦT pre0 (tbl m) c : sProp 𝕄)
      = iprop(owns (c : Thread nD τ) (Memref.whole main_arg0) fullShare.right (experts m)
          ∗ owns (c : Thread nD τ) (Memref.whole main_arg1) fullShare.right (count m)) := by
  refine Eq.trans ?_ (congrArg₂ (fun a b => iprop(a ∗ b)) (owns_whole (c : Thread nD τ) main_arg0 fullShare.right (experts m)).symm
    (owns_whole (c : Thread nD τ) main_arg1 fullShare.right (count m)).symm)
  unfold Pipeline.ΦT Pipeline.prefHeld
  rw [show (Finset.univ : Finset (Fin 2)) = insert (0 : Fin 2) {(1 : Fin 2)} from by decide, bigSep_insert (by decide), bigSep_singleton]
  rfl

/-! ## The blocks the points read, and the data of the pipeline -/

/-- What window `w` fetches at point `t`. -/
def iblk (hO : Ok m) (c : Dev nD) (w : Fin 6) (t : Fin (cfgM m hO).N) :
    ((((cfgM m hO).win w).xblock ((cfgM m hO).grid.coords t))).Idx → Elt F ((cfgM m hO).win w).elt :=
  (((cfgM m hO).win w).blk t).view.read (Elt F) (V m c (Pipeline.arrRef spec0 w))

/-- The block point `t` leaves. -/
def res (hO : Ok m) (c : Dev nD) (t : Fin (cfgM m hO).N) : Vec F S4096x128 .f32 :=
  left ((cfgM m hO).grid.coords t) (count m) (iblk m hO c 0 t) (iblk m hO c 1 t) (iblk m hO c 2 t) (iblk m hO c 3 t) (iblk m hO c 4 t)

/-- The weight caches before point `n`: after a point they hold the conversions of that point's weight blocks. -/
def caches (hO : Ok m) (c : Dev nD) (n : ℕ) : sProp 𝕄 :=
  iprop(∃ s0 : Vec F S1024x2048 .bf16, ∃ s1 : Vec F S1024x1024 .bf16,
    ⌜∀ t : Fin (cfgM m hO).N, t.val + 1 = n → s0 = k0_pay1 (iblk m hO c 1 t) ∧ s1 = k0_pay2 (iblk m hO c 3 t)⌝
    ∗ owns (c : Thread nD τ) (Memref.whole cc0_scratch0) fullShare s0
    ∗ owns (c : Thread nD τ) (Memref.whole cc0_scratch1) fullShare s1)

/-- What is carried from point to point: the caches, the register and the tables. -/
def carried (hO : Ok m) (c : Dev nD) (n : ℕ) : sProp 𝕄 :=
  iprop(caches m hO c n ∗ (∃ r, prngReg c r)
    ∗ owns (c : Thread nD τ) (Memref.whole main_arg0) fullShare.right (experts m)
    ∗ owns (c : Thread nD τ) (Memref.whole main_arg1) fullShare.right (count m))

/-- The data of the pipeline: inputs as fetched, the output as the points leave it. -/
def dats (hO : Ok m) (p : Fin 1) (c : Dev nD) :
    Dat τ (Elt F) Unit ℕ (UR sig nD τ) ℕ (Pipeline.pin (pcfgs (F := F)) (adms m hO) p) c where
  A w := V m c (Pipeline.arrRef spec0 w)
  after w t := match w with
    | 0 => iblk m hO c 0 t
    | 1 => iblk m hO c 1 t
    | 2 => iblk m hO c 2 t
    | 3 => iblk m hO c 3 t
    | 4 => iblk m hO c 4 t
    | 5 => res m hO c t
    | ⟨_ + 6, h⟩ => absurd h (Nat.not_lt.2 (Nat.le_add_left _ _))
  Φ t := carried m hO c t.val
  q _ := fullShare
  owed _ := 0

/-- A window finds what it fetches. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun _ => rfl) t d).trans rfl
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun _ => rfl) t d).trans rfl

/-! ## Where the caches are kept -/

/-- A point's only coordinate is its number. -/
theorem coords_val (t : Fin grid0.N) : ((grid0.coords t) 0).val = t.val := by
  have ht : t.val < 288 := Nat.lt_of_lt_of_eq t.isLt N_0
  rw [Pipeline.Grid.coords_val t 0 (S := 1) (B := 288) (by decide) rfl]
  omega

/-- A flag widened to a word is nonzero where it is set. -/
theorem flagged (b : BitVec 1) : Scalar.cmpi .ne (Scalar.extui b : BitVec 32) 0#32 = 1#1 ↔ b = 1#1 := by
  revert b; decide

/-- The weights are converted at the first point and where the expert changes. -/
theorem reload_iff (i : grid0.Coords) (te : Vec F S288 .i32) :
    reload i te = 1#1 ↔ (i 0).val = 0 ∨ cur i te ≠ prev i te := by
  have hi : (i 0).val < 288 := (i 0).isLt
  unfold reload
  rw [flagged]
  show IntOp.ori (IntOp.cmpi .eq (BitVec.ofNat 32 (i 0).val) (BitVec.ofNat 32 0)) (IntOp.cmpi .ne (cur i te) (prev i te)) = 1#1 ↔ _
  rw [WordCmp.cmpi_eq_ofNat (by omega) (by omega), WordCmp.cmpi_ne_eq, WordCmp.ori_ofBool, WordCmp.ofBool_eq_one_iff]
  simp

/-- The expert before a point past the first is that of the point before. -/
theorem prev_eq_cur (i i' : grid0.Coords) (h : (i' 0).val + 1 = (i 0).val) (te : Vec F S288 .i32) : prev i te = cur i' te := by
  have hi : (i 0).val < 288 := (i 0).isLt
  have e : k0_off2 i = k0_off1 i' := by
    have e' : ∀ n : Fin 288, 0 < n.val → (Scalar.indexCast (Scalar.maxsi (Scalar.subi (BitVec.ofNat 32 n.val) 1#32) 0#32) : Index)
        = BitVec.ofNat 32 (n.val - 1) := by decide +kernel
    unfold k0_off2 k0_off1
    show ![BitVec.toNat _] = ![BitVec.toNat _]
    rw [e' ⟨(i 0).val, hi⟩ (by show 0 < (i 0).val; omega)]
    show ![(BitVec.ofNat 32 ((i 0).val - 1)).toNat] = _
    rw [show (i 0).val - 1 = (i' 0).val by omega]
    rfl
  unfold prev cur
  refine congrArg te (funext fun a => Fin.ext ?_)
  exact congrArg (fun o : Fin 1 → ℕ => o a + 1 * 0) e

/-- Window 5 is written at every point. -/
theorem not_idle (hO : Ok m) (i : grid0.Coords) : (cfgM m hO).idle 5 i = false := by
  have key : ∀ v, (!(k0_cond2 i v == 1#1) && !(k0_cond3 i v == 1#1)) = false := fun v => by
    by_cases h2 : k0_cond2 i v = 1#1
    · rw [h2]; rfl
    · rw [(cond3_iff i v).mpr h2]; exact Bool.and_false _
  exact key _

/-- Between two points of one expert the weight blocks are the same. -/
theorem kept (hO : Ok m) (c : Dev nD) (t t' : Fin (cfgM m hO).N) (ht : t'.val + 1 = t.val)
    (h : cur ((cfgM m hO).grid.coords t) (experts m) = prev ((cfgM m hO).grid.coords t) (experts m)) :
    iblk m hO c 1 t = iblk m hO c 1 t' ∧ iblk m hO c 3 t = iblk m hO c 3 t' := by
  have e : cur ((cfgM m hO).grid.coords t) (experts m) = cur ((cfgM m hO).grid.coords t') (experts m) :=
    h.trans (prev_eq_cur _ _ (by rw [coords_val, coords_val]; exact ht) _)
  constructor
  · exact (dats m hO 0 c).fetched_congr 1 (t := t) (t' := t') (congrArg (fun v : BitVec 32 => ![v.toNat, 0, 0]) e) rfl (fun _ => Classical.arbitrary _)
  · exact (dats m hO 0 c).fetched_congr 3 (t := t) (t' := t') (congrArg (fun v : BitVec 32 => ![v.toNat, 0, 0]) e) rfl (fun _ => Classical.arbitrary _)

/-! ## The body at every point -/

theorem row (hO : Ok m) (t : Fin (cfgM m hO).N) (s) :
    defs₀ (F := F) .tc (cfgM m hO).body ((cfgM m hO).bodyArgs t s)
      = cc0_moe_experts (grid0.coords t) (Memref.whole main_arg0) (Memref.isWhole_whole _) (Memref.whole main_arg1) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole cc0_scratch0) (Memref.isWhole_whole _) (Memref.whole cc0_scratch1) (Memref.isWhole_whole _) := by
  unfold defs₀; rw [Defs.onTc_tc]

/-- Before a point the caches hold its own expert's weights, wherever they are not about to be written. -/
theorem cached (hO : Ok m) (c : Dev nD) (t : Fin (cfgM m hO).N) (s0 : Vec F S1024x2048 .bf16) (s1 : Vec F S1024x1024 .bf16)
    (hs : ∀ t' : Fin (cfgM m hO).N, t'.val + 1 = t.val → s0 = k0_pay1 (iblk m hO c 1 t') ∧ s1 = k0_pay2 (iblk m hO c 3 t'))
    (h : ¬ reload (grid0.coords t) (experts m) = 1#1) :
    s0 = k0_pay1 (iblk m hO c 1 t) ∧ s1 = k0_pay2 (iblk m hO c 3 t) := by
  rw [reload_iff, not_or, not_not, coords_val] at h
  have hp : t.val - 1 + 1 = t.val := Nat.sub_add_cancel (Nat.pos_of_ne_zero h.1)
  have k := kept m hO c t ⟨t.val - 1, Nat.lt_of_le_of_lt (Nat.sub_le _ _) t.isLt⟩ hp h.2
  rw [k.1, k.2]
  exact hs _ hp

/-- One point of the pipeline, over any whole buffers: from the caches as the point before left them to the caches and the
    output block as this one leaves them. -/
theorem point (hO : Ok m) (c : Dev nD) (t : Fin (cfgM m hO).N) (O : sProp 𝕄)
    (arg3 : Memref sig .tc .vmem S4096x128 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S4096x128 .f32) (harg8 : arg8.IsWhole)
    {D0 D1 D2 D3 D4 D5 : Type} (y0 : D0 → Vec F S4096x128 .f32) (y1 : D1 → Vec F S1x1024x2048 .f32) (y2 : D2 → Vec F S1x1x2048 .f32)
    (y3 : D3 → Vec F S1x1024x1024 .f32) (y4 : D4 → Vec F S1x1x1024 .f32) (y5 : D5 → Vec F S4096x128 .f32)
    (h0 : ∀ d, y0 d = iblk m hO c 0 t) (h1 : ∀ d, y1 d = iblk m hO c 1 t) (h2 : ∀ d, y2 d = iblk m hO c 2 t)
    (h3 : ∀ d, y3 d = iblk m hO c 3 t) (h4 : ∀ d, y4 d = iblk m hO c 4 t) :
    iprop(carried m hO c t.val ∗ O ∗ (∃ d, owns (c : Thread nD τ) arg3 fullShare (y0 d)) ∗ (∃ d, owns (c : Thread nD τ) arg4 fullShare (y1 d))
        ∗ (∃ d, owns (c : Thread nD τ) arg5 fullShare (y2 d)) ∗ (∃ d, owns (c : Thread nD τ) arg6 fullShare (y3 d))
        ∗ (∃ d, owns (c : Thread nD τ) arg7 fullShare (y4 d)) ∗ (∃ d, owns (c : Thread nD τ) arg8 fullShare (y5 d)))
      ⊢ wp frame (wpE (defs₀ (F := F)) Variants.none c none) Set.univ
          (cc0_moe_experts (grid0.coords t) (Memref.whole main_arg0) (Memref.isWhole_whole _) (Memref.whole main_arg1) (Memref.isWhole_whole _)
            arg3 harg3 arg4 harg4 arg5 harg5 arg6 harg6 arg7 harg7 arg8 harg8
            (Memref.whole cc0_scratch0) (Memref.isWhole_whole _) (Memref.whole cc0_scratch1) (Memref.isWhole_whole _))
          fun _ => iprop(carried m hO c (t.val + 1) ∗ O ∗ owns (c : Thread nD τ) arg3 fullShare (iblk m hO c 0 t : Vec F S4096x128 .f32)
            ∗ owns (c : Thread nD τ) arg4 fullShare (iblk m hO c 1 t : Vec F S1x1024x2048 .f32)
            ∗ owns (c : Thread nD τ) arg5 fullShare (iblk m hO c 2 t : Vec F S1x1x2048 .f32)
            ∗ owns (c : Thread nD τ) arg6 fullShare (iblk m hO c 3 t : Vec F S1x1024x1024 .f32)
            ∗ owns (c : Thread nD τ) arg7 fullShare (iblk m hO c 4 t : Vec F S1x1x1024 .f32)
            ∗ owns (c : Thread nD τ) arg8 fullShare (res m hO c t)) := by
  simp only [h0, h1, h2, h3, h4]
  unfold carried caches
  iintro ⟨⟨⟨%s0, %s1, %hs, H9, H10⟩, Hr, H1, H2⟩, HO, ⟨%d0, W0⟩, ⟨%d1, W1⟩, ⟨%d2, W2⟩, ⟨%d3, W3⟩, ⟨%d4, W4⟩, ⟨%d5, W5⟩⟩
  have hk := cached m hO c t s0 s1 hs
  iapply (sound_body c fullShare.right (grid0.coords t) (Memref.whole main_arg0) (Memref.isWhole_whole _) (Memref.whole main_arg1) (Memref.isWhole_whole _)
    arg3 harg3 arg4 harg4 arg5 harg5 arg6 harg6 arg7 harg7 arg8 harg8
    (Memref.whole cc0_scratch0) (Memref.isWhole_whole _) (Memref.whole cc0_scratch1) (Memref.isWhole_whole _)
    (experts m) (count m) (iblk m hO c 0 t) (iblk m hO c 1 t) (iblk m hO c 2 t) (iblk m hO c 3 t) (iblk m hO c 4 t) s0 s1
    (fun h => (hk h).1) (fun h => (hk h).2) _)
  isplitl [H1]
  · iexact H1
  isplitl [H2]
  · iexact H2
  isplitl [W0]
  · iexact W0
  isplitl [W1]
  · iexact W1
  isplitl [W2]
  · iexact W2
  isplitl [W3]
  · iexact W3
  isplitl [W4]
  · iexact W4
  isplitl [W5]
  · iexists (y5 d5); iexact W5
  isplitl [H9]
  · iexact H9
  isplitl [H10]
  · iexact H10
  iintro ⟨H1, H2, W0, W1, W2, W3, W4, W5, H9, H10⟩
  isplitl [H1 H2 H9 H10 Hr]
  · isplitl [H9 H10]
    · iexists (k0_pay1 (iblk m hO c 1 t)); iexists (k0_pay2 (iblk m hO c 3 t))
      isplitr
      · ipureintro
        intro t' h
        obtain rfl : t' = t := Fin.ext (Nat.succ.inj h)
        exact ⟨rfl, rfl⟩
      isplitl [H9]
      · iexact H9
      iexact H10
    isplitl [Hr]
    · iexact Hr
    isplitl [H1]
    · iexact H1
    iexact H2
  isplitl [HO]
  · iexact HO
  isplitl [W0]
  · iexact W0
  isplitl [W1]
  · iexact W1
  isplitl [W2]
  · iexact W2
  isplitl [W3]
  · iexact W3
  isplitl [W4]
  · iexact W4
  iexact W5

/-- Where every window is written at every point, the body is to leave each buffer at what the point leaves. -/
theorem obligation_of_live {cfg : Cfg sig Λ₀} {c : Dev nD} (dat : Dat τ (Elt F) Unit ℕ (UR sig nD τ) ℕ cfg c)
    (hi : ∀ w i, cfg.idle w i = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat defs₀ Variants.none () Set.univ := fun t => by
  simp only [hi]
  exact h t

/-- Every window is written at every point. -/
theorem no_idle (hO : Ok m) : ∀ (w : Fin 6) (i : grid0.Coords), (cfgM m hO).idle w i = false
  | 0, _ => rfl
  | 1, _ => rfl
  | 2, _ => rfl
  | 3, _ => rfl
  | 4, _ => rfl
  | 5, i => not_idle m hO i
  | ⟨_ + 6, h⟩, _ => absurd h (Nat.not_lt.2 (Nat.le_add_left _ _))

set_option maxHeartbeats 4000000 in
theorem obligation (hO : Ok m) (c : Dev nD) :
    BodyObligation (dats m hO 0 c) defs₀ Variants.none () Set.univ := obligation_of_live _ (no_idle m hO) fun t => by
  rw [bigSep_W0, bigSep_W0, row]
  refine triple_restated (point m hO c t ((dats m hO 0 c).owesAt () t.castSucc) _ (hstage0_0 _) _ (hstage0_1 _) _ (hstage0_2 _) _ (hstage0_3 _)
    _ (hstage0_4 _) _ (hstage0_5 _) (fun d => (dats m hO 0 c).before 0 t d) (fun d => (dats m hO 0 c).before 1 t d)
    (fun d => (dats m hO 0 c).before 2 t d) (fun d => (dats m hO 0 c).before 3 t d) (fun d => (dats m hO 0 c).before 4 t d)
    (fun d => (dats m hO 0 c).before 5 t d) (before_0 m hO c t) (before_1 m hO c t) (before_2 m hO c t) (before_3 m hO c t)
    (before_4 m hO c t)) rfl .rfl fun _ => ?_
  refine sep_mono .rfl (sep_mono .rfl (sep_mono .rfl (sep_mono .rfl (sep_mono .rfl (sep_mono .rfl (sep_mono .rfl ?_))))))
  exact BIBase.Entails.of_eq rfl

/-! ## The run -/

/-- The launch's holdings enter the tracking, -/
theorem enter (hO : Ok m) (c : Dev nD) :
    iprop(Pipeline.ΦA spec0 c ∗ Pipeline.ΦT pre0 (tbl m) c) ⊢ (carried m hO c 0 : sProp 𝕄) := by
  rw [PhiT_eq]
  unfold Pipeline.ΦA carried caches
  rw [scopedRest0_eq]
  iintro ⟨⟨⟨⟨%f0, H0⟩, ⟨%f1, H1⟩⟩, Hr⟩, HT⟩
  isplitl [H0 H1]
  · iexists f0; iexists f1
    isplitr
    · ipureintro
      intro t h
      exact absurd h (Nat.succ_ne_zero _)
    rw [owns_whole, owns_whole]
    isplitl [H0]
    · iexact H0
    iexact H1
  isplitl [Hr]
  · iexact Hr
  iexact HT

/-- and it leaves them at the end. -/
theorem leave (hO : Ok m) (c : Dev nD) (n : ℕ) :
    carried m hO c n ⊢ (Pipeline.ΦA spec0 c : sProp 𝕄) := by
  unfold Pipeline.ΦA carried caches
  rw [scopedRest0_eq]
  simp only [owns_whole]
  iintro ⟨⟨%f0, %f1, -, H0, H1⟩, Hr, -⟩
  isplitl [H0 H1]
  · isplitl [H0]
    · iexists f0; iexact H0
    iexists f1; iexact H1
  iexact Hr

/-- From any memory whose tables the side condition admits, every execution of `main` ends with the output array as
    the points write it and everything else as it was. -/
theorem run (hO : Ok m) (g : Dev nD → PrngReg) :
    θ_run defs (onTc (τ := τ) (main (F := F))) ⟨m, fun _ => 0, g⟩ fun r =>
      Pipeline.FramePost (Pipeline.pin (pcfgs (F := F)) (adms m hO)) (dats m hO) 0 (V m) r ∧ r.2.sem = fun _ => 0 :=
  Pipeline.θ_run_frameP_track pcfgs (adms m hO) (dats m hO) 0 launch0 defs₀ Variants.none m g main
    (fun c => (obligation m hO c).loose) (fun c w => by unfold Dat.share; exact ite_self _) (fun c t => rfl) (V m) (hmain m Variants.none)
    (fun _ _ => rfl) (fun c k => V_pre m c k)
    (fun c => enter m hO c) (fun c => leave m hO c _) (Q' := _) (fun _ h => h)

end Cert.KernelIdeal.Experts

end
-- ==== Proof.Ends.lean ====
/- The frame of the expert call: from tables that name experts and use at least one block, every execution ends with the
   arguments as they were and the output array as the points write it. -/
module

public import proofs.«01_k».proof.Proof.Run
public import Idealize.ShloMosaic.Lib.WordArith

@[expose] public section

set_option maxRecDepth 16384

noncomputable section

namespace Cert.KernelIdeal.Experts

open Cert.KernelIdeal.Gen
open Idealize.ShloMosaic
open Idealize.ShloMosaic.TcCoe
open Idealize.SL.Sem

variable {F : FTy → Type} [FloatOps F]

variable (m : (ℓ : Loc nD τ sig) → Buf (Elt F) ℓ)

/-- The tables are the first two arguments. -/
theorem experts_eq : experts m = m (((0 : Dev nD) : Thread nD τ).loc main_arg0) := V_of_unwritten m 0 main_arg0 (by decide)
theorem count_eq : count m = m (((0 : Dev nD) : Thread nD τ).loc main_arg1) := V_of_unwritten m 0 main_arg1 (by decide)

/-- What the proofs need of the tables. -/
structure Good (te : Vec F S288 .i32) (nu : Vec F S1 .i32) : Prop where
  experts : ∀ i, (te i : BitVec 32).toNat < 32
  count : ∀ j, 1 ≤ (nu j : BitVec 32).toInt

/-- The row block a point reads: its own, or the last one in use. -/
theorem row_block (n : ℕ) (hn : n < 288) (v : BitVec 32) (hv : 1 ≤ v.toInt) :
    (Scalar.minsi (BitVec.ofNat 32 n) (Scalar.subi v 1#32)).toNat = min n (v.toNat - 1) := by
  have e := BitVec.toInt_eq_toNat_cond v
  have hb := v.isLt
  have h1 : v.toNat < 2 ^ 31 ∧ 1 ≤ v.toNat := by split at e <;> omega
  have hs : (Scalar.subi v 1#32).toNat = v.toNat - 1 := by
    show (v - 1#32).toNat = _
    rw [BitVec.toNat_sub_of_le (by rw [BitVec.le_def]; exact h1.2)]
    rfl
  have hi : (BitVec.ofNat 32 n).toNat = n := by rw [BitVec.toNat_ofNat]; omega
  show (IntOp.minsi _ _).toNat = _
  rw [WordArith.toNat_minsi_of_lt _ _ (by omega) (by omega), hi, hs]

/-- The side condition holds of such tables. -/
theorem ok_of (h : Good (experts m) (count m)) : Ok m := by
  have hc : ∀ i : grid0.Coords, (cur i (experts m)).toNat < 32 := fun i => h.experts _
  have hu : 1 ≤ (used (count m)).toInt := h.count _
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · have hi : (i 0).val < 288 := (i 0).isLt
    have := row_block (i 0).val hi (used (count m)) hu
    match a with
    | ⟨0, _⟩ =>
      show ((Scalar.minsi (BitVec.ofNat 32 (i 0).val) (Scalar.subi (used (count m)) 1#32)).toNat + 1) * 4096 ≤ 1179648
      omega
    | ⟨1, _⟩ => show (0 + 1) * 128 ≤ 128; omega
  all_goals
    have := hc i
    match a with
    | ⟨0, _⟩ => show ((cur i (experts m)).toNat + 1) * 1 ≤ 32; omega
    | ⟨1, _⟩ => exact Nat.le_of_eq (Nat.one_mul _)
    | ⟨2, _⟩ => exact Nat.le_of_eq (Nat.one_mul _)

/-- The end of a run: the arguments unchanged, the output array as the points write it, no semaphore raised. -/
theorem ends (h : Good (experts m) (count m)) (g : Dev nD → PrngReg) :
    θ_run defs (onTc (τ := τ) (main (F := F))) ⟨m, fun _ => 0, g⟩ fun r =>
      (∀ c : Dev nD, r.2.mem ((c : Thread nD τ).loc main_v2) = (dats m (ok_of m h) 0 c).arrAt 5 (cfgM m (ok_of m h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 := by
  refine (θ_run defs _ _).mono ?_ (run m (ok_of m h) g)
  intro r hr
  refine ⟨fun c => ?_, hr.2⟩
  obtain ⟨hw, hb⟩ := hr.1 c
  have rest : ∀ b, b ∈ Pipeline.restRefs sig spec0 → b ∉ hostOps0_W → r.2.mem ((c.tc : Thread nD τ).loc b) = m ((c.tc : Thread nD τ).loc b) :=
    fun b h1 h2 => (hb b h1).trans (V_of_unwritten m c b h2)
  refine ⟨hw 5, rest _ (by decide) (by decide), rest _ (by decide) (by decide), ?_, ?_, rest _ (by decide) (by decide), ?_,
    rest _ (by decide) (by decide)⟩
  · exact (hw 0).trans (((dats m (ok_of m h) 0 c).arrAt_in 0 rfl _).trans (V_of_unwritten m c main_arg2 (by decide)))
  · exact (hw 1).trans (((dats m (ok_of m h) 0 c).arrAt_in 1 rfl _).trans (V_of_unwritten m c main_arg3 (by decide)))
  · exact (hw 3).trans (((dats m (ok_of m h) 0 c).arrAt_in 3 rfl _).trans (V_of_unwritten m c main_arg5 (by decide)))

end Cert.KernelIdeal.Experts

end
-- ==== Proof.Tables.lean ====
/- What the precondition says of the two tables: every entry of the expert table, read as a natural number, names one of
   the 32 experts, and at least one token block is in use. -/
module

public import proofs.«01_k».proof.Proof.Gen.Pre_tables
public import Idealize.ShloMosaic.Lib.ReduceAll
public import Idealize.ShloMosaic.Lib.WordCmp
public import Idealize.ShloMosaic.Lib.ValueIdxCore

@[expose] public section

noncomputable section

namespace Cert.Tables

open Idealize.ShloMosaic Idealize.ShloMosaic.ValueIdx Idealize.ShloMosaic.WordCmp
open Cert.Pre_tables

variable {F : FTy → Type} [FloatOps F] [Facts]

/-- The precondition, decoded. -/
theorem of_pre (te : IVec S288 32) (nu : IVec S1 32) (a2 : FVec F S1179648x128 .f32) (a3 : FVec F S32x1024x2048 .f32)
    (a4 : FVec F S32x2048 .f32) (a5 : FVec F S32x1024x1024 .f32) (a6 : FVec F S32x1024 .f32)
    (h : fn te nu a2 a3 a4 a5 a6 = fun _ => 1#1) :
    (∀ i, (te i).toNat < 32) ∧ ∀ j, 1 ≤ (nu j).toInt := by
  have h0 : IntOp.andi _ _ = 1#1 := congrFun h (fun a => a.elim0)
  obtain ⟨ht, hn⟩ := IntOp.andi_eq_one.mp h0
  constructor
  · intro i
    have hi : IntOp.andi (IntOp.cmpi .sge (te i) 0#32) (IntOp.cmpi .slt (te i) (BitVec.ofNat 32 32)) = 1#1 :=
      Host.reduce_andi_all (t := S_) _ _ _ _ _ ht i
    rw [andi_sge_zero_slt_ofNat (by decide), ofBool_decide_eq_one_iff] at hi
    exact hi
  · intro j
    have hj : IntOp.cmpi .sge (nu _) 1#32 = 1#1 := hn
    rw [cmpi_sge_eq, ofBool_decide_eq_one_iff] at hj
    have e : ∀ x y : S1.Idx, x = y := fun x y => funext fun a => Fin.ext (by
      match a with
      | ⟨0, _⟩ => exact (Nat.lt_one_iff.mp (x 0).isLt).trans (Nat.lt_one_iff.mp (y 0).isLt).symm)
    rw [e j]
    exact hj

end Cert.Tables

end
-- ==== Proof.Frames.lean ====
/-
# The runs

Each program runs to its end, leaves its arguments as they were and raises no semaphore: the two readings of the kernel from the
grid's run, under the precondition's two facts about the tables, the plain program from its straight line of host operations.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tables
public import proofs.«01_k».proof.Proof.Ends
public import proofs.«01_k».proof.Proof.Bits.Ends
public import proofs.«01_k».proof.Proof.Tables
public import Idealize.ShloMosaic.Lib.Quiescent

@[expose] public section

noncomputable section

namespace Cert.Frames

open Idealize.ShloMosaic Idealize.ShloMosaic.TcCoe Idealize.SL.Sem

/-- The precondition makes the tables good, floats as bits. -/
theorem good_bits (m : (ℓ : Loc Cert.Kernel.nD Cert.Kernel.τ Cert.Kernel.sig) → Buf (Elt Bits) ℓ) (h : Cert.Pre_Kernel m) :
    Cert.Kernel.Experts.Good (Cert.Kernel.Experts.experts m) (Cert.Kernel.Experts.count m) := by
  obtain ⟨ht, hn⟩ := Cert.Tables.of_pre _ _ _ _ _ _ _ (h 0)
  exact ⟨fun i => by rw [Cert.Kernel.Experts.experts_eq]; exact ht i, fun j => by rw [Cert.Kernel.Experts.count_eq]; exact hn j⟩

/-- The precondition makes the tables good, floats as extended reals. -/
theorem good (m : (ℓ : Loc Cert.KernelIdeal.nD Cert.KernelIdeal.τ Cert.KernelIdeal.sig) → Buf (Elt Ideal) ℓ)
    (h : Cert.Pre_KernelIdeal m) :
    Cert.KernelIdeal.Experts.Good (Cert.KernelIdeal.Experts.experts m) (Cert.KernelIdeal.Experts.count m) := by
  obtain ⟨ht, hn⟩ := Cert.Tables.of_pre _ _ _ _ _ _ _ (h 0)
  exact ⟨fun i => by rw [Cert.KernelIdeal.Experts.experts_eq]; exact ht i,
    fun j => by rw [Cert.KernelIdeal.Experts.count_eq]; exact hn j⟩

theorem kernel_bits : Cert.quiescent_Kernel := fun m g h =>
  (θ_run Cert.Kernel.defs _ _).mono (fun _ hr => ⟨fun c => (hr.1 c).2, hr.2⟩) (Cert.Kernel.Experts.ends m (good_bits m h) g)

theorem kernel : Cert.quiescent_KernelIdeal := fun m g h =>
  (θ_run Cert.KernelIdeal.defs _ _).mono (fun _ hr => ⟨fun c => (hr.1 c).2, hr.2⟩) (Cert.KernelIdeal.Experts.ends m (good m h) g)

theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem reference_pre : Cert.quiescent_ReferenceIdeal_pre_tables := fun m g _ => reference m g trivial

end Cert.Frames

end
-- ==== Proof.Spec.lean ====
/-
# What an expert computes

One expert applied to one token over the extended reals: a product with the first weights and a bias, the clamped gated
activation, a product with the second weights and a bias. Both programs are read down to these sums, and `result` says which
expert a row of the output belongs to and which rows are zero.
-/
module

public import Idealize.ShloMosaic.Lib.Pointwise

@[expose] public section

noncomputable section

namespace Cert.Spec

open Idealize.ShloMosaic

/-- The first product: lane `n` of the gate and up projections of token `x`. -/
def proj (x : Fin 1024 → EReal) (w : Fin 1024 → Fin 2048 → EReal) (b : Fin 2048 → EReal) (n : Fin 2048) : EReal :=
  ∑ k, x k * w k n + b n

/-- The clamped gated activation of a gate lane `g` and an up lane `u`. -/
def gated (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- Hidden lane `f`: the gate is lane `f` of the projections, the up half begins at lane 1024. -/
def hidden (x : Fin 1024 → EReal) (w : Fin 1024 → Fin 2048 → EReal) (b : Fin 2048 → EReal) (f : Fin 1024) : EReal :=
  gated (proj x w b ⟨f.val, by omega⟩) (proj x w b ⟨1024 + f.val, by omega⟩)

/-- Output lane `d` of one expert at one token. -/
def expert (x : Fin 1024 → EReal) (w : Fin 1024 → Fin 2048 → EReal) (b : Fin 2048 → EReal) (w2 : Fin 1024 → Fin 1024 → EReal)
    (b2 : Fin 1024 → EReal) (d : Fin 1024) : EReal :=
  ∑ f, hidden x w b f * w2 f d + b2 d

/-- Lane `k` of token `T`, the tokens stored as rows of 128 lanes, eight to a token. -/
def token (x : (⟨2, ![1179648, 128]⟩ : Shape).Idx → EReal) (T : Fin 147456) (k : Fin 1024) : EReal :=
  x (ix2 ⟨T.val * 8 + k.val / 128, by omega⟩ ⟨k.val % 128, by omega⟩)

/-- Expert `e` of the four stacked weights, at token `T`. -/
def at_expert (x : (⟨2, ![1179648, 128]⟩ : Shape).Idx → EReal) (w1 : (⟨3, ![32, 1024, 2048]⟩ : Shape).Idx → EReal)
    (b1 : (⟨2, ![32, 2048]⟩ : Shape).Idx → EReal) (w2 : (⟨3, ![32, 1024, 1024]⟩ : Shape).Idx → EReal)
    (b2 : (⟨2, ![32, 1024]⟩ : Shape).Idx → EReal) (T : Fin 147456) (e : Fin 32) (d : Fin 1024) : EReal :=
  expert (token x T) (fun k n => w1 (ix3 e k n)) (fun n => b1 (ix2 e n)) (fun f d => w2 (ix3 e f d)) (fun d => b2 (ix2 e d)) d

/-- Token `T`'s output: its block's expert if the block is in use, else zero. -/
def row (te : (⟨1, ![288]⟩ : Shape).Idx → BitVec 32) (ht : ∀ i, (te i).toNat < 32) (nu : BitVec 32)
    (x : (⟨2, ![1179648, 128]⟩ : Shape).Idx → EReal) (w1 : (⟨3, ![32, 1024, 2048]⟩ : Shape).Idx → EReal)
    (b1 : (⟨2, ![32, 2048]⟩ : Shape).Idx → EReal) (w2 : (⟨3, ![32, 1024, 1024]⟩ : Shape).Idx → EReal)
    (b2 : (⟨2, ![32, 1024]⟩ : Shape).Idx → EReal) (T : Fin 147456) (d : Fin 1024) : EReal :=
  if (BitVec.ofNat 32 (T.val / 512)).toInt < nu.toInt then
    at_expert x w1 b1 w2 b2 T ⟨(te (ix1 ⟨T.val / 512, by omega⟩)).toNat, ht _⟩ d
  else 0

/-- The whole output, stored as the tokens are. -/
def result (te : (⟨1, ![288]⟩ : Shape).Idx → BitVec 32) (ht : ∀ i, (te i).toNat < 32) (nu : BitVec 32)
    (x : (⟨2, ![1179648, 128]⟩ : Shape).Idx → EReal) (w1 : (⟨3, ![32, 1024, 2048]⟩ : Shape).Idx → EReal)
    (b1 : (⟨2, ![32, 2048]⟩ : Shape).Idx → EReal) (w2 : (⟨3, ![32, 1024, 1024]⟩ : Shape).Idx → EReal)
    (b2 : (⟨2, ![32, 1024]⟩ : Shape).Idx → EReal) : (⟨2, ![1179648, 128]⟩ : Shape).Idx → EReal := fun j =>
  row te ht nu x w1 b1 w2 b2 ⟨(j 0).val / 8, by have : (j 0).val < 1179648 := (j 0).isLt; omega⟩
    ⟨(j 0).val % 8 * 128 + (j 1).val, by have : (j 1).val < 128 := (j 1).isLt; omega⟩

end Cert.Spec

end
-- ==== Proof.Plain.lean ====
/-
# The plain program's result

The plain program multiplies every token by every expert and keeps one of them. Its straight line of operations is cut into five
parts (`projs`, `gates`, `outs`, `picks`, `whole`), each read at an index; the sum over the experts then has at most one term, and
the result is `Cert.Spec.result`.
-/
module

public import proofs.«01_k».proof.Proof.Spec
public import proofs.«01_k».proof.Proof.Gen.ReferenceIdeal
public import Idealize.ShloMosaic.Lib.WordCmp

@[expose] public section

set_option maxRecDepth 16384

noncomputable section

namespace Cert.ReferenceIdeal.Experts

open Idealize.ShloMosaic Cert.ReferenceIdeal.Gen

variable [Facts]

open Facts

def projs (x : FVec Ideal S1179648x128 .f32) (w : FVec Ideal S32x1024x2048 .f32) (b : FVec Ideal S32x2048 .f32) : FVec Ideal S147456x32x2048 .f32 :=
  addf (Host.dotGeneral dot_S147456x1024_S32x1024x2048_S147456x32x2048_1_1_0_02_n_n none (shapeCast _ x shapeCasts_S1179648x128_S147456x1024) w) (broadcastInDim S147456x32x2048 ![0, 1, 2] bcast_S1x32x2048_S147456x32x2048_0_1_2 (broadcastInDim S1x32x2048 ![1, 2] bcast_S32x2048_S1x32x2048_1_2 b))

theorem projs_at (x : FVec Ideal S1179648x128 .f32) (w : FVec Ideal S32x1024x2048 .f32) (b : FVec Ideal S32x2048 .f32) (T : Fin 147456) (e : Fin 32) (n : Fin 2048) :
    projs x w b (ix3 T e n) = Cert.Spec.proj (Cert.Spec.token x T) (fun k n => w (ix3 e k n)) (fun n => b (ix2 e n)) n := by
  pointwise [projs, Cert.Spec.proj, Cert.Spec.token]

def gates (p : FVec Ideal S147456x32x2048 .f32) : FVec Ideal S147456x32x1024 .f32 :=
  mulf (mulf (minimumf (extractStridedSlice S147456x32x1024 ![0, 0, 0] p slices_S147456x32x2048_S147456x32x1024_0_0_0) (broadcastInDim S147456x32x1024 ![] bcast_S_S147456x32x1024 (constant S_ .f32 0x40E00000#32))) (Host.divf (broadcastInDim S147456x32x1024 ![] bcast_S_S147456x32x1024 (constant S_ .f32 0x3F800000#32)) (addf (broadcastInDim S147456x32x1024 ![] bcast_S_S147456x32x1024 (constant S_ .f32 0x3F800000#32)) (Host.exp (Host.negf (mulf (broadcastInDim S147456x32x1024 ![] bcast_S_S147456x32x1024 (constant S_ .f32 0x3FD9DB23#32)) (minimumf (extractStridedSlice S147456x32x1024 ![0, 0, 0] p slices_S147456x32x2048_S147456x32x1024_0_0_0) (broadcastInDim S147456x32x1024 ![] bcast_S_S147456x32x1024 (constant S_ .f32 0x40E00000#32))))))))) (addf (minimumf (broadcastInDim S147456x32x1024 ![] bcast_S_S147456x32x1024 (id (constant S_ .f32 0x40E00000#32))) (maximumf (broadcastInDim S147456x32x1024 ![] bcast_S_S147456x32x1024 (id (constant S_ .f32 0xC0E00000#32))) (extractStridedSlice S147456x32x1024 ![0, 0, 1024] p slices_S147456x32x2048_S147456x32x1024_0_0_1024))) (broadcastInDim S147456x32x1024 ![] bcast_S_S147456x32x1024 (constant S_ .f32 0x3F800000#32)))

theorem gates_at (p : FVec Ideal S147456x32x2048 .f32) (T : Fin 147456) (e : Fin 32) (f : Fin 1024) :
    gates p (ix3 T e f) = Cert.Spec.gated (p (ix3 T e ⟨f.val, by omega⟩)) (p (ix3 T e ⟨1024 + f.val, by omega⟩)) := by
  pointwise [gates, Cert.Spec.gated]
  rfl

def outs (h : FVec Ideal S147456x32x1024 .f32) (w2 : FVec Ideal S32x1024x1024 .f32) (b2 : FVec Ideal S32x1024 .f32) : FVec Ideal S147456x32x1024 .f32 :=
  addf (transpose S147456x32x1024 [2, 0, 1] (Host.dotGeneral dot_S32x1024x1024_S147456x32x1024_S32x1024x147456_1_2_2_0_0_1 none w2 h) transposes_S32x1024x147456_S147456x32x1024_2_0_1) (broadcastInDim S147456x32x1024 ![0, 1, 2] bcast_S1x32x1024_S147456x32x1024_0_1_2 (broadcastInDim S1x32x1024 ![1, 2] bcast_S32x1024_S1x32x1024_1_2 b2))

theorem outs_at (h : FVec Ideal S147456x32x1024 .f32) (w2 : FVec Ideal S32x1024x1024 .f32) (b2 : FVec Ideal S32x1024 .f32) (T : Fin 147456) (e : Fin 32) (d : Fin 1024) :
    outs h w2 b2 (ix3 T e d) = ∑ f, h (ix3 T e f) * w2 (ix3 e f d) + b2 (ix2 e d) := by
  pointwise [outs]
  exact congrArg (· + b2 (ix2 e d)) (Finset.sum_congr rfl fun f _ => mul_comm (G := EReal) _ _)

def picks (te : IVec S288 32) (nu : IVec S1 32) : FVec Ideal S147456x32 .f32 :=
  select (broadcastInDim S147456x32 ![0, 1] bcast_S147456x1_S147456x32_0_1 (broadcastInDim S147456x1 ![0] bcast_S147456_S147456x1_0 (shapeCast _ (broadcastInDim S288x512 ![0] bcast_S288_S288x512_0 (cmpi .slt (iotaInDim S288 32 0) (broadcastInDim S288 ![] bcast_S_S288 (shapeCast _ nu shapeCasts_S1_S_)))) shapeCasts_S288x512_S147456))) (uitofp .f32 (cmpi .eq (broadcastInDim S147456x32 ![0, 1] bcast_S147456x1_S147456x32_0_1 (broadcastInDim S147456x1 ![0] bcast_S147456_S147456x1_0 (shapeCast _ (broadcastInDim S288x512 ![0] bcast_S288_S288x512_0 te) shapeCasts_S288x512_S147456))) (broadcastInDim S147456x32 ![0, 1] bcast_S1x32_S147456x32_0_1 (iotaInDim S1x32 32 1)))) (broadcastInDim S147456x32 ![] bcast_S_S147456x32 (id (constant S_ .f32 0x00000000#32)))

theorem picks_at (te : IVec S288 32) (nu : IVec S1 32) (T : Fin 147456) (e : Fin 32) :
    picks te nu (ix2 T e)
      = if (BitVec.ofNat 32 (T.val / 512)).toInt < (nu (ix1 0)).toInt ∧ te (ix1 ⟨T.val / 512, by omega⟩) = BitVec.ofNat 32 e.val then 1 else 0 := by
  pointwise [picks]
  rw [WordCmp.cmpi_slt_eq]
  have h0 : (id (constant S_ FTy.f32 0#32) ix0 : Ideal .f32) = 0 := Ideal.ofBits_zero_f32
  rw [h0]
  by_cases h1 : (BitVec.ofNat 32 (T.val / 512)).toInt < (nu (ix1 0)).toInt
  · by_cases h2 : te (ix1 ⟨T.val / 512, by omega⟩) = BitVec.ofNat 32 e.val
    · have e1 : (FloatOps.uitofp FTy.f32 (1#1 : BitVec 1) : Ideal .f32) = 1 := by
        show (((1#1 : BitVec 1).toNat : ℝ) : EReal) = 1
        norm_num
      simp [h1, h2, Scalar.select, IntOp.cmpi]
      exact e1
    · have e0 : (FloatOps.uitofp FTy.f32 (0#1 : BitVec 1) : Ideal .f32) = 0 := by
        show (((0#1 : BitVec 1).toNat : ℝ) : EReal) = 0
        norm_num
      have hb : (te (ix1 ⟨T.val / 512, by omega⟩) == BitVec.ofNat 32 e.val) = false := beq_eq_false_iff_ne.mpr h2
      simp only [h1, h2, and_false, if_false, Scalar.select, IntOp.cmpi, hb]
      simpa using e0
  · simp [h1, Scalar.select]

def whole (c : FVec Ideal S147456x32 .f32) (y : FVec Ideal S147456x32x1024 .f32) : FVec Ideal S1179648x128 .f32 :=
  shapeCast _ (Host.dotGeneral dot_S147456x32_S147456x32x1024_S147456x1024_1_1_n_2_0_0 none c y) shapeCasts_S147456x1024_S1179648x128

theorem whole_at (c : FVec Ideal S147456x32 .f32) (y : FVec Ideal S147456x32x1024 .f32) (r : Fin 1179648) (l : Fin 128) :
    whole c y (ix2 r l)
      = ∑ e : Fin 32, c (ix2 ⟨r.val / 8, by omega⟩ e) * y (ix3 ⟨r.val / 8, by omega⟩ e ⟨r.val % 8 * 128 + l.val, by omega⟩) := by
  pointwise [whole]
/-- The plain program's composed term is the specification, for tables whose experts are numbers below 32. -/
theorem whole_eq (te : IVec S288 32) (ht : ∀ i, (te i).toNat < 32) (nu : IVec S1 32) (x : FVec Ideal S1179648x128 .f32)
    (w : FVec Ideal S32x1024x2048 .f32) (b : FVec Ideal S32x2048 .f32) (w2 : FVec Ideal S32x1024x1024 .f32)
    (b2 : FVec Ideal S32x1024 .f32) :
    whole (picks te nu) (outs (gates (projs x w b)) w2 b2) = Cert.Spec.result te ht (nu (ix1 0)) x w b w2 b2 := by
  funext j
  obtain ⟨r, l, rfl⟩ : ∃ (r : Fin 1179648) (l : Fin 128), j = ix2 r l := ⟨j 0, j 1, eq_ix2 j⟩
  rw [whole_at]
  have hy : ∀ (T : Fin 147456) (e : Fin 32) (d : Fin 1024),
      outs (gates (projs x w b)) w2 b2 (ix3 T e d) = Cert.Spec.at_expert x w b w2 b2 T e d := fun T e d => by
    rw [outs_at]
    simp only [gates_at, projs_at]
    rfl
  simp only [hy, picks_at]
  show _ = Cert.Spec.row te ht (nu (ix1 0)) x w b w2 b2 ⟨r.val / 8, by omega⟩ ⟨r.val % 8 * 128 + l.val, by omega⟩
  unfold Cert.Spec.row
  by_cases h1 : (BitVec.ofNat 32 (r.val / 8 / 512)).toInt < (nu (ix1 0)).toInt
  · rw [if_pos h1, Finset.sum_eq_single ⟨(te (ix1 ⟨r.val / 8 / 512, by omega⟩)).toNat, ht _⟩]
    · rw [if_pos ⟨h1, by simp⟩, one_mul]
    · intro e _ he
      rw [if_neg (fun h => he (Fin.ext (by
        have h2 := congrArg BitVec.toNat h.2
        rw [BitVec.toNat_ofNat, Nat.mod_eq_of_lt (by omega)] at h2
        exact h2.symm))), zero_mul]
    · exact fun h => absurd (Finset.mem_univ _) h
  · rw [if_neg h1]
    refine Finset.sum_eq_zero fun e _ => ?_
    rw [if_neg (fun h => h1 h.1), zero_mul]

end Cert.ReferenceIdeal.Experts

end
-- ==== Proof.Blocks.lean ====
/-
# What a point fetches

Each fetched block at a row and a lane, in terms of `main`'s arguments: the token block is the rows at its block number, a weight
or bias block is the slice of the point's expert. The two biases pass through a reshape before the region.
-/
module

public import proofs.«01_k».proof.Proof.Ends
public import proofs.«01_k».proof.Proof.Spec

@[expose] public section

set_option maxRecDepth 16384

noncomputable section

namespace Cert.KernelIdeal.Experts

open Cert.KernelIdeal.Gen Idealize.ShloMosaic Idealize.ShloMosaic.TcCoe
open Idealize.ShloMosaic.Pipeline (Dat Cfg Window)

variable (m : (ℓ : Loc nD τ sig) → Buf (Elt Ideal) ℓ)

/-- The first bias as the region finds it. -/
theorem V_bias1 (c : Dev nD) (e : Fin 32) (n : Fin 2048) :
    (V m c main_v0 : FVec Ideal S32x1x2048 .f32) (ix3 e 0 n) = (m ((c : Thread nD τ).loc main_arg4) : FVec Ideal S32x2048 .f32) (ix2 e n) := by
  have h : (V m c main_v0 : FVec Ideal S32x1x2048 .f32) = shapeCast _ (m ((c : Thread nD τ).loc main_arg4) : FVec Ideal S32x2048 .f32) shapeCasts_S32x2048_S32x1x2048 := by
    unfold V hostOps0
    after_results
    rfl
  rw [h]
  pointwise

/-- The second bias as the region finds it. -/
theorem V_bias2 (c : Dev nD) (e : Fin 32) (n : Fin 1024) :
    (V m c main_v1 : FVec Ideal S32x1x1024 .f32) (ix3 e 0 n) = (m ((c : Thread nD τ).loc main_arg6) : FVec Ideal S32x1024 .f32) (ix2 e n) := by
  have h : (V m c main_v1 : FVec Ideal S32x1x1024 .f32) = shapeCast _ (m ((c : Thread nD τ).loc main_arg6) : FVec Ideal S32x1024 .f32) shapeCasts_S32x1024_S32x1x1024 := by
    unfold V hostOps0
    after_results
    rfl
  rw [h]
  pointwise

variable (hO : Ok m)

/-! ## A fetched element is the array's element under its block -/

theorem emb0 (t : Fin (cfgM m hO).N) (y : (((cfgM m hO).win 0).xblock ((cfgM m hO).grid.coords t)).Idx) (a : Fin 2) :
    (((((cfgM m hO).win 0).rect t).emb y a : Fin _) : ℕ) = ((cfgM m hO).win 0).index t a * ((cfgM m hO).win 0).size a + (y a : Fin _).val :=
  ((cfgM m hO).win 0).rect_emb_val t y a rfl

theorem read0 (c : Dev nD) (t : Fin (cfgM m hO).N) (y : (((cfgM m hO).win 0).xblock ((cfgM m hO).grid.coords t)).Idx) :
    iblk m hO c 0 t y = V m c main_arg2 ((((cfgM m hO).win 0).rect t).emb y) := rfl

theorem emb1 (t : Fin (cfgM m hO).N) (y : (((cfgM m hO).win 1).xblock ((cfgM m hO).grid.coords t)).Idx) (a : Fin 3) :
    (((((cfgM m hO).win 1).rect t).emb y a : Fin _) : ℕ) = ((cfgM m hO).win 1).index t a * ((cfgM m hO).win 1).size a + (y a : Fin _).val :=
  ((cfgM m hO).win 1).rect_emb_val t y a rfl

theorem read1 (c : Dev nD) (t : Fin (cfgM m hO).N) (y : (((cfgM m hO).win 1).xblock ((cfgM m hO).grid.coords t)).Idx) :
    iblk m hO c 1 t y = V m c main_arg3 ((((cfgM m hO).win 1).rect t).emb y) := rfl

theorem emb2 (t : Fin (cfgM m hO).N) (y : (((cfgM m hO).win 2).xblock ((cfgM m hO).grid.coords t)).Idx) (a : Fin 3) :
    (((((cfgM m hO).win 2).rect t).emb y a : Fin _) : ℕ) = ((cfgM m hO).win 2).index t a * ((cfgM m hO).win 2).size a + (y a : Fin _).val :=
  ((cfgM m hO).win 2).rect_emb_val t y a rfl

theorem read2 (c : Dev nD) (t : Fin (cfgM m hO).N) (y : (((cfgM m hO).win 2).xblock ((cfgM m hO).grid.coords t)).Idx) :
    iblk m hO c 2 t y = V m c main_v0 ((((cfgM m hO).win 2).rect t).emb y) := rfl

theorem emb3 (t : Fin (cfgM m hO).N) (y : (((cfgM m hO).win 3).xblock ((cfgM m hO).grid.coords t)).Idx) (a : Fin 3) :
    (((((cfgM m hO).win 3).rect t).emb y a : Fin _) : ℕ) = ((cfgM m hO).win 3).index t a * ((cfgM m hO).win 3).size a + (y a : Fin _).val :=
  ((cfgM m hO).win 3).rect_emb_val t y a rfl

theorem read3 (c : Dev nD) (t : Fin (cfgM m hO).N) (y : (((cfgM m hO).win 3).xblock ((cfgM m hO).grid.coords t)).Idx) :
    iblk m hO c 3 t y = V m c main_arg5 ((((cfgM m hO).win 3).rect t).emb y) := rfl

theorem emb4 (t : Fin (cfgM m hO).N) (y : (((cfgM m hO).win 4).xblock ((cfgM m hO).grid.coords t)).Idx) (a : Fin 3) :
    (((((cfgM m hO).win 4).rect t).emb y a : Fin _) : ℕ) = ((cfgM m hO).win 4).index t a * ((cfgM m hO).win 4).size a + (y a : Fin _).val :=
  ((cfgM m hO).win 4).rect_emb_val t y a rfl

theorem read4 (c : Dev nD) (t : Fin (cfgM m hO).N) (y : (((cfgM m hO).win 4).xblock ((cfgM m hO).grid.coords t)).Idx) :
    iblk m hO c 4 t y = V m c main_v1 ((((cfgM m hO).win 4).rect t).emb y) := rfl

/-! ## The blocks -/

/-- The token block at the block number its index map gives. -/
theorem blk0 (c : Dev nD) (t : Fin (cfgM m hO).N) (r : Fin 4096) (l : Fin 128) (i : ℕ) (h : i * 4096 + r.val < 1179648)
    (hi : cc0_transform_0 inb_S1_S1_0 numel1_S1 (tbl m) (grid0.coords t) 0 = i) :
    (iblk m hO c 0 t : S4096x128.Idx → EReal) (ix2 r l)
      = (m ((c : Thread nD τ).loc main_arg2) : S1179648x128.Idx → EReal) (ix2 ⟨i * 4096 + r.val, h⟩ l) := by
  rw [← V_of_unwritten m c main_arg2 (by decide)]
  refine (read0 m hO c t (ix2 r l)).trans (congrArg (V m c main_arg2 : S1179648x128.Idx → EReal) (funext fun a => Fin.ext ?_))
  refine (emb0 m hO t (ix2 r l) a).trans ?_
  match a with
  | ⟨0, _⟩ => exact congrArg (fun n => n * 4096 + r.val) hi
  | ⟨1, _⟩ => exact (show 0 * 128 + l.val = l.val by omega)

/-- The point's expert's first weights. -/
theorem blk1 (c : Dev nD) (t : Fin (cfgM m hO).N) (k : Fin 1024) (n : Fin 2048) (e : Fin 32)
    (he : (cur (grid0.coords t) (experts m)).toNat = e.val) :
    (iblk m hO c 1 t : S1x1024x2048.Idx → EReal) (ix3 0 k n) = (m ((c : Thread nD τ).loc main_arg3) : S32x1024x2048.Idx → EReal) (ix3 e k n) := by
  rw [← V_of_unwritten m c main_arg3 (by decide)]
  refine (read1 m hO c t (ix3 0 k n)).trans (congrArg (V m c main_arg3 : S32x1024x2048.Idx → EReal) (funext fun a => Fin.ext ?_))
  refine (emb1 m hO t (ix3 0 k n) a).trans ?_
  match a with
  | ⟨0, _⟩ => exact (show (cur (grid0.coords t) (experts m)).toNat * 1 + 0 = e.val by omega)
  | ⟨1, _⟩ => exact (show 0 * 1024 + k.val = k.val by omega)
  | ⟨2, _⟩ => exact (show 0 * 2048 + n.val = n.val by omega)

/-- The point's expert's first bias. -/
theorem blk2 (c : Dev nD) (t : Fin (cfgM m hO).N) (n : Fin 2048) (e : Fin 32)
    (he : (cur (grid0.coords t) (experts m)).toNat = e.val) :
    (iblk m hO c 2 t : S1x1x2048.Idx → EReal) (ix3 0 0 n) = (m ((c : Thread nD τ).loc main_arg4) : S32x2048.Idx → EReal) (ix2 e n) := by
  refine Eq.trans ?_ (V_bias1 m c e n)
  refine (read2 m hO c t (ix3 0 0 n)).trans (congrArg (V m c main_v0 : S32x1x2048.Idx → EReal) (funext fun a => Fin.ext ?_))
  refine (emb2 m hO t (ix3 0 0 n) a).trans ?_
  match a with
  | ⟨0, _⟩ => exact (show (cur (grid0.coords t) (experts m)).toNat * 1 + 0 = e.val by omega)
  | ⟨1, _⟩ => rfl
  | ⟨2, _⟩ => exact (show 0 * 2048 + n.val = n.val by omega)

/-- The point's expert's second weights. -/
theorem blk3 (c : Dev nD) (t : Fin (cfgM m hO).N) (k : Fin 1024) (n : Fin 1024) (e : Fin 32)
    (he : (cur (grid0.coords t) (experts m)).toNat = e.val) :
    (iblk m hO c 3 t : S1x1024x1024.Idx → EReal) (ix3 0 k n) = (m ((c : Thread nD τ).loc main_arg5) : S32x1024x1024.Idx → EReal) (ix3 e k n) := by
  rw [← V_of_unwritten m c main_arg5 (by decide)]
  refine (read3 m hO c t (ix3 0 k n)).trans (congrArg (V m c main_arg5 : S32x1024x1024.Idx → EReal) (funext fun a => Fin.ext ?_))
  refine (emb3 m hO t (ix3 0 k n) a).trans ?_
  match a with
  | ⟨0, _⟩ => exact (show (cur (grid0.coords t) (experts m)).toNat * 1 + 0 = e.val by omega)
  | ⟨1, _⟩ => exact (show 0 * 1024 + k.val = k.val by omega)
  | ⟨2, _⟩ => exact (show 0 * 1024 + n.val = n.val by omega)

/-- The point's expert's second bias. -/
theorem blk4 (c : Dev nD) (t : Fin (cfgM m hO).N) (n : Fin 1024) (e : Fin 32)
    (he : (cur (grid0.coords t) (experts m)).toNat = e.val) :
    (iblk m hO c 4 t : S1x1x1024.Idx → EReal) (ix3 0 0 n) = (m ((c : Thread nD τ).loc main_arg6) : S32x1024.Idx → EReal) (ix2 e n) := by
  refine Eq.trans ?_ (V_bias2 m c e n)
  refine (read4 m hO c t (ix3 0 0 n)).trans (congrArg (V m c main_v1 : S32x1x1024.Idx → EReal) (funext fun a => Fin.ext ?_))
  refine (emb4 m hO t (ix3 0 0 n) a).trans ?_
  match a with
  | ⟨0, _⟩ => exact (show (cur (grid0.coords t) (experts m)).toNat * 1 + 0 = e.val by omega)
  | ⟨1, _⟩ => rfl
  | ⟨2, _⟩ => exact (show 0 * 1024 + n.val = n.val by omega)

end Cert.KernelIdeal.Experts

end
-- ==== Proof.Tile.lean ====
/-
# A point's block over the extended reals

What `live` leaves at row `r`, lane `l` of a token block: the specification's expert at token `r / 8`, lane `128 * (r % 8) + l`,
of the token block and the four weight blocks at hand.
-/
module

public import proofs.«01_k».proof.Proof.Body
public import proofs.«01_k».proof.Proof.Spec

@[expose] public section

set_option maxRecDepth 16384

noncomputable section

namespace Cert.KernelIdeal.Experts

open Cert.KernelIdeal.Gen Idealize.ShloMosaic

/-- The eight pieces side by side are the tokens' rows. -/
theorem gathered (x : Vec Ideal S4096x128 .f32) (t : Fin 512) (k : Fin 1024) :
    concatenate (α := Ideal .f32) S512x1024 1 [⟨S512x128, pieces 0 x⟩, ⟨S512x128, pieces 1 x⟩, ⟨S512x128, pieces 2 x⟩, ⟨S512x128, pieces 3 x⟩, ⟨S512x128, pieces 4 x⟩, ⟨S512x128, pieces 5 x⟩, ⟨S512x128, pieces 6 x⟩, ⟨S512x128, pieces 7 x⟩] concatenates_S512x128_S512x128_S512x128_S512x128_S512x128_S512x128_S512x128_S512x128_S512x1024_d1 (ix2 t k)
      = x (ix2 ⟨t.val * 8 + k.val / 128, by omega⟩ ⟨k.val % 128, by omega⟩) := by
  pointwise
  have h : ∀ (s : Fin 8) (q : ℕ) (hq : q < 128), k.val = 128 * s.val + q →
      pieces s x (ix2 t ⟨q, hq⟩) = x (ix2 ⟨t.val * 8 + k.val / 128, by omega⟩ ⟨k.val % 128, by omega⟩) := fun s q hq e => by
    refine congrArg x (funext fun a => Fin.ext ?_)
    match a with
    | ⟨0, _⟩ => show 8 * t.val + s.val = t.val * 8 + k.val / 128; omega
    | ⟨1, _⟩ => show q = k.val % 128; omega
  have hk := k.isLt
  split
  · exact h 0 _ _ (by simp)
  split
  · exact h 1 _ _ (by simp; omega)
  split
  · exact h 2 _ _ (by simp; omega)
  split
  · exact h 3 _ _ (by simp; omega)
  split
  · exact h 4 _ _ (by simp; omega)
  split
  · exact h 5 _ _ (by simp; omega)
  split
  · exact h 6 _ _ (by simp; omega)
  · exact h 7 _ _ (by simp; omega)

/-- Token `t` of a block. -/
def tok (x : Vec Ideal S4096x128 .f32) (t : Fin 512) (k : Fin 1024) : EReal :=
  x (ix2 ⟨t.val * 8 + k.val / 128, by omega⟩ ⟨k.val % 128, by omega⟩)

theorem act_at (x : Vec Ideal S4096x128 .f32) (w : Vec Ideal S1x1024x2048 .f32) (b : Vec Ideal S1x1x2048 .f32)
    (t : Fin 512) (f : Fin 1024) :
    act x (k0_pay1 w) b (ix2 t f) = Cert.Spec.hidden (tok x t) (fun k n => w (ix3 0 k n)) (fun n => b (ix3 0 0 n)) f := by
  unfold act k0_pay13
  generalize hc : concatenate (α := Ideal .f32) S512x1024 1 _ _ = y
  pointwise [k0_pay1, Cert.Spec.hidden, Cert.Spec.gated, Cert.Spec.proj]
  have hy : ∀ k : Fin 1024, y (ix2 t k) = tok x t k := fun k => by rw [← hc]; exact gathered x t k
  simp only [hy]

theorem live_at (x : Vec Ideal S4096x128 .f32) (w1 : Vec Ideal S1x1024x2048 .f32) (b1 : Vec Ideal S1x1x2048 .f32)
    (w2 : Vec Ideal S1x1024x1024 .f32) (b2 : Vec Ideal S1x1x1024 .f32) (r : Fin 4096) (l : Fin 128) :
    live x w1 b1 w2 b2 (ix2 r l)
      = Cert.Spec.expert (tok x ⟨r.val / 8, by omega⟩) (fun k n => w1 (ix3 0 k n)) (fun n => b1 (ix3 0 0 n))
          (fun f d => w2 (ix3 0 f d)) (fun d => b2 (ix3 0 0 d)) ⟨r.val % 8 * 128 + l.val, by omega⟩ := by
  have hd : live x w1 b1 w2 b2 (ix2 r l)
      = k0_pay3 (act x (k0_pay1 w1) b1) (k0_pay2 w2) b2 (ix2 ⟨r.val / 8, by omega⟩ ⟨r.val % 8 * 128 + l.val, by omega⟩) := by
    refine congrArg (k0_pay3 (act x (k0_pay1 w1) b1) (k0_pay2 w2) b2) (funext fun a => Fin.ext ?_)
    match a with
    | ⟨0, _⟩ => rfl
    | ⟨1, _⟩ => show 128 * (r.val % 8) + l.val = r.val % 8 * 128 + l.val; omega
  rw [hd]
  unfold Cert.Spec.expert
  simp only [← act_at]
  generalize act x (k0_pay1 w1) b1 = a
  pointwise [k0_pay3, k0_pay2]

end Cert.KernelIdeal.Experts

end
-- ==== Proof.Value.lean ====
/-
# The output array

Over the extended reals the output array at the end is the specification `Cert.Spec.result` of `main`'s arguments: a point's block
is that of the specification at the point's rows, and the points' blocks make up the array.
-/
module

public import proofs.«01_k».proof.Proof.Blocks
public import proofs.«01_k».proof.Proof.Tile
public import Idealize.ShloMosaic.Lib.Pipeline.ValueKit
public import Idealize.ShloMosaic.Lib.Pipeline.Covers

@[expose] public section

set_option maxRecDepth 16384

noncomputable section

namespace Cert.KernelIdeal.Experts

open Cert.KernelIdeal.Gen Idealize.ShloMosaic Idealize.ShloMosaic.TcCoe
open Idealize.ShloMosaic.Pipeline (Dat Cfg Window)

variable (m : (ℓ : Loc nD τ sig) → Buf (Elt Ideal) ℓ) (hG : Good (experts m) (count m))

/-- The specification at `main`'s arguments. -/
def goal (c : Dev nD) : S1179648x128.Idx → EReal :=
  Cert.Spec.result (experts m) hG.experts (count m (ix1 0)) (m ((c : Thread nD τ).loc main_arg2)) (m ((c : Thread nD τ).loc main_arg3))
    (m ((c : Thread nD τ).loc main_arg4)) (m ((c : Thread nD τ).loc main_arg5)) (m ((c : Thread nD τ).loc main_arg6))

/-- The count as the body reads it. -/
theorem used_eq (nu : Vec Ideal S1 .i32) : used nu = nu (ix1 0) :=
  congrArg nu (funext fun a => Fin.ext (by match a with | ⟨0, _⟩ => rfl))

/-- The expert as the body reads it. -/
theorem cur_eq (te : Vec Ideal S288 .i32) (i : grid0.Coords) (n : Fin 288) (h : (i 0).val = n.val) : cur i te = te (ix1 n) := by
  refine congrArg te (funext fun a => Fin.ext ?_)
  match a with
  | ⟨0, _⟩ =>
    show (BitVec.ofNat 32 (i 0).val).toNat + 1 * 0 = n.val
    rw [BitVec.toNat_ofNat, h, Nat.mod_eq_of_lt (by omega)]
    omega

/-- A block in use is fetched at its own number. -/
theorem block_number (n : ℕ) (hn : n < 288) (v : BitVec 32) (hv : 1 ≤ v.toInt) (h : (BitVec.ofNat 32 n).toInt < v.toInt) :
    (Scalar.minsi (BitVec.ofNat 32 n) (Scalar.subi v 1#32)).toNat = n := by
  rw [row_block n hn v hv]
  have e := BitVec.toInt_eq_toNat_cond v
  have e' := BitVec.toInt_eq_toNat_cond (BitVec.ofNat 32 n)
  rw [BitVec.toNat_ofNat, Nat.mod_eq_of_lt (by omega), if_pos (by omega)] at e'
  rw [e'] at h
  have hb := v.isLt
  split at e <;> omega

/-- A point's block is the specification at the point's rows. -/
theorem res_at (c : Dev nD) (t : Fin (cfgM m (ok_of m hG)).N) (ht : t.val < 288) (r : Fin 4096) (l : Fin 128) :
    (res m (ok_of m hG) c t : S4096x128.Idx → EReal) (ix2 r l) = goal m hG c (ix2 ⟨t.val * 4096 + r.val, by omega⟩ l) := by
  have hc : ((grid0.coords t) 0).val = t.val := coords_val t
  have hT : (t.val * 4096 + r.val) / 8 / 512 = t.val := by omega
  show _ = Cert.Spec.row (experts m) hG.experts (count m (ix1 0)) _ _ _ _ _ ⟨(t.val * 4096 + r.val) / 8, by omega⟩
    ⟨(t.val * 4096 + r.val) % 8 * 128 + l.val, by omega⟩
  unfold res left Cert.Spec.row
  have hcond : k0_cond2 (grid0.coords t) (used (count m)) = 1#1
      ↔ (BitVec.ofNat 32 ((t.val * 4096 + r.val) / 8 / 512)).toInt < (count m (ix1 0) : BitVec 32).toInt := by
    rw [cond2_iff, hc, hT, used_eq]
  by_cases h : k0_cond2 (grid0.coords t) (used (count m)) = 1#1
  · rw [if_pos h, if_pos (hcond.mp h), live_at]
    have he : (cur (grid0.coords t) (experts m)).toNat
        = (⟨(experts m (ix1 ⟨(t.val * 4096 + r.val) / 8 / 512, by omega⟩) : BitVec 32).toNat, hG.experts _⟩ : Fin 32).val :=
      congrArg BitVec.toNat (cur_eq (experts m) (grid0.coords t) ⟨(t.val * 4096 + r.val) / 8 / 512, by omega⟩ (hc.trans hT.symm))
    have hi : cc0_transform_0 inb_S1_S1_0 numel1_S1 (tbl m) (grid0.coords t) 0 = t.val := by
      show (Scalar.minsi (BitVec.ofNat 32 ((grid0.coords t) 0).val) (Scalar.subi (used (count m)) 1#32)).toNat = t.val
      rw [hc]
      refine block_number _ ht _ ?_ ?_
      · rw [used_eq]; exact hG.count _
      · rw [used_eq]; have := hcond.mp h; rwa [hT] at this
    unfold Cert.Spec.at_expert
    congr 1
    · funext k
      refine (blk0 m (ok_of m hG) c t _ _ t.val (by show t.val * 4096 + (r.val / 8 * 8 + k.val / 128) < 1179648; omega) hi).trans ?_
      refine congrArg (m ((c : Thread nD τ).loc main_arg2) : S1179648x128.Idx → EReal) (congrArg (fun a => ix2 a _) (Fin.ext ?_))
      show t.val * 4096 + (r.val / 8 * 8 + k.val / 128) = (t.val * 4096 + r.val) / 8 * 8 + k.val / 128
      omega
    · funext k n; exact blk1 m (ok_of m hG) c t k n _ he
    · funext n; exact blk2 m (ok_of m hG) c t n _ he
    · funext k n; exact blk3 m (ok_of m hG) c t k n _ he
    · funext n; exact blk4 m (ok_of m hG) c t n _ he
    · exact Fin.ext (show r.val % 8 * 128 + l.val = (t.val * 4096 + r.val) % 8 * 128 + l.val by omega)
  · rw [if_neg h, if_neg (hcond.not.mp h)]
    exact Ideal.ofBits_zero_f32

theorem emb5 (hO : Ok m) (t : Fin (cfgM m hO).N) (y : (((cfgM m hO).win 5).xblock ((cfgM m hO).grid.coords t)).Idx) (a : Fin 2) :
    (((((cfgM m hO).win 5).rect t).emb y a : Fin _) : ℕ) = ((cfgM m hO).win 5).index t a * ((cfgM m hO).win 5).size a + (y a : Fin _).val :=
  ((cfgM m hO).win 5).rect_emb_val t y a rfl

/-- The output's blocks make up the array. -/
theorem covers (hO : Ok m) : ((cfgM m hO).win 5).Covers := by
  refine Window.covers_of_indexMap_surj _ rfl (fun a => ?_) fun β => ?_
  · match a with
    | ⟨0, _⟩ => exact (show 0 < 4096 by omega)
    | ⟨1, _⟩ => exact (show 0 < 128 by omega)
  · have h0 : (β ⟨0, Nat.succ_pos 1⟩).val < 288 :=
      Nat.lt_of_lt_of_eq (show _ < (1179648 + 4096 - 1) / 4096 from (β ⟨0, Nat.succ_pos 1⟩).isLt) (by norm_num)
    have h1 : (β ⟨1, Nat.lt_succ_self 1⟩).val < 1 :=
      Nat.lt_of_lt_of_eq (show _ < (128 + 128 - 1) / 128 from (β ⟨1, Nat.lt_succ_self 1⟩).isLt) (by norm_num)
    refine ⟨fun a => match a with | ⟨0, _⟩ => (⟨(β ⟨0, Nat.succ_pos 1⟩).val, h0⟩ : Fin 288), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

set_option maxHeartbeats 4000000 in
/-- The output array after the run. -/
theorem final (c : Dev nD) : ((dats m (ok_of m hG) 0 c).arrAt 5 (cfgM m (ok_of m hG)).N : S1179648x128.Idx → EReal) = goal m hG c := by
  refine (dats m (ok_of m hG) 0 c).arrAt_eq_of_covers 5 (goal m hG c) (covers m (ok_of m hG)) fun t _ y => ?_
  have ht : t.val < 288 := Nat.lt_of_lt_of_eq t.isLt N_0
  obtain ⟨r, l, hy⟩ : ∃ (r : Fin 4096) (l : Fin 128), (y : S4096x128.Idx) = ix2 r l := ⟨_, _, eq_ix2 (y : S4096x128.Idx)⟩
  refine (show _ = (res m (ok_of m hG) c t : S4096x128.Idx → EReal) y from rfl).trans ?_
  refine ((congrArg (res m (ok_of m hG) c t : S4096x128.Idx → EReal) hy).trans (res_at m hG c t ht r l)).trans ?_
  refine congrArg (goal m hG c) (funext fun a => Fin.ext (Eq.symm ?_))
  refine (emb5 m (ok_of m hG) t y a).trans ?_
  rw [hy]
  match a with
  | ⟨0, _⟩ =>
    show (BitVec.ofNat 32 ((grid0.coords t) 0).val).toNat * 4096 + r.val = t.val * 4096 + r.val
    rw [coords_val, BitVec.toNat_ofNat, Nat.mod_eq_of_lt (by omega)]
  | ⟨1, _⟩ => exact (show 0 * 128 + l.val = l.val by omega)

end Cert.KernelIdeal.Experts

end
-- ==== Proof.Projection.Spec.lean ====
/-
# What the input projection computes

A row is scaled by the reciprocal root of its mean square and by the norm's weights, and multiplied by the columns of the
combined weights.
-/
module

public import Idealize.ShloMosaic.Lib.Pointwise

@[expose] public section

noncomputable section

namespace Cert.Projection

open Idealize.ShloMosaic

/-- Lane `k` of the normalised row `x`, with the norm's weights `g`. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- The normalised row against one column of weights. -/
def dot (x g w : Fin 1024 → EReal) : EReal := ∑ k, norm x g k * w k

/-- `n` columns of the projection of all rows, the first of them column `o` of the weights. -/
def columns (n o : ℕ) (h : o + n ≤ 8224) (x : (⟨2, ![32768, 1024]⟩ : Shape).Idx → EReal) (g : (⟨1, ![1024]⟩ : Shape).Idx → EReal)
    (w : (⟨2, ![1024, 8224]⟩ : Shape).Idx → EReal) (i : (⟨2, ![32768, n]⟩ : Shape).Idx) : EReal :=
  dot (fun k => x (ix2 (i 0) k)) (fun k => g (ix1 k))
    (fun k => w (ix2 k ⟨o + (i 1).val, by have h1 : (i 1).val < n := (i 1).isLt; omega⟩))

/-- The 32 columns of the gates' low-rank factor, followed by 96 columns of zeros. -/
def low (x : (⟨2, ![32768, 1024]⟩ : Shape).Idx → EReal) (g : (⟨1, ![1024]⟩ : Shape).Idx → EReal)
    (w : (⟨2, ![1024, 8224]⟩ : Shape).Idx → EReal) (i : (⟨2, ![32768, 128]⟩ : Shape).Idx) : EReal :=
  if h : (i 1).val < 32 then
    dot (fun k => x (ix2 (i 0) k)) (fun k => g (ix1 k)) (fun k => w (ix2 k ⟨3072 + (i 1).val, by omega⟩))
  else 0

variable (x : (⟨2, ![32768, 1024]⟩ : Shape).Idx → EReal) (g : (⟨1, ![1024]⟩ : Shape).Idx → EReal)
  (w : (⟨2, ![1024, 8224]⟩ : Shape).Idx → EReal) (r : Fin 32768)

theorem columns_at (n o : ℕ) (h : o + n ≤ 8224) (l : Fin n) :
    columns n o h x g w (ix2 r l) = dot (fun k => x (ix2 r k)) (fun k => g (ix1 k)) (fun k => w (ix2 k ⟨o + l.val, by omega⟩)) := rfl

theorem low_at (l : Fin 128) (h : l.val < 32) :
    low x g w (ix2 r l) = dot (fun k => x (ix2 r k)) (fun k => g (ix1 k)) (fun k => w (ix2 k ⟨3072 + l.val, by omega⟩)) :=
  dif_pos h

theorem low_pad (l : Fin 128) (h : ¬ l.val < 32) : low x g w (ix2 r l) = 0 := dif_neg h

end Cert.Projection

end
-- ==== Proof.Projection.Plain.lean ====
/-
# The plain projection's results

The plain program normalises the rows, multiplies them by all the weights at once and cuts the product into four parts.
-/
module

public import proofs.«01_k».proof.Proof.Projection.Spec
public import proofs.«01_k».proof.Proof.Gen.Reference2Ideal

@[expose] public section

set_option maxRecDepth 16384

noncomputable section

namespace Cert.Reference2Ideal.Projection

open Idealize.ShloMosaic Cert.Reference2Ideal.Gen

variable [Facts]

open Facts

/-- The normalised rows. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem normed_at (x : FVec Ideal S32768x1024 .f32) (g : FVec Ideal S1024 .f32) (r : Fin 32768) (k : Fin 1024) :
    normed x g (ix2 r k) = Cert.Projection.norm (fun k => x (ix2 r k)) (fun k => g (ix1 k)) k := by
  pointwise [normed, Cert.Projection.norm]

/-- The product of the rows with all the weights. -/
def product (x : FVec Ideal S32768x1024 .f32) (g : FVec Ideal S1024 .f32) (w : FVec Ideal S1024x8224 .f32) : FVec Ideal S32768x8224 .f32 :=
  Host.dotGeneral dot_S32768x1024_S1024x8224_S32768x8224_1_0_0_1_n_n none (normed x g) w

theorem product_at (x : FVec Ideal S32768x1024 .f32) (g : FVec Ideal S1024 .f32) (w : FVec Ideal S1024x8224 .f32) (r : Fin 32768) (n : Fin 8224) :
    product x g w (ix2 r n) = Cert.Projection.dot (fun k => x (ix2 r k)) (fun k => g (ix1 k)) (fun k => w (ix2 k n)) := by
  unfold product Cert.Projection.dot
  simp only [← normed_at]
  generalize normed x g = y
  pointwise

theorem qkvr_eq (x : FVec Ideal S32768x1024 .f32) (g : FVec Ideal S1024 .f32) (w : FVec Ideal S1024x8224 .f32) :
    (truncf .bf16 (extractStridedSlice S32768x3072 ![0, 0] (product x g w) slices_S32768x8224_S32768x3072_0_0) bitsLt_bf16_f32 : FVec Ideal S32768x3072 .bf16)
      = Cert.Projection.columns 3072 0 (by omega) x g w := by
  funext j
  obtain ⟨r, l, rfl⟩ : ∃ (r : Fin 32768) (l : Fin 3072), j = ix2 r l := ⟨j 0, j 1, eq_ix2 j⟩
  generalize hp : product x g w = p
  refine Eq.trans (b := p (ix2 r ⟨0 + l.val, by omega⟩)) (by pointwise) ?_
  rw [← hp]
  exact product_at x g w r _

theorem hy_eq (x : FVec Ideal S32768x1024 .f32) (g : FVec Ideal S1024 .f32) (w : FVec Ideal S1024x8224 .f32) :
    (truncf .bf16 (extractStridedSlice S32768x3072 ![0, 3104] (product x g w) slices_S32768x8224_S32768x3072_0_3104) bitsLt_bf16_f32 : FVec Ideal S32768x3072 .bf16)
      = Cert.Projection.columns 3072 3104 (by omega) x g w := by
  funext j
  obtain ⟨r, l, rfl⟩ : ∃ (r : Fin 32768) (l : Fin 3072), j = ix2 r l := ⟨j 0, j 1, eq_ix2 j⟩
  generalize hp : product x g w = p
  refine Eq.trans (b := p (ix2 r ⟨3104 + l.val, by omega⟩)) (by pointwise) ?_
  rw [← hp]
  exact product_at x g w r _

theorem gates_eq (x : FVec Ideal S32768x1024 .f32) (g : FVec Ideal S1024 .f32) (w : FVec Ideal S1024x8224 .f32) :
    (truncf .bf16 (extractStridedSlice S32768x2048 ![0, 6176] (product x g w) slices_S32768x8224_S32768x2048_0_6176) bitsLt_bf16_f32 : FVec Ideal S32768x2048 .bf16)
      = Cert.Projection.columns 2048 6176 (by omega) x g w := by
  funext j
  obtain ⟨r, l, rfl⟩ : ∃ (r : Fin 32768) (l : Fin 2048), j = ix2 r l := ⟨j 0, j 1, eq_ix2 j⟩
  generalize hp : product x g w = p
  refine Eq.trans (b := p (ix2 r ⟨6176 + l.val, by omega⟩)) (by pointwise) ?_
  rw [← hp]
  exact product_at x g w r _

theorem low_eq (x : FVec Ideal S32768x1024 .f32) (g : FVec Ideal S1024 .f32) (w : FVec Ideal S1024x8224 .f32) :
    (pad S32768x128 ![0, 0] ![0, 96] ![0, 0] (extractStridedSlice S32768x32 ![0, 3072] (product x g w) slices_S32768x8224_S32768x32_0_3072) (sitofp .f32 (constantI S_ 32 0#32)) pads_S32768x32_S32768x128_000_0960 h_S_ : FVec Ideal S32768x128 .f32)
      = Cert.Projection.low x g w := by
  funext j
  obtain ⟨r, l, rfl⟩ : ∃ (r : Fin 32768) (l : Fin 128), j = ix2 r l := ⟨j 0, j 1, eq_ix2 j⟩
  generalize hp : product x g w = p
  have e : Cert.Projection.low x g w (ix2 r l) = if h : l.val < 32 then p (ix2 r ⟨3072 + l.val, by omega⟩) else 0 := by
    rw [← hp]
    simp only [product_at]
    rfl
  rw [e]
  have z : (FloatOps.sitofp FTy.f32 (0#32 : BitVec 32) : Ideal .f32) = 0 := by
    show (((0#32 : BitVec 32).toInt : ℝ) : EReal) = 0
    norm_num
  pointwise
  rw [z]

end Cert.Reference2Ideal.Projection

end
-- ==== Proof.Projection.Value.lean ====
/-
# The projection kernel's results

The combined weights as the region finds them, a grid step's four blocks, and the four arrays at the end.
-/
module

public import proofs.«01_k».proof.Proof.Projection.Spec
public import proofs.«01_k».proof.Proof.Gen.Kernel2Ideal.Value
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Projection

open Cert.Kernel2Ideal.Gen Idealize.ShloMosaic Idealize.ShloMosaic.TcCoe
open Idealize.ShloMosaic.Pipeline (Dat Cfg Window)

/-! ## One step -/

/-- The normalised rows of a block. -/
theorem rows_at (x : Vec Ideal S512x1024 .f32) (g : Vec Ideal S1x1024 .f32) (r : Fin 512) (k : Fin 1024) :
    k0_pay2 x g (ix2 r k) = Cert.Projection.norm (fun k => x (ix2 r k)) (fun k => g (ix2 0 k)) k := by
  pointwise [k0_pay2, Cert.Projection.norm]

theorem pay3_at (x : Vec Ideal S512x1024 .f32) (g : Vec Ideal S1x1024 .f32) (w : Vec Ideal S1024x3072 .bf16) (r : Fin 512) (n : Fin 3072) :
    k0_pay3 x g w (ix2 r n) = Cert.Projection.dot (fun k => x (ix2 r k)) (fun k => g (ix2 0 k)) (fun k => w (ix2 k n)) := by
  unfold Cert.Projection.dot k0_pay3
  simp only [← rows_at]
  generalize k0_pay2 x g = y
  pointwise

theorem pay4_at (x : Vec Ideal S512x1024 .f32) (g : Vec Ideal S1x1024 .f32) (w : Vec Ideal S1024x3072 .bf16) (r : Fin 512) (n : Fin 3072) :
    k0_pay4 x g w (ix2 r n) = Cert.Projection.dot (fun k => x (ix2 r k)) (fun k => g (ix2 0 k)) (fun k => w (ix2 k n)) :=
  pay3_at x g w r n

theorem pay5_at (x : Vec Ideal S512x1024 .f32) (g : Vec Ideal S1x1024 .f32) (w : Vec Ideal S1024x2048 .bf16) (r : Fin 512) (n : Fin 2048) :
    k0_pay5 x g w (ix2 r n) = Cert.Projection.dot (fun k => x (ix2 r k)) (fun k => g (ix2 0 k)) (fun k => w (ix2 k n)) := by
  unfold Cert.Projection.dot k0_pay5
  simp only [← rows_at]
  generalize k0_pay2 x g = y
  pointwise

theorem pay1_at (x : Vec Ideal S512x1024 .f32) (g : Vec Ideal S1x1024 .f32) (w : Vec Ideal S1024x128 .bf16) (r : Fin 512) (n : Fin 128) :
    k0_pay1 (k0_pay2 x g) w (ix2 r n) = Cert.Projection.dot (fun k => x (ix2 r k)) (fun k => g (ix2 0 k)) (fun k => w (ix2 k n)) := by
  unfold Cert.Projection.dot k0_pay1
  simp only [← rows_at]
  generalize k0_pay2 x g = y
  pointwise

variable (x : Vec Ideal S512x1024 .f32) (g : Vec Ideal S1x1024 .f32) (w : Vec Ideal S1024x8320 .bf16)

theorem out3_at (r : Fin 512) (n : Fin 3072) :
    out0_3 x g w (ix2 r n) = Cert.Projection.dot (fun k => x (ix2 r k)) (fun k => g (ix2 0 k)) (fun k => w (ix2 k ⟨n.val, by omega⟩)) := by
  unfold out0_3
  rw [View.canon_cons_unit_lit _ _ _ (by decide), pay3_at, View.ld_unit_lit _ _ (by decide), View.ld_unit_lit _ _ (by decide)]
  refine congrArg (Cert.Projection.dot _ _) (funext fun k => congrArg w (funext fun a => Fin.ext ?_))
  match a with
  | ⟨0, _⟩ => exact (show 0 + 1 * k.val = k.val by omega)
  | ⟨1, _⟩ => exact (show 0 + 1 * n.val = n.val by omega)

theorem out4_at (r : Fin 512) (n : Fin 3072) :
    out0_4 x g w (ix2 r n) = Cert.Projection.dot (fun k => x (ix2 r k)) (fun k => g (ix2 0 k)) (fun k => w (ix2 k ⟨3072 + n.val, by omega⟩)) := by
  unfold out0_4
  rw [View.canon_cons_unit_lit _ _ _ (by decide), pay4_at, View.ld_unit_lit _ _ (by decide), View.ld_unit_lit _ _ (by decide)]
  refine congrArg (Cert.Projection.dot _ _) (funext fun k => congrArg w (funext fun a => Fin.ext ?_))
  match a with
  | ⟨0, _⟩ => exact (show 0 + 1 * k.val = k.val by omega)
  | ⟨1, _⟩ => exact (show 3072 + 1 * n.val = 3072 + n.val by omega)

theorem out5_at (r : Fin 512) (n : Fin 2048) :
    out0_5 x g w (ix2 r n) = Cert.Projection.dot (fun k => x (ix2 r k)) (fun k => g (ix2 0 k)) (fun k => w (ix2 k ⟨6144 + n.val, by omega⟩)) := by
  unfold out0_5
  rw [View.canon_cons_unit_lit _ _ _ (by decide), pay5_at, View.ld_unit_lit _ _ (by decide), View.ld_unit_lit _ _ (by decide)]
  refine congrArg (Cert.Projection.dot _ _) (funext fun k => congrArg w (funext fun a => Fin.ext ?_))
  match a with
  | ⟨0, _⟩ => exact (show 0 + 1 * k.val = k.val by omega)
  | ⟨1, _⟩ => exact (show 6144 + 1 * n.val = 6144 + n.val by omega)

theorem out6_at (r : Fin 512) (n : Fin 128) :
    out0_6 x g w (ix2 r n) = Cert.Projection.dot (fun k => x (ix2 r k)) (fun k => g (ix2 0 k)) (fun k => w (ix2 k ⟨8192 + n.val, by omega⟩)) := by
  unfold out0_6
  rw [View.canon_cons_unit_lit _ _ _ (by decide), View.ld_unit_lit _ _ (by decide), View.ld_unit_lit _ _ (by decide), pay1_at]
  refine congrArg (Cert.Projection.dot _ _) (funext fun k => congrArg w (funext fun a => Fin.ext ?_))
  match a with
  | ⟨0, _⟩ => exact (show 0 + 1 * k.val = k.val by omega)
  | ⟨1, _⟩ => exact (show 8192 + 1 * n.val = 8192 + n.val by omega)

/-! ## What the region finds -/

variable (m : (ℓ : Loc nD τ sig) → Buf (Elt Ideal) ℓ)

/-- The norm's weights as a row. -/
theorem V_norm (c : Dev nD) (k : Fin 1024) :
    (V m c main_v6 : FVec Ideal S1x1024 .f32) (ix2 0 k) = (m ((c : Thread nD τ).loc main_arg1) : FVec Ideal S1024 .f32) (ix1 k) := by
  have h : (V m c main_v6 : FVec Ideal S1x1024 .f32) = shapeCast _ (m ((c : Thread nD τ).loc main_arg1) : FVec Ideal S1024 .f32) shapeCasts_S1024_S1x1024 := by
    unfold V hostOps0
    after_results
    rfl
  rw [h]
  pointwise

/-- The weights side by side, with the low-rank columns moved to the end and padded. -/
theorem V_weights (c : Dev nD) (k : Fin 1024) (n : Fin 8320) :
    (V m c main_v5 : S1024x8320.Idx → EReal) (ix2 k n)
      = if h1 : n.val < 3072 then (m ((c : Thread nD τ).loc main_arg2) : S1024x8224.Idx → EReal) (ix2 k ⟨n.val, by omega⟩)
        else if h2 : n.val < 8192 then (m ((c : Thread nD τ).loc main_arg2) : S1024x8224.Idx → EReal) (ix2 k ⟨n.val + 32, by omega⟩)
        else if h3 : n.val < 8224 then (m ((c : Thread nD τ).loc main_arg2) : S1024x8224.Idx → EReal) (ix2 k ⟨n.val - 5120, by omega⟩)
        else (0 : EReal) := by
  have h : (V m c main_v5 : FVec Ideal S1024x8320 .bf16)
      = concatenate (α := Ideal .bf16) S1024x8320 1 [⟨S1024x3072, extractStridedSlice S1024x3072 ![0, 0] (truncf .bf16 (m ((c : Thread nD τ).loc main_arg2) : FVec Ideal S1024x8224 .f32) bitsLt_bf16_f32) slices_S1024x8224_S1024x3072_0_0⟩,
          ⟨S1024x5120, extractStridedSlice S1024x5120 ![0, 3104] (truncf .bf16 (m ((c : Thread nD τ).loc main_arg2) : FVec Ideal S1024x8224 .f32) bitsLt_bf16_f32) slices_S1024x8224_S1024x5120_0_3104⟩,
          ⟨S1024x32, extractStridedSlice S1024x32 ![0, 3072] (truncf .bf16 (m ((c : Thread nD τ).loc main_arg2) : FVec Ideal S1024x8224 .f32) bitsLt_bf16_f32) slices_S1024x8224_S1024x32_0_3072⟩,
          ⟨S1024x96, broadcastInDim S1024x96 ![] bcast_S_S1024x96 (constant S_ .bf16 0x0000#16)⟩] concatenates_S1024x3072_S1024x5120_S1024x32_S1024x96_S1024x8320_d1 := by
    unfold V hostOps0
    after_results
    rfl
  rw [h]
  generalize (m ((c : Thread nD τ).loc main_arg2) : FVec Ideal S1024x8224 .f32) = w
  pointwise
  by_cases h1 : n.val < 3072
  · refine (dif_pos h1).trans (Eq.trans ?_ (dif_pos h1).symm)
    rfl
  refine (dif_neg h1).trans (Eq.trans ?_ (dif_neg h1).symm)
  by_cases h2 : n.val < 8192
  · refine (dif_pos (show n.val - 3072 < 5120 by omega)).trans (Eq.trans ?_ (dif_pos h2).symm)
    exact congrArg (fun a => w (ix2 k a)) (Fin.ext (show 3104 + (n.val - 3072) = n.val + 32 by omega))
  refine (dif_neg (show ¬ n.val - 3072 < 5120 by omega)).trans (Eq.trans ?_ (dif_neg h2).symm)
  by_cases h3 : n.val < 8224
  · refine (dif_pos (show n.val - 3072 - 5120 < 32 by omega)).trans (Eq.trans ?_ (dif_pos h3).symm)
    exact congrArg (fun a => w (ix2 k a)) (Fin.ext (show 3072 + (n.val - 3072 - 5120) = n.val - 5120 by omega))
  · refine (dif_neg (show ¬ n.val - 3072 - 5120 < 32 by omega)).trans (Eq.trans ?_ (dif_neg h3).symm)
    rfl

/-! ## A step's blocks -/

theorem coords_val (t : Fin cfg0.N) : ((grid0.coords t) 0).val = t.val :=
  (by decide +kernel : ∀ t : Fin grid0.N, ((grid0.coords t) 0).val = t.val) t

theorem emb0 (t : Fin cfg0.N) (y : ((cfg0.win 0).xblock (cfg0.grid.coords t)).Idx) (a : Fin 2) :
    ((((cfg0.win 0).rect t).emb y a : Fin _) : ℕ) = (cfg0.win 0).index t a * (cfg0.win 0).size a + (y a : Fin _).val :=
  (cfg0.win 0).rect_emb_val t y a rfl

theorem emb1 (t : Fin cfg0.N) (y : ((cfg0.win 1).xblock (cfg0.grid.coords t)).Idx) (a : Fin 2) :
    ((((cfg0.win 1).rect t).emb y a : Fin _) : ℕ) = (cfg0.win 1).index t a * (cfg0.win 1).size a + (y a : Fin _).val :=
  (cfg0.win 1).rect_emb_val t y a rfl

theorem emb2 (t : Fin cfg0.N) (y : ((cfg0.win 2).xblock (cfg0.grid.coords t)).Idx) (a : Fin 2) :
    ((((cfg0.win 2).rect t).emb y a : Fin _) : ℕ) = (cfg0.win 2).index t a * (cfg0.win 2).size a + (y a : Fin _).val :=
  (cfg0.win 2).rect_emb_val t y a rfl

theorem emb3 (t : Fin cfg0.N) (y : ((cfg0.win 3).xblock (cfg0.grid.coords t)).Idx) (a : Fin 2) :
    ((((cfg0.win 3).rect t).emb y a : Fin _) : ℕ) = (cfg0.win 3).index t a * (cfg0.win 3).size a + (y a : Fin _).val :=
  (cfg0.win 3).rect_emb_val t y a rfl

theorem emb4 (t : Fin cfg0.N) (y : ((cfg0.win 4).xblock (cfg0.grid.coords t)).Idx) (a : Fin 2) :
    ((((cfg0.win 4).rect t).emb y a : Fin _) : ℕ) = (cfg0.win 4).index t a * (cfg0.win 4).size a + (y a : Fin _).val :=
  (cfg0.win 4).rect_emb_val t y a rfl

theorem emb5 (t : Fin cfg0.N) (y : ((cfg0.win 5).xblock (cfg0.grid.coords t)).Idx) (a : Fin 2) :
    ((((cfg0.win 5).rect t).emb y a : Fin _) : ℕ) = (cfg0.win 5).index t a * (cfg0.win 5).size a + (y a : Fin _).val :=
  (cfg0.win 5).rect_emb_val t y a rfl

theorem emb6 (t : Fin cfg0.N) (y : ((cfg0.win 6).xblock (cfg0.grid.coords t)).Idx) (a : Fin 2) :
    ((((cfg0.win 6).rect t).emb y a : Fin _) : ℕ) = (cfg0.win 6).index t a * (cfg0.win 6).size a + (y a : Fin _).val :=
  (cfg0.win 6).rect_emb_val t y a rfl

/-- The rows of the step. -/
theorem blk0 (c : Dev nD) (t : Fin cfg0.N) (r : Fin 512) (k : Fin 1024) (h : t.val * 512 + r.val < 32768) :
    (iblk m c 0 t : S512x1024.Idx → EReal) (ix2 r k)
      = (m ((c : Thread nD τ).loc main_arg0) : S32768x1024.Idx → EReal) (ix2 ⟨t.val * 512 + r.val, h⟩ k) := by
  rw [← V_main_arg0 m c]
  refine (show _ = (V m c main_arg0 : S32768x1024.Idx → EReal) (((cfg0.win 0).rect t).emb (ix2 r k)) from rfl).trans ?_
  refine congrArg (V m c main_arg0 : S32768x1024.Idx → EReal) (funext fun a => Fin.ext ?_)
  refine (emb0 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The norm's weights. -/
theorem blk1 (c : Dev nD) (t : Fin cfg0.N) (k : Fin 1024) :
    (iblk m c 1 t : S1x1024.Idx → EReal) (ix2 0 k) = (m ((c : Thread nD τ).loc main_arg1) : S1024.Idx → EReal) (ix1 k) := by
  refine Eq.trans ?_ (V_norm m c k)
  refine (show _ = (V m c main_v6 : S1x1024.Idx → EReal) (((cfg0.win 1).rect t).emb (ix2 0 k)) from rfl).trans ?_
  refine congrArg (V m c main_v6 : S1x1024.Idx → EReal) (funext fun a => Fin.ext ?_)
  refine (emb1 t (ix2 0 k) a).trans ?_
  match a with
  | ⟨0, _⟩ => rfl
  | ⟨1, _⟩ => exact (show 0 * 1024 + k.val = k.val by omega)

/-- All the weights. -/
theorem blk2 (c : Dev nD) (t : Fin cfg0.N) (k : Fin 1024) (n : Fin 8320) :
    (iblk m c 2 t : S1024x8320.Idx → EReal) (ix2 k n) = (V m c main_v5 : S1024x8320.Idx → EReal) (ix2 k n) := by
  refine (show _ = (V m c main_v5 : S1024x8320.Idx → EReal) (((cfg0.win 2).rect t).emb (ix2 k n)) from rfl).trans ?_
  refine congrArg (V m c main_v5 : S1024x8320.Idx → EReal) (funext fun a => Fin.ext ?_)
  refine (emb2 t (ix2 k n) a).trans ?_
  match a with
  | ⟨0, _⟩ => exact (show 0 * 1024 + k.val = k.val by omega)
  | ⟨1, _⟩ => exact (show 0 * 8320 + n.val = n.val by omega)

/-- A row of a step against a column of weights of its own. -/
theorem dot_blk (c : Dev nD) (t : Fin cfg0.N) (r : Fin 512) (n : Fin 8320) (h : t.val * 512 + r.val < 32768) :
    Cert.Projection.dot (fun k => (iblk m c 0 t : S512x1024.Idx → EReal) (ix2 r k)) (fun k => (iblk m c 1 t : S1x1024.Idx → EReal) (ix2 0 k))
        (fun k => (iblk m c 2 t : S1024x8320.Idx → EReal) (ix2 k n))
      = Cert.Projection.dot (fun k => (m ((c : Thread nD τ).loc main_arg0) : S32768x1024.Idx → EReal) (ix2 ⟨t.val * 512 + r.val, h⟩ k))
          (fun k => (m ((c : Thread nD τ).loc main_arg1) : S1024.Idx → EReal) (ix1 k))
          (fun k => (V m c main_v5 : S1024x8320.Idx → EReal) (ix2 k n)) := by
  congr 1
  · funext k; exact blk0 m c t r k h
  · funext k; exact blk1 m c t k
  · funext k; exact blk2 m c t k n

/-! ## The arrays -/

/-- Result 1 of `main`'s arguments. -/
def qkvr (c : Dev nD) : S32768x3072.Idx → EReal :=
  Cert.Projection.columns 3072 0 (by omega) (m ((c : Thread nD τ).loc main_arg0)) (m ((c : Thread nD τ).loc main_arg1)) (m ((c : Thread nD τ).loc main_arg2))

theorem qkvr_at (c : Dev nD) (t : Fin cfg0.N) (r : Fin 512) (n : Fin 3072) (h : t.val * 512 + r.val < 32768) :
    (out0_3 (iblk m c 0 t) (iblk m c 1 t) (iblk m c 2 t) : S512x3072.Idx → EReal) (ix2 r n) = qkvr m c (ix2 ⟨t.val * 512 + r.val, h⟩ n) := by
  refine (out3_at _ _ _ r n).trans ((dot_blk m c t r ⟨n.val, by omega⟩ h).trans ?_)
  refine Eq.trans ?_ (Cert.Projection.columns_at _ _ _ ⟨t.val * 512 + r.val, h⟩ 3072 0 (by omega) n).symm
  refine congrArg (Cert.Projection.dot _ _) (funext fun k => ?_)
  rw [V_weights]
  rw [dif_pos (show n.val < 3072 from n.isLt)]
  exact congrArg (fun a => (m ((c : Thread nD τ).loc main_arg2) : S1024x8224.Idx → EReal) (ix2 k a)) (Fin.ext (show n.val = 0 + n.val by omega))

theorem covers3 : (cfg0.win 3).Covers := by
  refine Window.covers_of_indexMap_surj _ rfl (fun a => ?_) fun β => ?_
  · match a with
    | ⟨0, _⟩ => exact (show 0 < 512 by omega)
    | ⟨1, _⟩ => exact (show 0 < 3072 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (3072 + 3072 - 1) / 3072 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

set_option maxHeartbeats 4000000 in
/-- The array of result 1 after the run. -/
theorem qkvr_final (c : Dev nD) : ((dats m 0 c).arrAt 3 cfg0.N : S32768x3072.Idx → EReal) = qkvr m c := by
  refine (dats m 0 c).arrAt_eq_of_covers 3 (qkvr m c) covers3 fun t _ y => ?_
  have ht : t.val < 64 := Nat.lt_of_lt_of_eq t.isLt N_0
  obtain ⟨r, l, hy⟩ : ∃ (r : Fin 512) (l : Fin 3072), (y : S512x3072.Idx) = ix2 r l := ⟨_, _, eq_ix2 (y : S512x3072.Idx)⟩
  refine (show _ = (out0_3 (iblk m c 0 t) (iblk m c 1 t) (iblk m c 2 t) : S512x3072.Idx → EReal) y from
    congrFun (Value.flushed3 m c t) y).trans ?_
  refine ((congrArg (out0_3 (iblk m c 0 t) (iblk m c 1 t) (iblk m c 2 t) : S512x3072.Idx → EReal) hy).trans
    (qkvr_at m c t r l (by omega))).trans ?_
  refine congrArg (qkvr m c) (funext fun a => Fin.ext (Eq.symm ?_))
  refine (emb3 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 3072 + l.val = l.val by omega)

/-- Result 2 of `main`'s arguments. -/
def hyena (c : Dev nD) : S32768x3072.Idx → EReal :=
  Cert.Projection.columns 3072 3104 (by omega) (m ((c : Thread nD τ).loc main_arg0)) (m ((c : Thread nD τ).loc main_arg1)) (m ((c : Thread nD τ).loc main_arg2))

theorem hyena_at (c : Dev nD) (t : Fin cfg0.N) (r : Fin 512) (n : Fin 3072) (h : t.val * 512 + r.val < 32768) :
    (out0_4 (iblk m c 0 t) (iblk m c 1 t) (iblk m c 2 t) : S512x3072.Idx → EReal) (ix2 r n) = hyena m c (ix2 ⟨t.val * 512 + r.val, h⟩ n) := by
  refine (out4_at _ _ _ r n).trans ((dot_blk m c t r ⟨3072 + n.val, by omega⟩ h).trans ?_)
  refine Eq.trans ?_ (Cert.Projection.columns_at _ _ _ ⟨t.val * 512 + r.val, h⟩ 3072 3104 (by omega) n).symm
  refine congrArg (Cert.Projection.dot _ _) (funext fun k => ?_)
  rw [V_weights]
  rw [dif_neg (show ¬ 3072 + n.val < 3072 by omega), dif_pos (show 3072 + n.val < 8192 by omega)]
  exact congrArg (fun a => (m ((c : Thread nD τ).loc main_arg2) : S1024x8224.Idx → EReal) (ix2 k a)) (Fin.ext (show 3072 + n.val + 32 = 3104 + n.val by omega))

theorem covers4 : (cfg0.win 4).Covers := by
  refine Window.covers_of_indexMap_surj _ rfl (fun a => ?_) fun β => ?_
  · match a with
    | ⟨0, _⟩ => exact (show 0 < 512 by omega)
    | ⟨1, _⟩ => exact (show 0 < 3072 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (3072 + 3072 - 1) / 3072 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

set_option maxHeartbeats 4000000 in
/-- The array of result 2 after the run. -/
theorem hyena_final (c : Dev nD) : ((dats m 0 c).arrAt 4 cfg0.N : S32768x3072.Idx → EReal) = hyena m c := by
  refine (dats m 0 c).arrAt_eq_of_covers 4 (hyena m c) covers4 fun t _ y => ?_
  have ht : t.val < 64 := Nat.lt_of_lt_of_eq t.isLt N_0
  obtain ⟨r, l, hy⟩ : ∃ (r : Fin 512) (l : Fin 3072), (y : S512x3072.Idx) = ix2 r l := ⟨_, _, eq_ix2 (y : S512x3072.Idx)⟩
  refine (show _ = (out0_4 (iblk m c 0 t) (iblk m c 1 t) (iblk m c 2 t) : S512x3072.Idx → EReal) y from
    congrFun (Value.flushed4 m c t) y).trans ?_
  refine ((congrArg (out0_4 (iblk m c 0 t) (iblk m c 1 t) (iblk m c 2 t) : S512x3072.Idx → EReal) hy).trans
    (hyena_at m c t r l (by omega))).trans ?_
  refine congrArg (hyena m c) (funext fun a => Fin.ext (Eq.symm ?_))
  refine (emb4 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 3072 + l.val = l.val by omega)

/-- Result 3 of `main`'s arguments. -/
def gates (c : Dev nD) : S32768x2048.Idx → EReal :=
  Cert.Projection.columns 2048 6176 (by omega) (m ((c : Thread nD τ).loc main_arg0)) (m ((c : Thread nD τ).loc main_arg1)) (m ((c : Thread nD τ).loc main_arg2))

theorem gates_at (c : Dev nD) (t : Fin cfg0.N) (r : Fin 512) (n : Fin 2048) (h : t.val * 512 + r.val < 32768) :
    (out0_5 (iblk m c 0 t) (iblk m c 1 t) (iblk m c 2 t) : S512x2048.Idx → EReal) (ix2 r n) = gates m c (ix2 ⟨t.val * 512 + r.val, h⟩ n) := by
  refine (out5_at _ _ _ r n).trans ((dot_blk m c t r ⟨6144 + n.val, by omega⟩ h).trans ?_)
  refine Eq.trans ?_ (Cert.Projection.columns_at _ _ _ ⟨t.val * 512 + r.val, h⟩ 2048 6176 (by omega) n).symm
  refine congrArg (Cert.Projection.dot _ _) (funext fun k => ?_)
  rw [V_weights]
  rw [dif_neg (show ¬ 6144 + n.val < 3072 by omega), dif_pos (show 6144 + n.val < 8192 by omega)]
  exact congrArg (fun a => (m ((c : Thread nD τ).loc main_arg2) : S1024x8224.Idx → EReal) (ix2 k a)) (Fin.ext (show 6144 + n.val + 32 = 6176 + n.val by omega))

theorem covers5 : (cfg0.win 5).Covers := by
  refine Window.covers_of_indexMap_surj _ rfl (fun a => ?_) fun β => ?_
  · match a with
    | ⟨0, _⟩ => exact (show 0 < 512 by omega)
    | ⟨1, _⟩ => exact (show 0 < 2048 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (2048 + 2048 - 1) / 2048 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

set_option maxHeartbeats 4000000 in
/-- The array of result 3 after the run. -/
theorem gates_final (c : Dev nD) : ((dats m 0 c).arrAt 5 cfg0.N : S32768x2048.Idx → EReal) = gates m c := by
  refine (dats m 0 c).arrAt_eq_of_covers 5 (gates m c) covers5 fun t _ y => ?_
  have ht : t.val < 64 := Nat.lt_of_lt_of_eq t.isLt N_0
  obtain ⟨r, l, hy⟩ : ∃ (r : Fin 512) (l : Fin 2048), (y : S512x2048.Idx) = ix2 r l := ⟨_, _, eq_ix2 (y : S512x2048.Idx)⟩
  refine (show _ = (out0_5 (iblk m c 0 t) (iblk m c 1 t) (iblk m c 2 t) : S512x2048.Idx → EReal) y from
    congrFun (Value.flushed5 m c t) y).trans ?_
  refine ((congrArg (out0_5 (iblk m c 0 t) (iblk m c 1 t) (iblk m c 2 t) : S512x2048.Idx → EReal) hy).trans
    (gates_at m c t r l (by omega))).trans ?_
  refine congrArg (gates m c) (funext fun a => Fin.ext (Eq.symm ?_))
  refine (emb5 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 2048 + l.val = l.val by omega)

/-- Result 4 of `main`'s arguments. -/
def low (c : Dev nD) : S32768x128.Idx → EReal :=
  Cert.Projection.low (m ((c : Thread nD τ).loc main_arg0)) (m ((c : Thread nD τ).loc main_arg1)) (m ((c : Thread nD τ).loc main_arg2))

theorem low_at (c : Dev nD) (t : Fin cfg0.N) (r : Fin 512) (n : Fin 128) (h : t.val * 512 + r.val < 32768) :
    (out0_6 (iblk m c 0 t) (iblk m c 1 t) (iblk m c 2 t) : S512x128.Idx → EReal) (ix2 r n) = low m c (ix2 ⟨t.val * 512 + r.val, h⟩ n) := by
  refine (out6_at _ _ _ r n).trans ((dot_blk m c t r ⟨8192 + n.val, by omega⟩ h).trans ?_)
  by_cases h3 : n.val < 32
  · refine Eq.trans ?_ (Cert.Projection.low_at _ _ _ ⟨t.val * 512 + r.val, h⟩ n h3).symm
    refine congrArg (Cert.Projection.dot _ _) (funext fun k => ?_)
    rw [V_weights]
    rw [dif_neg (show ¬ 8192 + n.val < 3072 by omega), dif_neg (show ¬ 8192 + n.val < 8192 by omega), dif_pos (show 8192 + n.val < 8224 by omega)]
    exact congrArg (fun a => (m ((c : Thread nD τ).loc main_arg2) : S1024x8224.Idx → EReal) (ix2 k a)) (Fin.ext (show 8192 + n.val - 5120 = 3072 + n.val by omega))
  · refine Eq.trans ?_ (Cert.Projection.low_pad _ _ _ ⟨t.val * 512 + r.val, h⟩ n h3).symm
    have z : ∀ k : Fin 1024, (V m c main_v5 : S1024x8320.Idx → EReal) (ix2 k ⟨8192 + n.val, by omega⟩) = (0 : EReal) := fun k => by
      rw [V_weights]
      rw [dif_neg (show ¬ 8192 + n.val < 3072 by omega), dif_neg (show ¬ 8192 + n.val < 8192 by omega), dif_neg (show ¬ 8192 + n.val < 8224 by omega)]
    exact Finset.sum_eq_zero fun k _ => (congrArg (_ * ·) (z k)).trans (mul_zero _)

theorem covers6 : (cfg0.win 6).Covers := by
  refine Window.covers_of_indexMap_surj _ rfl (fun a => ?_) fun β => ?_
  · match a with
    | ⟨0, _⟩ => exact (show 0 < 512 by omega)
    | ⟨1, _⟩ => exact (show 0 < 128 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (128 + 128 - 1) / 128 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

set_option maxHeartbeats 4000000 in
/-- The array of result 4 after the run. -/
theorem low_final (c : Dev nD) : ((dats m 0 c).arrAt 6 cfg0.N : S32768x128.Idx → EReal) = low m c := by
  refine (dats m 0 c).arrAt_eq_of_covers 6 (low m c) covers6 fun t _ y => ?_
  have ht : t.val < 64 := Nat.lt_of_lt_of_eq t.isLt N_0
  obtain ⟨r, l, hy⟩ : ∃ (r : Fin 512) (l : Fin 128), (y : S512x128.Idx) = ix2 r l := ⟨_, _, eq_ix2 (y : S512x128.Idx)⟩
  refine (show _ = (out0_6 (iblk m c 0 t) (iblk m c 1 t) (iblk m c 2 t) : S512x128.Idx → EReal) y from
    congrFun (Value.flushed6 m c t) y).trans ?_
  refine ((congrArg (out0_6 (iblk m c 0 t) (iblk m c 1 t) (iblk m c 2 t) : S512x128.Idx → EReal) hy).trans
    (low_at m c t r l (by omega))).trans ?_
  refine congrArg (low m c) (funext fun a => Fin.ext (Eq.symm ?_))
  refine (emb6 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 128 + l.val = l.val by omega)

end Cert.Kernel2Ideal.Projection

end
-- ==== Proof.Merge.Spec.lean ====
/-
# What the merge computes

A row of each mixer is multiplied by its branch's weights, the two are gated and added, the sum is multiplied by the output
weights and added to the residual row. The second result is the first one's rows after the norm, stored as rows of 128 lanes,
eight to a token.
-/
module

public import proofs.«01_k».proof.Proof.Projection.Spec

@[expose] public section

noncomputable section

namespace Cert.Merge

open Idealize.ShloMosaic

/-- The arguments of one row: the two mixers' rows, their gates before the sigmoid, the residual row, and the weights. -/
structure Row where
  gla : Fin 1024 → EReal
  hyena : Fin 1024 → EReal
  gateGla : Fin 1024 → EReal
  gateHyena : Fin 1024 → EReal
  rest : Fin 1024 → EReal
  wGla : Fin 1024 → Fin 1024 → EReal
  wHyena : Fin 1024 → Fin 1024 → EReal
  wOut : Fin 1024 → Fin 1024 → EReal

/-- Lane `j` of the gated sum of the two branches. -/
def mixed (R : Row) (j : Fin 1024) : EReal :=
  Ideal.logistic (R.gateGla j) * ∑ k, R.gla k * R.wGla k j + Ideal.logistic (R.gateHyena j) * ∑ k, R.hyena k * R.wHyena k j

/-- Lane `d` of the layer's row after the mixers. -/
def after (R : Row) (d : Fin 1024) : EReal := R.rest d + ∑ j, mixed R j * R.wOut j d

/-- Row `T` of the layer's arrays. -/
def row (og oh : (⟨2, ![32768, 1024]⟩ : Shape).Idx → EReal) (gates : (⟨2, ![32768, 2048]⟩ : Shape).Idx → EReal)
    (x : (⟨2, ![32768, 1024]⟩ : Shape).Idx → EReal) (wg wh wo : (⟨2, ![1024, 1024]⟩ : Shape).Idx → EReal) (T : Fin 32768) : Row where
  gla k := og (ix2 T k)
  hyena k := oh (ix2 T k)
  gateGla k := gates (ix2 T ⟨k.val, by omega⟩)
  gateHyena k := gates (ix2 T ⟨1024 + k.val, by omega⟩)
  rest k := x (ix2 T k)
  wGla k j := wg (ix2 k j)
  wHyena k j := wh (ix2 k j)
  wOut j d := wo (ix2 j d)

/-- The rows after the mixers. -/
def summed (og oh : (⟨2, ![32768, 1024]⟩ : Shape).Idx → EReal) (gates : (⟨2, ![32768, 2048]⟩ : Shape).Idx → EReal)
    (x : (⟨2, ![32768, 1024]⟩ : Shape).Idx → EReal) (wg wh wo : (⟨2, ![1024, 1024]⟩ : Shape).Idx → EReal)
    (i : (⟨2, ![32768, 1024]⟩ : Shape).Idx) : EReal :=
  after (row og oh gates x wg wh wo (i 0)) (i 1)

/-- Their norms, a token's 1024 lanes as eight rows. -/
def dealt (og oh : (⟨2, ![32768, 1024]⟩ : Shape).Idx → EReal) (gates : (⟨2, ![32768, 2048]⟩ : Shape).Idx → EReal)
    (x : (⟨2, ![32768, 1024]⟩ : Shape).Idx → EReal) (wg wh wo : (⟨2, ![1024, 1024]⟩ : Shape).Idx → EReal)
    (g : (⟨1, ![1024]⟩ : Shape).Idx → EReal) (i : (⟨2, ![262144, 128]⟩ : Shape).Idx) : EReal :=
  Cert.Projection.norm (after (row og oh gates x wg wh wo ⟨(i 0).val / 8, by have h : (i 0).val < 262144 := (i 0).isLt; omega⟩))
    (fun k => g (ix1 k)) ⟨(i 0).val % 8 * 128 + (i 1).val, by have h : (i 1).val < 128 := (i 1).isLt; omega⟩

variable (og oh : (⟨2, ![32768, 1024]⟩ : Shape).Idx → EReal) (gates : (⟨2, ![32768, 2048]⟩ : Shape).Idx → EReal)
  (x : (⟨2, ![32768, 1024]⟩ : Shape).Idx → EReal) (wg wh wo : (⟨2, ![1024, 1024]⟩ : Shape).Idx → EReal)
  (g : (⟨1, ![1024]⟩ : Shape).Idx → EReal)

theorem summed_at (T : Fin 32768) (d : Fin 1024) :
    summed og oh gates x wg wh wo (ix2 T d) = after (row og oh gates x wg wh wo T) d := rfl

theorem dealt_at (r : Fin 262144) (l : Fin 128) :
    dealt og oh gates x wg wh wo g (ix2 r l)
      = Cert.Projection.norm (after (row og oh gates x wg wh wo ⟨r.val / 8, by omega⟩)) (fun k => g (ix1 k)) ⟨r.val % 8 * 128 + l.val, by omega⟩ := rfl

end Cert.Merge

end
-- ==== Proof.Merge.Plain.lean ====
/-
# The plain merge's results

The plain program's operations, cut into the gated sum, the rows after the mixers and their norm.
-/
module

public import proofs.«01_k».proof.Proof.Merge.Spec
public import proofs.«01_k».proof.Proof.Gen.Reference3Ideal

@[expose] public section

set_option maxRecDepth 16384

noncomputable section

namespace Cert.Reference3Ideal.Merge

open Idealize.ShloMosaic Cert.Reference3Ideal.Gen

variable [Facts]

open Facts

/-- The gate of one branch: the sigmoid of its half of the columns. -/
def sigmoid (z : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf z)))

theorem sigmoid_at (z : FVec Ideal S32768x1024 .f32) (r : Fin 32768) (k : Fin 1024) :
    sigmoid z (ix2 r k) = Ideal.logistic (z (ix2 r k)) := by
  pointwise [sigmoid]
  rfl

/-- A product with one of the three matrices. -/
def product (x : FVec Ideal S32768x1024 .f32) (w : FVec Ideal S1024x1024 .f32) : FVec Ideal S32768x1024 .f32 :=
  Host.dotGeneral dot_S32768x1024_S1024x1024_S32768x1024_1_0_0_1_n_n none x w

theorem product_at (x : FVec Ideal S32768x1024 .f32) (w : FVec Ideal S1024x1024 .f32) (r : Fin 32768) (n : Fin 1024) :
    product x w (ix2 r n) = ∑ k, x (ix2 r k) * w (ix2 k n) := by
  pointwise [product]

variable (og oh : FVec Ideal S32768x1024 .bf16) (gates : FVec Ideal S32768x2048 .bf16) (x : FVec Ideal S32768x1024 .f32)
  (wg wh wo : FVec Ideal S1024x1024 .f32) (g : FVec Ideal S1024 .f32)

def gateGla : FVec Ideal S32768x1024 .f32 :=
  sigmoid (extractStridedSlice S32768x1024 ![0, 0] (extf .f32 gates bitsLt_bf16_f32) slices_S32768x2048_S32768x1024_0_0)

def gateHyena : FVec Ideal S32768x1024 .f32 :=
  sigmoid (extractStridedSlice S32768x1024 ![0, 1024] (extf .f32 gates bitsLt_bf16_f32) slices_S32768x2048_S32768x1024_0_1024)

theorem gateGla_at (r : Fin 32768) (k : Fin 1024) : gateGla gates (ix2 r k) = Ideal.logistic (gates (ix2 r ⟨k.val, by omega⟩)) := by
  refine (sigmoid_at _ r k).trans (congrArg Ideal.logistic ?_)
  refine (extractStridedSlice_apply _ _ _ (ix2 r k) (ix2 r ⟨k.val, by omega⟩) fun a => ?_).trans rfl
  match a with
  | ⟨0, _⟩ => exact (show r.val = 0 + r.val by omega)
  | ⟨1, _⟩ => exact (show k.val = 0 + k.val by omega)

theorem gateHyena_at (r : Fin 32768) (k : Fin 1024) : gateHyena gates (ix2 r k) = Ideal.logistic (gates (ix2 r ⟨1024 + k.val, by omega⟩)) := by
  refine (sigmoid_at _ r k).trans (congrArg Ideal.logistic ?_)
  refine (extractStridedSlice_apply _ _ _ (ix2 r k) (ix2 r ⟨1024 + k.val, by omega⟩) fun a => ?_).trans rfl
  match a with
  | ⟨0, _⟩ => exact (show r.val = 0 + r.val by omega)
  | ⟨1, _⟩ => rfl

/-- The gated sum of the branches. -/
def mixed : FVec Ideal S32768x1024 .f32 :=
  addf (mulf (gateGla gates) (product (extf .f32 og bitsLt_bf16_f32) wg)) (mulf (gateHyena gates) (product (extf .f32 oh bitsLt_bf16_f32) wh))

theorem mixed_at (r : Fin 32768) (j : Fin 1024) :
    mixed og oh gates wg wh (ix2 r j) = Cert.Merge.mixed (Cert.Merge.row og oh gates x wg wh wo r) j := by
  show gateGla gates (ix2 r j) * product (extf .f32 og bitsLt_bf16_f32) wg (ix2 r j)
    + gateHyena gates (ix2 r j) * product (extf .f32 oh bitsLt_bf16_f32) wh (ix2 r j) = _
  rw [gateGla_at, gateHyena_at, product_at, product_at]
  rfl

/-- The rows after the mixers. -/
def summed : FVec Ideal S32768x1024 .f32 := addf x (product (mixed og oh gates wg wh) wo)

theorem summed_at (r : Fin 32768) (d : Fin 1024) :
    summed og oh gates x wg wh wo (ix2 r d) = Cert.Merge.after (Cert.Merge.row og oh gates x wg wh wo r) d := by
  show x (ix2 r d) + product (mixed og oh gates wg wh) wo (ix2 r d) = _
  rw [product_at]
  simp only [mixed_at og oh gates x wg wh wo]
  rfl

theorem summed_eq : summed og oh gates x wg wh wo = Cert.Merge.summed og oh gates x wg wh wo := by
  funext j
  obtain ⟨r, l, rfl⟩ : ∃ (r : Fin 32768) (l : Fin 1024), j = ix2 r l := ⟨j 0, j 1, eq_ix2 j⟩
  exact summed_at og oh gates x wg wh wo r l

/-- The norm of all rows. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem normed_at (x : FVec Ideal S32768x1024 .f32) (g : FVec Ideal S1024 .f32) (r : Fin 32768) (k : Fin 1024) :
    normed x g (ix2 r k) = Cert.Projection.norm (fun k => x (ix2 r k)) (fun k => g (ix1 k)) k := by
  pointwise [normed, Cert.Projection.norm]

theorem dealt_eq :
    (shapeCast _ (normed (summed og oh gates x wg wh wo) g) shapeCasts_S32768x1024_S262144x128 : FVec Ideal S262144x128 .f32)
      = Cert.Merge.dealt og oh gates x wg wh wo g := by
  funext j
  obtain ⟨r, l, rfl⟩ : ∃ (r : Fin 262144) (l : Fin 128), j = ix2 r l := ⟨j 0, j 1, eq_ix2 j⟩
  have e : (fun k => summed og oh gates x wg wh wo (ix2 ⟨r.val / 8, by omega⟩ k)) = Cert.Merge.after (Cert.Merge.row og oh gates x wg wh wo ⟨r.val / 8, by omega⟩) :=
    funext fun k => summed_at og oh gates x wg wh wo _ k
  rw [Cert.Merge.dealt_at, ← e]
  generalize summed og oh gates x wg wh wo = y
  rw [← normed_at]
  generalize normed y g = z
  pointwise

end Cert.Reference3Ideal.Merge

end
-- ==== Proof.Merge.Body.lean ====
/- One grid point of the merging kernel, run once and for any floats: what the body of `cc0_merge_route` leaves in its four
   output blocks, as functions of the blocks it reads.

   The first output is the sum of the residual rows and the merged branches, the second its normalised rows dealt to rows of
   128 lanes by eight strided stores, the other two what the router chooses. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.ValueIdxCore
public import Idealize.ShloMosaic.Lib.Tactic

@[expose] public section

set_option maxRecDepth 16384

noncomputable section

namespace Cert.Kernel3Ideal.Merge

open Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The boxes that the body loads and stores -/

abbrev r512x1024 : Rect S512x1024 := Rect.unit (s := S512x1024) ![0, 0] S512x1024.size inb_S512x1024_S512x1024_0_0
abbrev r1024x1024 : Rect S1024x1024 := Rect.unit (s := S1024x1024) ![0, 0] S1024x1024.size inb_S1024x1024_S1024x1024_0_0
abbrev rLeft : Rect S512x2048 := Rect.unit (s := S512x2048) ![0, 0] S512x1024.size inb_S512x2048_S512x1024_0_0
abbrev rRight : Rect S512x2048 := Rect.unit (s := S512x2048) ![0, 1024] S512x1024.size inb_S512x2048_S512x1024_0_1024
abbrev r1x1024 : Rect S1x1024 := Rect.unit (s := S1x1024) ![0, 0] S1x1024.size inb_S1x1024_S1x1024_0_0
abbrev r1024x256 : Rect S1024x256 := Rect.unit (s := S1024x256) ![0, 0] S1024x256.size inb_S1024x256_S1024x256_0_0
abbrev rHigh : Rect S1024x256 := Rect.unit (s := S1024x256) ![0, 0] S1024x128.size inb_S1024x256_S1024x128_0_0
abbrev r1x128 : Rect S1x128 := Rect.unit (s := S1x128) ![0, 0] S1x128.size inb_S1x128_S1x128_0_0
abbrev r512x4 : Rect S512x4 := Rect.unit (s := S512x4) ![0, 0] S512x4.size inb_S512x4_S512x4_0_0
abbrev r512x128 : Rect S512x128 := Rect.unit (s := S512x128) ![0, 0] S512x128.size inb_S512x128_S512x128_0_0

/-! ## What a point leaves -/

/-- The rows over their root mean square, before the norm's weights. -/
def scaled (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) : FVec F S512x1024 .f32 :=
  k0_pay5 (View.ld x0 r512x1024) (View.ld x4 r1024x1024) (View.ld x1 r512x1024) (View.ld x5 r1024x1024) (View.ld x2 rLeft) (View.ld x2 rRight) (View.ld x3 r512x1024) (View.ld x6 r1024x1024)

/-- The first output: the residual rows with the merged branches added. -/
def summed (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) : Vec F S512x1024 .f32 :=
  View.canon [⟨r512x1024, k0_pay4 (View.ld x0 r512x1024) (View.ld x4 r1024x1024) (View.ld x1 r512x1024) (View.ld x5 r1024x1024) (View.ld x2 rLeft) (View.ld x2 rRight) (View.ld x3 r512x1024) (View.ld x6 r1024x1024)⟩]

/-- The second output: the normalised rows, eight strided stores of 128 columns each. -/
def dealt (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) : Vec F S4096x128 .f32 :=
  View.canon [⟨⟨⟨![7, 0], S512x128.size, ![8, 1], inb_S4096x128_S512x128_7_0_s_8_1⟩, spos_8_1⟩, k0_pay14 (scaled x0 x1 x2 x3 x4 x5 x6) (View.ld x7 r1x1024)⟩,
     ⟨⟨⟨![6, 0], S512x128.size, ![8, 1], inb_S4096x128_S512x128_6_0_s_8_1⟩, spos_8_1⟩, k0_pay13 (scaled x0 x1 x2 x3 x4 x5 x6) (View.ld x7 r1x1024)⟩,
     ⟨⟨⟨![5, 0], S512x128.size, ![8, 1], inb_S4096x128_S512x128_5_0_s_8_1⟩, spos_8_1⟩, k0_pay12 (scaled x0 x1 x2 x3 x4 x5 x6) (View.ld x7 r1x1024)⟩,
     ⟨⟨⟨![4, 0], S512x128.size, ![8, 1], inb_S4096x128_S512x128_4_0_s_8_1⟩, spos_8_1⟩, k0_pay11 (scaled x0 x1 x2 x3 x4 x5 x6) (View.ld x7 r1x1024)⟩,
     ⟨⟨⟨![3, 0], S512x128.size, ![8, 1], inb_S4096x128_S512x128_3_0_s_8_1⟩, spos_8_1⟩, k0_pay10 (scaled x0 x1 x2 x3 x4 x5 x6) (View.ld x7 r1x1024)⟩,
     ⟨⟨⟨![2, 0], S512x128.size, ![8, 1], inb_S4096x128_S512x128_2_0_s_8_1⟩, spos_8_1⟩, k0_pay9 (scaled x0 x1 x2 x3 x4 x5 x6) (View.ld x7 r1x1024)⟩,
     ⟨⟨⟨![1, 0], S512x128.size, ![8, 1], inb_S4096x128_S512x128_1_0_s_8_1⟩, spos_8_1⟩, k0_pay8 (scaled x0 x1 x2 x3 x4 x5 x6) (View.ld x7 r1x1024)⟩,
     ⟨⟨⟨![0, 0], S512x128.size, ![8, 1], inb_S4096x128_S512x128_0_0_s_8_1⟩, spos_8_1⟩, k0_pay7 (scaled x0 x1 x2 x3 x4 x5 x6) (View.ld x7 r1x1024)⟩]

/-- What the router computes from the normalised rows, their rounding error and its weights: the four rounds' scores and choices. -/
structure Rounds where
  scores : FVec F S32x512 .f32
  best0 : FVec F S1x512 .f32
  best1 : FVec F S1x512 .f32
  best2 : FVec F S1x512 .f32
  expert0 : IVec S1x512 32
  expert1 : IVec S1x512 32
  expert2 : IVec S1x512 32
  taken : IVec S32x512 1

/-- The first three rounds. -/
def rounds (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Rounds (F := F) :=
  let e := k0_pay16 (scaled x0 x1 x2 x3 x4 x5 x6) (View.ld x7 r1x1024)
  let p := k0_pay17 (scaled x0 x1 x2 x3 x4 x5 x6) (View.ld x7 r1x1024) (View.ld x8 r1024x256)
  let w := k0_pay18 (View.ld x8 rHigh)
  let b := View.ld x9 r1x128
  ⟨k0_pay25 e p w b, k0_pay20 e p w b, k0_pay23 e p w b, k0_pay26 e p w b, k0_pay21 e p w b, k0_pay24 e p w b, k0_pay27 e p w b, k0_pay28 e p w b⟩

/-- The third output: the four experts of each row. -/
def picked (R : Rounds (F := F)) : IVec S512x4 32 :=
  k0_pay2 (F := F) R.expert2 (k0_pay31 (iota .tc S32x512 32 [0] iota_S32x512_d0_w32) R.scores R.taken) (iota .tc S8x512 32 [0] iota_S8x512_d0_w32) (k0_pay38 (F := F) R.expert0 R.expert1)

/-- The fourth output: their weights. -/
def shares (R : Rounds (F := F)) : FVec F S512x128 .f32 :=
  k0_pay3 (k0_pay34 R.best0 R.best2) (k0_pay35 R.best0 R.scores R.taken) (k0_pay36 R.best0 R.best1 R.scores R.best2 R.taken) (iota .tc S8x512 32 [0] iota_S8x512_d0_w32)
    (k0_pay37 R.best0 R.best1 R.scores R.best2 R.taken) k0_pay39 (k0_pay40 R.best0 R.best1 R.scores R.best2 R.taken)

def chosen (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Vec F S512x4 .i32 :=
  View.canon [⟨r512x4, picked (rounds x0 x1 x2 x3 x4 x5 x6 x7 x8 x9)⟩]

def weights (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Vec F S512x128 .f32 :=
  View.canon [⟨r512x128, shares (rounds x0 x1 x2 x3 x4 x5 x6 x7 x8 x9)⟩]

/-! ## The stores fill their blocks -/

theorem cover512x1024 (p : Vec F S512x1024 .f32) (y : S512x1024.Idx) :
    ∃ pc ∈ ([⟨r512x1024, p⟩] : List (View.Piece (Elt F) S512x1024 .f32)), y ∈ pc.1.set :=
  View.cover_of_tiled [⟨r512x1024, p⟩] S512x1024.size (by rfl) y

theorem cover512x4 (p : Vec F S512x4 .i32) (y : S512x4.Idx) :
    ∃ pc ∈ ([⟨r512x4, p⟩] : List (View.Piece (Elt F) S512x4 .i32)), y ∈ pc.1.set :=
  View.cover_of_tiled [⟨r512x4, p⟩] S512x4.size (by rfl) y

theorem cover512x128 (p : Vec F S512x128 .f32) (y : S512x128.Idx) :
    ∃ pc ∈ ([⟨r512x128, p⟩] : List (View.Piece (Elt F) S512x128 .f32)), y ∈ pc.1.set :=
  View.cover_of_tiled [⟨r512x128, p⟩] S512x128.size (by rfl) y

/-- Row `r` of the second block lies in the store of its remainder by eight. -/
theorem mem_piece (y : S4096x128.Idx) (s : ℕ) (hs : (y 0).val % 8 = s) (inb) (sp) :
    y ∈ (⟨⟨![s, 0], S512x128.size, ![8, 1], inb⟩, sp⟩ : Rect S4096x128).set := by
  refine (LoadRect.mem_set _).mpr fun a => ?_
  have h0 : (y 0).val < 4096 := (y 0).isLt
  have h1 : (y 1).val < 128 := (y 1).isLt
  match a with
  | ⟨0, _⟩ => exact ⟨(y 0).val / 8, by show (y 0).val / 8 < 512; omega, by show (y 0).val = s + 8 * ((y 0).val / 8); omega⟩
  | ⟨1, _⟩ => exact ⟨(y 1).val, h1, by show (y 1).val = 0 + 1 * (y 1).val; omega⟩

theorem covered (p7 p6 p5 p4 p3 p2 p1 p0 : Vec F S512x128 .f32) (y : S4096x128.Idx) :
    ∃ p ∈ ([⟨⟨⟨![7, 0], S512x128.size, ![8, 1], inb_S4096x128_S512x128_7_0_s_8_1⟩, spos_8_1⟩, p7⟩,
     ⟨⟨⟨![6, 0], S512x128.size, ![8, 1], inb_S4096x128_S512x128_6_0_s_8_1⟩, spos_8_1⟩, p6⟩,
     ⟨⟨⟨![5, 0], S512x128.size, ![8, 1], inb_S4096x128_S512x128_5_0_s_8_1⟩, spos_8_1⟩, p5⟩,
     ⟨⟨⟨![4, 0], S512x128.size, ![8, 1], inb_S4096x128_S512x128_4_0_s_8_1⟩, spos_8_1⟩, p4⟩,
     ⟨⟨⟨![3, 0], S512x128.size, ![8, 1], inb_S4096x128_S512x128_3_0_s_8_1⟩, spos_8_1⟩, p3⟩,
     ⟨⟨⟨![2, 0], S512x128.size, ![8, 1], inb_S4096x128_S512x128_2_0_s_8_1⟩, spos_8_1⟩, p2⟩,
     ⟨⟨⟨![1, 0], S512x128.size, ![8, 1], inb_S4096x128_S512x128_1_0_s_8_1⟩, spos_8_1⟩, p1⟩,
     ⟨⟨⟨![0, 0], S512x128.size, ![8, 1], inb_S4096x128_S512x128_0_0_s_8_1⟩, spos_8_1⟩, p0⟩]
      : List (View.Piece (Elt F) S4096x128 .f32)), y ∈ p.1.set := by
  have hy : (y 0).val % 8 < 8 := Nat.mod_lt _ (by decide)
  generalize hs : (y 0).val % 8 = s at hy
  simp only [List.exists_mem_cons_iff]
  interval_cases s
  · exact .inr (.inr (.inr (.inr (.inr (.inr (.inr (.inl (mem_piece y 0 hs _ spos_8_1))))))))
  · exact .inr (.inr (.inr (.inr (.inr (.inr (.inl (mem_piece y 1 hs _ spos_8_1)))))))
  · exact .inr (.inr (.inr (.inr (.inr (.inl (mem_piece y 2 hs _ spos_8_1))))))
  · exact .inr (.inr (.inr (.inr (.inl (mem_piece y 3 hs _ spos_8_1)))))
  · exact .inr (.inr (.inr (.inl (mem_piece y 4 hs _ spos_8_1))))
  · exact .inr (.inr (.inl (mem_piece y 5 hs _ spos_8_1)))
  · exact .inr (.inl (mem_piece y 6 hs _ spos_8_1))
  · exact .inl (mem_piece y 7 hs _ spos_8_1)

/-! ## The body -/

set_option maxHeartbeats 4000000 in
/-- The body on whole buffers, the inputs at their blocks and the outputs at anything, leaves the inputs as they were and the
    four outputs as above. -/
theorem sound_body (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S4096x128 .f32) (harg12 : arg12.IsWhole) (arg13 : Memref sig .tc .vmem S512x4 .i32) (harg13 : arg13.IsWhole) (arg14 : Memref sig .tc .vmem S512x128 .f32) (harg14 : arg14.IsWhole)
    (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (summed x0 x1 x2 x3 x4 x5 x6) ∗ owns (c : Thread nD τ) arg12 fullShare (dealt x0 x1 x2 x3 x4 x5 x6 x7) ∗ owns (c : Thread nD τ) arg13 fullShare (chosen x0 x1 x2 x3 x4 x5 x6 x7 x8 x9) ∗ owns (c : Thread nD τ) arg14 fullShare (weights x0 x1 x2 x3 x4 x5 x6 x7 x8 x9)) -∗ K ⟨⟩))
      ⊢ wp frame (wpE (defs₀ (F := F)) Variants.none c none) Set.univ
          (cc0_merge_route i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_merge_route_eq_skeleton]; unfold cc0_merge_route_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0
    isplitr
    · ipureintro
      rfl
    iexact H0
  isplitl [H1]
  · iexists f1
    isplitr
    · ipureintro
      rfl
    iexact H1
  isplitl [H2]
  · iexists f2
    isplitr
    · ipureintro
      rfl
    iexact H2
  isplitl [H3]
  · iexists f3
    isplitr
    · ipureintro
      rfl
    iexact H3
  isplitl [H4]
  · iexists f4
    isplitr
    · ipureintro
      rfl
    iexact H4
  isplitl [H5]
  · iexists f5
    isplitr
    · ipureintro
      rfl
    iexact H5
  isplitl [H6]
  · iexists f6
    isplitr
    · ipureintro
      rfl
    iexact H6
  isplitl [H7]
  · iexists f7
    isplitr
    · ipureintro
      rfl
    iexact H7
  isplitl [H8]
  · iexists f8
    isplitr
    · ipureintro
      rfl
    iexact H8
  isplitl [H9]
  · iexists f9
    isplitr
    · ipureintro
      rfl
    iexact H9
  isplitl [H10]
  · iexists _
    isplitr
    rotate_left
    · iexact H10
    ipureintro
    exact View.read_writes_eq_canon _ _ _ (cover512x1024 _)
  isplitl [H11]
  · iexists _
    isplitr
    rotate_left
    · iexact H11
    ipureintro
    exact View.read_writes_eq_canon _ _ _ (covered _ _ _ _ _ _ _ _)
  isplitl [H12]
  · iexists _
    isplitr
    rotate_left
    · iexact H12
    ipureintro
    simp only [chosen, picked, rounds]
    exact View.read_writes_eq_canon _ _ _ (cover512x4 _)
  iexists _
  isplitr
  rotate_left
  · iexact H13
  ipureintro
  simp only [weights, shares, rounds]
  exact View.read_writes_eq_canon _ _ _ (cover512x128 _)

end Cert.Kernel3Ideal.Merge

end
-- ==== Proof.Merge.Tile.lean ====
/-
# One step of the merging kernel

The first two blocks that a step leaves, entry by entry, from the blocks it reads.
-/
module

public import proofs.«01_k».proof.Proof.Merge.Spec
public import proofs.«01_k».proof.Proof.Merge.Body
public import proofs.«01_k».proof.Proof.Body
public import Idealize.ShloMosaic.Lib.Pointwise
public import Idealize.ShloMosaic.Lib.Pipeline.ValueKit

@[expose] public section

set_option maxRecDepth 16384

noncomputable section

namespace Cert.Kernel3Ideal.Merge

open Cert.Kernel3Ideal.Gen Idealize.ShloMosaic Idealize.ShloMosaic.TcCoe

/-- A product of a block of rows with one of the three matrices. -/
def times (x : FVec Ideal S512x1024 .bf16) (w : FVec Ideal S1024x1024 .bf16) : FVec Ideal S512x1024 .f32 :=
  matmul dot_S512x1024_S1024x1024_S512x1024_1_0_0_1_n_n none x (shapeCast S1024x1024 w shapeCasts_S1024x1024_S1024x1024) (constant S512x1024 .f32 0x00000000#32)

theorem times_at (x : FVec Ideal S512x1024 .bf16) (w : FVec Ideal S1024x1024 .bf16) (r : Fin 512) (n : Fin 1024) :
    times x w (ix2 r n) = ∑ k, x (ix2 r k) * w (ix2 k n) := by
  pointwise [times]

/-- The gated sum of the branches of a block of rows. -/
def mix (og : FVec Ideal S512x1024 .bf16) (wg : FVec Ideal S1024x1024 .bf16) (oh : FVec Ideal S512x1024 .bf16) (wh : FVec Ideal S1024x1024 .bf16)
    (zg zh : FVec Ideal S512x1024 .bf16) : FVec Ideal S512x1024 .bf16 :=
  truncf .bf16 (addf (mulf (logistic (extf .f32 zg bitsLt_bf16_f32)) (times og wg)) (mulf (logistic (extf .f32 zh bitsLt_bf16_f32)) (times oh wh))) bitsLt_bf16_f32

/-- A row of a step. -/
def blockRow (og oh : FVec Ideal S512x1024 .bf16) (zg zh : FVec Ideal S512x1024 .bf16) (x : FVec Ideal S512x1024 .f32)
    (wg wh wo : FVec Ideal S1024x1024 .bf16) (r : Fin 512) : Cert.Merge.Row where
  gla k := og (ix2 r k)
  hyena k := oh (ix2 r k)
  gateGla k := zg (ix2 r k)
  gateHyena k := zh (ix2 r k)
  rest k := x (ix2 r k)
  wGla k j := wg (ix2 k j)
  wHyena k j := wh (ix2 k j)
  wOut j d := wo (ix2 j d)

variable (og oh zg zh : FVec Ideal S512x1024 .bf16) (x : FVec Ideal S512x1024 .f32) (wg wh wo : FVec Ideal S1024x1024 .bf16)

theorem mix_at (r : Fin 512) (j : Fin 1024) :
    mix og wg oh wh zg zh (ix2 r j) = Cert.Merge.mixed (blockRow og oh zg zh x wg wh wo r) j := by
  show Ideal.logistic (zg (ix2 r j)) * times og wg (ix2 r j) + Ideal.logistic (zh (ix2 r j)) * times oh wh (ix2 r j) = _
  rw [times_at, times_at]
  rfl

theorem pay4_eq : k0_pay4 (F := Ideal) og wg oh wh zg zh x wo = addf x (times (mix og wg oh wh zg zh) wo) := rfl

theorem pay4_at (r : Fin 512) (d : Fin 1024) :
    k0_pay4 (F := Ideal) og wg oh wh zg zh x wo (ix2 r d) = Cert.Merge.after (blockRow og oh zg zh x wg wh wo r) d := by
  rw [pay4_eq]
  show x (ix2 r d) + times (mix og wg oh wh zg zh) wo (ix2 r d) = _
  rw [times_at]
  simp only [mix_at og oh zg zh x wg wh wo]
  rfl

theorem pay6_at (g : Vec Ideal S1x1024 .f32) (r : Fin 512) (k : Fin 1024) :
    k0_pay6 (F := Ideal) (k0_pay5 og wg oh wh zg zh x wo) g (ix2 r k)
      = Cert.Projection.norm (Cert.Merge.after (blockRow og oh zg zh x wg wh wo r)) (fun k => g (ix2 0 k)) k := by
  have e : (fun d => k0_pay4 (F := Ideal) og wg oh wh zg zh x wo (ix2 r d)) = Cert.Merge.after (blockRow og oh zg zh x wg wh wo r) :=
    funext fun d => pay4_at og oh zg zh x wg wh wo r d
  rw [← e]
  unfold k0_pay6 k0_pay5
  generalize k0_pay4 (F := Ideal) og wg oh wh zg zh x wo = y
  pointwise [Cert.Projection.norm]

/-! ## The two blocks -/

variable (x0 x1 : Vec Ideal S512x1024 .bf16) (x2 : Vec Ideal S512x2048 .bf16) (x3 : Vec Ideal S512x1024 .f32)
  (x4 x5 x6 : Vec Ideal S1024x1024 .bf16) (x7 : Vec Ideal S1x1024 .f32)

/-- A row of a step, from the blocks. -/
def readRow (r : Fin 512) : Cert.Merge.Row where
  gla k := x0 (ix2 r k)
  hyena k := x1 (ix2 r k)
  gateGla k := x2 (ix2 r ⟨k.val, by omega⟩)
  gateHyena k := x2 (ix2 r ⟨1024 + k.val, by omega⟩)
  rest k := x3 (ix2 r k)
  wGla k j := x4 (ix2 k j)
  wHyena k j := x5 (ix2 k j)
  wOut j d := x6 (ix2 j d)

theorem ld512 {e : EltTy} (v : Vec Ideal S512x1024 e) : View.ld v r512x1024 = v := View.ld_unit_lit _ _ (by decide)
theorem ld1024 (v : Vec Ideal S1024x1024 .bf16) : View.ld v r1024x1024 = v := View.ld_unit_lit _ _ (by decide)

theorem ld_norm (v : Vec Ideal S1x1024 .f32) : View.ld v r1x1024 = v := View.ld_unit_lit _ _ (by decide)

theorem row_eq (r : Fin 512) :
    blockRow (View.ld x0 r512x1024) (View.ld x1 r512x1024) (View.ld x2 rLeft) (View.ld x2 rRight) (View.ld x3 r512x1024) (View.ld x4 r1024x1024)
      (View.ld x5 r1024x1024) (View.ld x6 r1024x1024) r = readRow x0 x1 x2 x3 x4 x5 x6 r := by
  rw [ld512, ld512, ld512, ld1024, ld1024, ld1024]
  unfold blockRow readRow
  congr 1
  · funext k
    refine congrArg x2 (funext fun a => Fin.ext ?_)
    match a with
    | ⟨0, _⟩ => exact (show 0 + 1 * r.val = r.val by omega)
    | ⟨1, _⟩ => exact (show 0 + 1 * k.val = k.val by omega)
  · funext k
    refine congrArg x2 (funext fun a => Fin.ext ?_)
    match a with
    | ⟨0, _⟩ => exact (show 0 + 1 * r.val = r.val by omega)
    | ⟨1, _⟩ => exact (show 1024 + 1 * k.val = 1024 + k.val by omega)

theorem summed_at (r : Fin 512) (d : Fin 1024) :
    summed x0 x1 x2 x3 x4 x5 x6 (ix2 r d) = Cert.Merge.after (readRow x0 x1 x2 x3 x4 x5 x6 r) d := by
  unfold summed
  rw [View.canon_cons_unit_lit _ _ _ (by decide), pay4_at, row_eq]

/-- The eight strided stores deal the normalised rows. -/
theorem dealt_eq : dealt x0 x1 x2 x3 x4 x5 x6 x7 = Cert.KernelIdeal.Experts.deal (F := Ideal) (k0_pay6 (scaled x0 x1 x2 x3 x4 x5 x6) (View.ld x7 r1x1024)) := by
  funext y
  unfold dealt
  refine View.canon_apply_of_pieces (Cert.KernelIdeal.Experts.deal (F := Ideal) (k0_pay6 (scaled x0 x1 x2 x3 x4 x5 x6) (View.ld x7 r1x1024))) _ ?_ y (covered _ _ _ _ _ _ _ _ y)
  simp only [List.forall_mem_cons]
  exact ⟨fun x => Cert.KernelIdeal.Experts.slice_deal 7 896 (by decide) rfl (k0_pay6 (scaled x0 x1 x2 x3 x4 x5 x6) (View.ld x7 r1x1024)) slices_S512x1024_o0_896_S512x128 inb_S4096x128_S512x128_7_0_s_8_1 spos_8_1 x,
    fun x => Cert.KernelIdeal.Experts.slice_deal 6 768 (by decide) rfl (k0_pay6 (scaled x0 x1 x2 x3 x4 x5 x6) (View.ld x7 r1x1024)) slices_S512x1024_o0_768_S512x128 inb_S4096x128_S512x128_6_0_s_8_1 spos_8_1 x,
    fun x => Cert.KernelIdeal.Experts.slice_deal 5 640 (by decide) rfl (k0_pay6 (scaled x0 x1 x2 x3 x4 x5 x6) (View.ld x7 r1x1024)) slices_S512x1024_o0_640_S512x128 inb_S4096x128_S512x128_5_0_s_8_1 spos_8_1 x,
    fun x => Cert.KernelIdeal.Experts.slice_deal 4 512 (by decide) rfl (k0_pay6 (scaled x0 x1 x2 x3 x4 x5 x6) (View.ld x7 r1x1024)) slices_S512x1024_o0_512_S512x128 inb_S4096x128_S512x128_4_0_s_8_1 spos_8_1 x,
    fun x => Cert.KernelIdeal.Experts.slice_deal 3 384 (by decide) rfl (k0_pay6 (scaled x0 x1 x2 x3 x4 x5 x6) (View.ld x7 r1x1024)) slices_S512x1024_o0_384_S512x128 inb_S4096x128_S512x128_3_0_s_8_1 spos_8_1 x,
    fun x => Cert.KernelIdeal.Experts.slice_deal 2 256 (by decide) rfl (k0_pay6 (scaled x0 x1 x2 x3 x4 x5 x6) (View.ld x7 r1x1024)) slices_S512x1024_o0_256_S512x128 inb_S4096x128_S512x128_2_0_s_8_1 spos_8_1 x,
    fun x => Cert.KernelIdeal.Experts.slice_deal 1 128 (by decide) rfl (k0_pay6 (scaled x0 x1 x2 x3 x4 x5 x6) (View.ld x7 r1x1024)) slices_S512x1024_o0_128_S512x128 inb_S4096x128_S512x128_1_0_s_8_1 spos_8_1 x,
    fun x => Cert.KernelIdeal.Experts.slice_deal 0 0 (by decide) rfl (k0_pay6 (scaled x0 x1 x2 x3 x4 x5 x6) (View.ld x7 r1x1024)) slices_S512x1024_o0_0_S512x128 inb_S4096x128_S512x128_0_0_s_8_1 spos_8_1 x,
    by simp⟩

theorem dealt_at (r : Fin 4096) (l : Fin 128) :
    dealt x0 x1 x2 x3 x4 x5 x6 x7 (ix2 r l)
      = Cert.Projection.norm (Cert.Merge.after (readRow x0 x1 x2 x3 x4 x5 x6 ⟨r.val / 8, by omega⟩)) (fun k => x7 (ix2 0 k)) ⟨r.val % 8 * 128 + l.val, by omega⟩ := by
  have h : dealt x0 x1 x2 x3 x4 x5 x6 x7 (ix2 r l) = k0_pay6 (scaled x0 x1 x2 x3 x4 x5 x6) (View.ld x7 r1x1024) (ix2 ⟨r.val / 8, by omega⟩ ⟨r.val % 8 * 128 + l.val, by omega⟩) := by
    rw [dealt_eq]
    refine congrArg (k0_pay6 (scaled x0 x1 x2 x3 x4 x5 x6) (View.ld x7 r1x1024)) (funext fun a => Fin.ext ?_)
    match a with
    | ⟨0, _⟩ => rfl
    | ⟨1, _⟩ => exact (show 128 * (r.val % 8) + l.val = r.val % 8 * 128 + l.val by omega)
  rw [h]
  unfold scaled
  rw [pay6_at, row_eq, ld_norm]

end Cert.Kernel3Ideal.Merge

end
-- ==== Proof.Merge.Run.lean ====
/- The launch of the merging kernel, for any floats: the host prepares the router's weights and the branches' matrices, the
   pipeline then runs the body at its 64 points, and what each output array holds in the end is what the pipeline library
   computes from the blocks that `Body` describes. -/
module

public import proofs.«01_k».proof.Proof.Merge.Body
public import Idealize.ShloMosaic.Lib.Claim

@[expose] public section

set_option maxRecDepth 16384

noncomputable section

namespace Cert.Kernel3Ideal.Merge

open Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipeline -/

/-- The buffers of core `c` when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is as launched. -/
theorem untouched (c : Dev nD) (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  untouched m c main_arg0 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  untouched m c main_arg1 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  untouched m c main_arg2 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  untouched m c main_arg3 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  untouched m c main_arg4 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  untouched m c main_arg5 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  untouched m c main_arg6 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg7 (c : Dev nD) : V m c main_arg7 = m ((c : Thread nD τ).loc main_arg7) :=
  untouched m c main_arg7 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg8 (c : Dev nD) : V m c main_arg8 = m ((c : Thread nD τ).loc main_arg8) :=
  untouched m c main_arg8 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg9 (c : Dev nD) : V m c main_arg9 = m ((c : Thread nD τ).loc main_arg9) :=
  untouched m c main_arg9 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))

/-! ## The pipeline's data -/

/-- Window `w`'s block at point `t`, as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- After the body each input's buffer is at its block and each output's at what `Body` says of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => summed (iblk m c 0 t) (iblk m c 1 t) (iblk m c 2 t) (iblk m c 3 t) (iblk m c 4 t) (iblk m c 5 t) (iblk m c 6 t)
    | ⟨11, _⟩ => dealt (iblk m c 0 t) (iblk m c 1 t) (iblk m c 2 t) (iblk m c 3 t) (iblk m c 4 t) (iblk m c 5 t) (iblk m c 6 t) (iblk m c 7 t)
    | ⟨12, _⟩ => chosen (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => weights (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = summed (iblk m c 0 t) (iblk m c 1 t) (iblk m c 2 t) (iblk m c 3 t) (iblk m c 4 t) (iblk m c 5 t) (iblk m c 6 t) := by dsimp only [dats]
theorem after_11 (c : Dev nD) (t : Fin cfg0.N) : (dats m 0 c).after 11 t = dealt (iblk m c 0 t) (iblk m c 1 t) (iblk m c 2 t) (iblk m c 3 t) (iblk m c 4 t) (iblk m c 5 t) (iblk m c 6 t) (iblk m c 7 t) := by dsimp only [dats]
theorem after_12 (c : Dev nD) (t : Fin cfg0.N) : (dats m 0 c).after 12 t = chosen (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_13 (c : Dev nD) (t : Fin cfg0.N) : (dats m 0 c).after 13 t = weights (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! An input's buffer holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _
    iexact H10
  isplitl [H11]
  · iexists _
    iexact H11
  isplitl [H12]
  · iexists _
    iexact H12
  isplitl [H13]
  · iexists _
    iexact H13
  iintro ⟨H0, H1, H2, H3, H4, H5, H6, H7, H8, H9, H10, H11, H12, H13⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ## The run and the frame -/

set_option backward.isDefEq.respectTransparency.types false in
set_option maxHeartbeats 800000 in
/-- The launch: every weakly fair execution terminates with the pipeline's arrays at what the data says, every other unscoped
    buffer as the pipeline found it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The ten argument arrays end as launched. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run m ρ)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (kept m ρ) ((θ_run defs _ _).mono (fun _ h => h.2) (run_quiescent m ρ))

end Cert.Kernel3Ideal.Merge

end
-- ==== Proof.Merge.Value.lean ====
/-
# The merging kernel's results

The matrices and the norm's weights as the pipeline finds them, a step's blocks, and the first two arrays at the end.
-/
module

public import proofs.«01_k».proof.Proof.Merge.Tile
public import proofs.«01_k».proof.Proof.Merge.Run
public import Idealize.ShloMosaic.Lib.Pipeline.Covers

@[expose] public section

set_option maxRecDepth 16384

noncomputable section

namespace Cert.Kernel3Ideal.Merge

open Cert.Kernel3Ideal.Gen Idealize.ShloMosaic Idealize.ShloMosaic.TcCoe Idealize.SL.Sem
open Idealize.ShloMosaic.Pipeline (Dat Cfg Window)

variable (m : (ℓ : Loc nD τ sig) → Buf (Elt Ideal) ℓ)

/-! ## What the pipeline finds -/

/-- The norm's weights as a row. -/
theorem V_norm (c : Dev nD) (k : Fin 1024) :
    (V m c main_v16 : FVec Ideal S1x1024 .f32) (ix2 0 k) = (m ((c : Thread nD τ).loc main_arg7) : FVec Ideal S1024 .f32) (ix1 k) := by
  have h : (V m c main_v16 : FVec Ideal S1x1024 .f32) = shapeCast _ (m ((c : Thread nD τ).loc main_arg7) : FVec Ideal S1024 .f32) shapeCasts_S1024_S1x1024 := by
    unfold V hostOps0
    after_results
    rfl
  rw [h]
  pointwise

/-- The first branch's matrix. -/
theorem V_mat4 (c : Dev nD) (k j : Fin 1024) :
    (V m c main_v13 : S1024x1024.Idx → EReal) (ix2 k j) = (m ((c : Thread nD τ).loc main_arg4) : S1024x1024.Idx → EReal) (ix2 k j) := by
  have h : (V m c main_v13 : FVec Ideal S1024x1024 .bf16) = (truncf .bf16 (m ((c : Thread nD τ).loc main_arg4) : FVec Ideal S1024x1024 .f32) bitsLt_bf16_f32 : FVec Ideal S1024x1024 .bf16) := by
    unfold V hostOps0
    after_results
  rw [h]
  rfl

/-- The second branch's matrix. -/
theorem V_mat5 (c : Dev nD) (k j : Fin 1024) :
    (V m c main_v14 : S1024x1024.Idx → EReal) (ix2 k j) = (m ((c : Thread nD τ).loc main_arg5) : S1024x1024.Idx → EReal) (ix2 k j) := by
  have h : (V m c main_v14 : FVec Ideal S1024x1024 .bf16) = (truncf .bf16 (m ((c : Thread nD τ).loc main_arg5) : FVec Ideal S1024x1024 .f32) bitsLt_bf16_f32 : FVec Ideal S1024x1024 .bf16) := by
    unfold V hostOps0
    after_results
  rw [h]
  rfl

/-- The output matrix. -/
theorem V_mat6 (c : Dev nD) (k j : Fin 1024) :
    (V m c main_v15 : S1024x1024.Idx → EReal) (ix2 k j) = (m ((c : Thread nD τ).loc main_arg6) : S1024x1024.Idx → EReal) (ix2 k j) := by
  have h : (V m c main_v15 : FVec Ideal S1024x1024 .bf16) = (truncf .bf16 (m ((c : Thread nD τ).loc main_arg6) : FVec Ideal S1024x1024 .f32) bitsLt_bf16_f32 : FVec Ideal S1024x1024 .bf16) := by
    unfold V hostOps0
    after_results
  rw [h]
  rfl

/-! ## A step's blocks -/

theorem coords_val (t : Fin cfg0.N) : ((grid0.coords t) 0).val = t.val :=
  (by decide +kernel : ∀ t : Fin grid0.N, ((grid0.coords t) 0).val = t.val) t

theorem emb0 (t : Fin cfg0.N) (y : ((cfg0.win 0).xblock (cfg0.grid.coords t)).Idx) (a : Fin 2) :
    ((((cfg0.win 0).rect t).emb y a : Fin _) : ℕ) = (cfg0.win 0).index t a * (cfg0.win 0).size a + (y a : Fin _).val :=
  (cfg0.win 0).rect_emb_val t y a rfl

theorem emb1 (t : Fin cfg0.N) (y : ((cfg0.win 1).xblock (cfg0.grid.coords t)).Idx) (a : Fin 2) :
    ((((cfg0.win 1).rect t).emb y a : Fin _) : ℕ) = (cfg0.win 1).index t a * (cfg0.win 1).size a + (y a : Fin _).val :=
  (cfg0.win 1).rect_emb_val t y a rfl

theorem emb2 (t : Fin cfg0.N) (y : ((cfg0.win 2).xblock (cfg0.grid.coords t)).Idx) (a : Fin 2) :
    ((((cfg0.win 2).rect t).emb y a : Fin _) : ℕ) = (cfg0.win 2).index t a * (cfg0.win 2).size a + (y a : Fin _).val :=
  (cfg0.win 2).rect_emb_val t y a rfl

theorem emb3 (t : Fin cfg0.N) (y : ((cfg0.win 3).xblock (cfg0.grid.coords t)).Idx) (a : Fin 2) :
    ((((cfg0.win 3).rect t).emb y a : Fin _) : ℕ) = (cfg0.win 3).index t a * (cfg0.win 3).size a + (y a : Fin _).val :=
  (cfg0.win 3).rect_emb_val t y a rfl

theorem emb4 (t : Fin cfg0.N) (y : ((cfg0.win 4).xblock (cfg0.grid.coords t)).Idx) (a : Fin 2) :
    ((((cfg0.win 4).rect t).emb y a : Fin _) : ℕ) = (cfg0.win 4).index t a * (cfg0.win 4).size a + (y a : Fin _).val :=
  (cfg0.win 4).rect_emb_val t y a rfl

theorem emb5 (t : Fin cfg0.N) (y : ((cfg0.win 5).xblock (cfg0.grid.coords t)).Idx) (a : Fin 2) :
    ((((cfg0.win 5).rect t).emb y a : Fin _) : ℕ) = (cfg0.win 5).index t a * (cfg0.win 5).size a + (y a : Fin _).val :=
  (cfg0.win 5).rect_emb_val t y a rfl

theorem emb6 (t : Fin cfg0.N) (y : ((cfg0.win 6).xblock (cfg0.grid.coords t)).Idx) (a : Fin 2) :
    ((((cfg0.win 6).rect t).emb y a : Fin _) : ℕ) = (cfg0.win 6).index t a * (cfg0.win 6).size a + (y a : Fin _).val :=
  (cfg0.win 6).rect_emb_val t y a rfl

theorem emb7 (t : Fin cfg0.N) (y : ((cfg0.win 7).xblock (cfg0.grid.coords t)).Idx) (a : Fin 2) :
    ((((cfg0.win 7).rect t).emb y a : Fin _) : ℕ) = (cfg0.win 7).index t a * (cfg0.win 7).size a + (y a : Fin _).val :=
  (cfg0.win 7).rect_emb_val t y a rfl

theorem emb10 (t : Fin cfg0.N) (y : ((cfg0.win 10).xblock (cfg0.grid.coords t)).Idx) (a : Fin 2) :
    ((((cfg0.win 10).rect t).emb y a : Fin _) : ℕ) = (cfg0.win 10).index t a * (cfg0.win 10).size a + (y a : Fin _).val :=
  (cfg0.win 10).rect_emb_val t y a rfl

theorem emb11 (t : Fin cfg0.N) (y : ((cfg0.win 11).xblock (cfg0.grid.coords t)).Idx) (a : Fin 2) :
    ((((cfg0.win 11).rect t).emb y a : Fin _) : ℕ) = (cfg0.win 11).index t a * (cfg0.win 11).size a + (y a : Fin _).val :=
  (cfg0.win 11).rect_emb_val t y a rfl

/-- The first mixer's rows. -/
theorem blk0 (c : Dev nD) (t : Fin cfg0.N) (r : Fin 512) (k : Fin 1024) (h : t.val * 512 + r.val < 32768) :
    (iblk m c 0 t : S512x1024.Idx → EReal) (ix2 r k)
      = (m ((c : Thread nD τ).loc main_arg0) : S32768x1024.Idx → EReal) (ix2 ⟨t.val * 512 + r.val, h⟩ k) := by
  rw [← V_main_arg0 m c]
  refine (show _ = (V m c main_arg0 : S32768x1024.Idx → EReal) (((cfg0.win 0).rect t).emb (ix2 r k)) from rfl).trans ?_
  refine congrArg (V m c main_arg0 : S32768x1024.Idx → EReal) (funext fun a => Fin.ext ?_)
  refine (emb0 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The second mixer's rows. -/
theorem blk1 (c : Dev nD) (t : Fin cfg0.N) (r : Fin 512) (k : Fin 1024) (h : t.val * 512 + r.val < 32768) :
    (iblk m c 1 t : S512x1024.Idx → EReal) (ix2 r k)
      = (m ((c : Thread nD τ).loc main_arg1) : S32768x1024.Idx → EReal) (ix2 ⟨t.val * 512 + r.val, h⟩ k) := by
  rw [← V_main_arg1 m c]
  refine (show _ = (V m c main_arg1 : S32768x1024.Idx → EReal) (((cfg0.win 1).rect t).emb (ix2 r k)) from rfl).trans ?_
  refine congrArg (V m c main_arg1 : S32768x1024.Idx → EReal) (funext fun a => Fin.ext ?_)
  refine (emb1 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The gates. -/
theorem blk2 (c : Dev nD) (t : Fin cfg0.N) (r : Fin 512) (k : Fin 2048) (h : t.val * 512 + r.val < 32768) :
    (iblk m c 2 t : S512x2048.Idx → EReal) (ix2 r k)
      = (m ((c : Thread nD τ).loc main_arg2) : S32768x2048.Idx → EReal) (ix2 ⟨t.val * 512 + r.val, h⟩ k) := by
  rw [← V_main_arg2 m c]
  refine (show _ = (V m c main_arg2 : S32768x2048.Idx → EReal) (((cfg0.win 2).rect t).emb (ix2 r k)) from rfl).trans ?_
  refine congrArg (V m c main_arg2 : S32768x2048.Idx → EReal) (funext fun a => Fin.ext ?_)
  refine (emb2 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 2048 + k.val = k.val by omega)

/-- The residual rows. -/
theorem blk3 (c : Dev nD) (t : Fin cfg0.N) (r : Fin 512) (k : Fin 1024) (h : t.val * 512 + r.val < 32768) :
    (iblk m c 3 t : S512x1024.Idx → EReal) (ix2 r k)
      = (m ((c : Thread nD τ).loc main_arg3) : S32768x1024.Idx → EReal) (ix2 ⟨t.val * 512 + r.val, h⟩ k) := by
  rw [← V_main_arg3 m c]
  refine (show _ = (V m c main_arg3 : S32768x1024.Idx → EReal) (((cfg0.win 3).rect t).emb (ix2 r k)) from rfl).trans ?_
  refine congrArg (V m c main_arg3 : S32768x1024.Idx → EReal) (funext fun a => Fin.ext ?_)
  refine (emb3 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The first branch's matrix, whole. -/
theorem blk4 (c : Dev nD) (t : Fin cfg0.N) (k j : Fin 1024) :
    (iblk m c 4 t : S1024x1024.Idx → EReal) (ix2 k j) = (m ((c : Thread nD τ).loc main_arg4) : S1024x1024.Idx → EReal) (ix2 k j) := by
  refine Eq.trans ?_ (V_mat4 m c k j)
  refine (show _ = (V m c main_v13 : S1024x1024.Idx → EReal) (((cfg0.win 4).rect t).emb (ix2 k j)) from rfl).trans ?_
  refine congrArg (V m c main_v13 : S1024x1024.Idx → EReal) (funext fun a => Fin.ext ?_)
  refine (emb4 t (ix2 k j) a).trans ?_
  match a with
  | ⟨0, _⟩ => exact (show 0 * 1024 + k.val = k.val by omega)
  | ⟨1, _⟩ => exact (show 0 * 1024 + j.val = j.val by omega)

/-- The second branch's matrix, whole. -/
theorem blk5 (c : Dev nD) (t : Fin cfg0.N) (k j : Fin 1024) :
    (iblk m c 5 t : S1024x1024.Idx → EReal) (ix2 k j) = (m ((c : Thread nD τ).loc main_arg5) : S1024x1024.Idx → EReal) (ix2 k j) := by
  refine Eq.trans ?_ (V_mat5 m c k j)
  refine (show _ = (V m c main_v14 : S1024x1024.Idx → EReal) (((cfg0.win 5).rect t).emb (ix2 k j)) from rfl).trans ?_
  refine congrArg (V m c main_v14 : S1024x1024.Idx → EReal) (funext fun a => Fin.ext ?_)
  refine (emb5 t (ix2 k j) a).trans ?_
  match a with
  | ⟨0, _⟩ => exact (show 0 * 1024 + k.val = k.val by omega)
  | ⟨1, _⟩ => exact (show 0 * 1024 + j.val = j.val by omega)

/-- The output matrix, whole. -/
theorem blk6 (c : Dev nD) (t : Fin cfg0.N) (k j : Fin 1024) :
    (iblk m c 6 t : S1024x1024.Idx → EReal) (ix2 k j) = (m ((c : Thread nD τ).loc main_arg6) : S1024x1024.Idx → EReal) (ix2 k j) := by
  refine Eq.trans ?_ (V_mat6 m c k j)
  refine (show _ = (V m c main_v15 : S1024x1024.Idx → EReal) (((cfg0.win 6).rect t).emb (ix2 k j)) from rfl).trans ?_
  refine congrArg (V m c main_v15 : S1024x1024.Idx → EReal) (funext fun a => Fin.ext ?_)
  refine (emb6 t (ix2 k j) a).trans ?_
  match a with
  | ⟨0, _⟩ => exact (show 0 * 1024 + k.val = k.val by omega)
  | ⟨1, _⟩ => exact (show 0 * 1024 + j.val = j.val by omega)

/-- The norm's weights, whole. -/
theorem blk7 (c : Dev nD) (t : Fin cfg0.N) (k : Fin 1024) :
    (iblk m c 7 t : S1x1024.Idx → EReal) (ix2 0 k) = (m ((c : Thread nD τ).loc main_arg7) : S1024.Idx → EReal) (ix1 k) := by
  refine Eq.trans ?_ (V_norm m c k)
  refine (show _ = (V m c main_v16 : S1x1024.Idx → EReal) (((cfg0.win 7).rect t).emb (ix2 0 k)) from rfl).trans ?_
  refine congrArg (V m c main_v16 : S1x1024.Idx → EReal) (funext fun a => Fin.ext ?_)
  refine (emb7 t (ix2 0 k) a).trans ?_
  match a with
  | ⟨0, _⟩ => rfl
  | ⟨1, _⟩ => exact (show 0 * 1024 + k.val = k.val by omega)

/-- A row of a step is a row of the arrays. -/
theorem row_blk (c : Dev nD) (t : Fin cfg0.N) (r : Fin 512) (h : t.val * 512 + r.val < 32768) :
    readRow (iblk m c 0 t) (iblk m c 1 t) (iblk m c 2 t) (iblk m c 3 t) (iblk m c 4 t) (iblk m c 5 t) (iblk m c 6 t) r
      = Cert.Merge.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, h⟩ := by
  unfold readRow Cert.Merge.row
  congr 1
  · funext k; exact blk0 m c t r k h
  · funext k; exact blk1 m c t r k h
  · funext k; exact blk2 m c t r _ h
  · funext k; exact blk2 m c t r _ h
  · funext k; exact blk3 m c t r k h
  · funext k j; exact blk4 m c t k j
  · funext k j; exact blk5 m c t k j
  · funext k j; exact blk6 m c t k j

/-! ## The arrays -/

/-- The rows after the mixers, of `main`'s arguments. -/
def summedOf (c : Dev nD) : S32768x1024.Idx → EReal :=
  Cert.Merge.summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem summedOf_at (c : Dev nD) (t : Fin cfg0.N) (r : Fin 512) (l : Fin 1024) (h : t.val * 512 + r.val < 32768) :
    (summed (iblk m c 0 t) (iblk m c 1 t) (iblk m c 2 t) (iblk m c 3 t) (iblk m c 4 t) (iblk m c 5 t) (iblk m c 6 t) : S512x1024.Idx → EReal) (ix2 r l) = summedOf m c (ix2 ⟨t.val * 512 + r.val, h⟩ l) := by
  refine (summed_at _ _ _ _ _ _ _ r l).trans (Eq.trans ?_ (Cert.Merge.summed_at _ _ _ _ _ _ _ ⟨t.val * 512 + r.val, h⟩ l).symm)
  rw [row_blk m c t r h]

theorem covers10 : (cfg0.win 10).Covers := by
  refine Window.covers_of_indexMap_surj _ rfl (fun a => ?_) fun β => ?_
  · match a with
    | ⟨0, _⟩ => exact (show 0 < 512 by omega)
    | ⟨1, _⟩ => exact (show 0 < 1024 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (1024 + 1024 - 1) / 1024 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

theorem flushed10 (c : Dev nD) (t : Fin cfg0.N) :
    (dats m 0 c).flushed 10 t = (cfg0.win 10).cut (grid0.coords t) (summed (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after_10]

set_option maxHeartbeats 4000000 in
/-- The first array after the run. -/
theorem summed_final (c : Dev nD) : ((dats m 0 c).arrAt 10 cfg0.N : S32768x1024.Idx → EReal) = summedOf m c := by
  refine (dats m 0 c).arrAt_eq_of_covers 10 (summedOf m c) covers10 fun t _ y => ?_
  have ht : t.val < 64 := Nat.lt_of_lt_of_eq t.isLt N_0
  obtain ⟨r, l, hy⟩ : ∃ (r : Fin 512) (l : Fin 1024), (y : S512x1024.Idx) = ix2 r l := ⟨_, _, eq_ix2 (y : S512x1024.Idx)⟩
  refine (show _ = (summed (iblk m c 0 t) (iblk m c 1 t) (iblk m c 2 t) (iblk m c 3 t) (iblk m c 4 t) (iblk m c 5 t) (iblk m c 6 t) : S512x1024.Idx → EReal) y from congrFun (flushed10 m c t) y).trans ?_
  refine ((congrArg (summed (iblk m c 0 t) (iblk m c 1 t) (iblk m c 2 t) (iblk m c 3 t) (iblk m c 4 t) (iblk m c 5 t) (iblk m c 6 t) : S512x1024.Idx → EReal) hy).trans (summedOf_at m c t r l (by omega))).trans ?_
  refine congrArg (summedOf m c) (funext fun a => Fin.ext (Eq.symm ?_))
  refine (emb10 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + l.val = l.val by omega)

/-- Their norms, of `main`'s arguments. -/
def dealtOf (c : Dev nD) : S262144x128.Idx → EReal :=
  Cert.Merge.dealt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem dealtOf_at (c : Dev nD) (t : Fin cfg0.N) (r : Fin 4096) (l : Fin 128) (h : t.val * 4096 + r.val < 262144) :
    (dealt (iblk m c 0 t) (iblk m c 1 t) (iblk m c 2 t) (iblk m c 3 t) (iblk m c 4 t) (iblk m c 5 t) (iblk m c 6 t) (iblk m c 7 t) : S4096x128.Idx → EReal) (ix2 r l) = dealtOf m c (ix2 ⟨t.val * 4096 + r.val, h⟩ l) := by
  refine (dealt_at _ _ _ _ _ _ _ _ r l).trans (Eq.trans ?_ (Cert.Merge.dealt_at _ _ _ _ _ _ _ _ ⟨t.val * 4096 + r.val, h⟩ l).symm)
  rw [row_blk m c t ⟨r.val / 8, by omega⟩ (by show t.val * 512 + r.val / 8 < 32768; omega)]
  have e1 : (⟨t.val * 512 + r.val / 8, by omega⟩ : Fin 32768) = ⟨(t.val * 4096 + r.val) / 8, by omega⟩ := Fin.ext (show t.val * 512 + r.val / 8 = (t.val * 4096 + r.val) / 8 by omega)
  have e2 : (⟨r.val % 8 * 128 + l.val, by omega⟩ : Fin 1024) = ⟨(t.val * 4096 + r.val) % 8 * 128 + l.val, by omega⟩ :=
    Fin.ext (show r.val % 8 * 128 + l.val = (t.val * 4096 + r.val) % 8 * 128 + l.val by omega)
  have e3 : (fun k => (iblk m c 7 t : S1x1024.Idx → EReal) (ix2 0 k)) = fun k => (m ((c : Thread nD τ).loc main_arg7) : S1024.Idx → EReal) (ix1 k) :=
    funext fun k => blk7 m c t k
  rw [e2, e3]
  exact congrArg (fun T => Cert.Projection.norm (Cert.Merge.after (Cert.Merge.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) T)) (fun k => (m ((c : Thread nD τ).loc main_arg7) : S1024.Idx → EReal) (ix1 k)) _) e1

theorem covers11 : (cfg0.win 11).Covers := by
  refine Window.covers_of_indexMap_surj _ rfl (fun a => ?_) fun β => ?_
  · match a with
    | ⟨0, _⟩ => exact (show 0 < 4096 by omega)
    | ⟨1, _⟩ => exact (show 0 < 128 by omega)
  · have h0 : (β ⟨0, Nat.succ_pos 1⟩).val < 64 :=
      Nat.lt_of_lt_of_eq (show _ < (262144 + 4096 - 1) / 4096 from (β ⟨0, Nat.succ_pos 1⟩).isLt) (by norm_num)
    have h1 : (β ⟨1, Nat.lt_succ_self 1⟩).val < 1 :=
      Nat.lt_of_lt_of_eq (show _ < (128 + 128 - 1) / 128 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

theorem flushed11 (c : Dev nD) (t : Fin cfg0.N) :
    (dats m 0 c).flushed 11 t = (cfg0.win 11).cut (grid0.coords t) (dealt (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after_11]

set_option maxHeartbeats 4000000 in
/-- The second array after the run. -/
theorem dealt_final (c : Dev nD) : ((dats m 0 c).arrAt 11 cfg0.N : S262144x128.Idx → EReal) = dealtOf m c := by
  refine (dats m 0 c).arrAt_eq_of_covers 11 (dealtOf m c) covers11 fun t _ y => ?_
  have ht : t.val < 64 := Nat.lt_of_lt_of_eq t.isLt N_0
  obtain ⟨r, l, hy⟩ : ∃ (r : Fin 4096) (l : Fin 128), (y : S4096x128.Idx) = ix2 r l := ⟨_, _, eq_ix2 (y : S4096x128.Idx)⟩
  refine (show _ = (dealt (iblk m c 0 t) (iblk m c 1 t) (iblk m c 2 t) (iblk m c 3 t) (iblk m c 4 t) (iblk m c 5 t) (iblk m c 6 t) (iblk m c 7 t) : S4096x128.Idx → EReal) y from congrFun (flushed11 m c t) y).trans ?_
  refine ((congrArg (dealt (iblk m c 0 t) (iblk m c 1 t) (iblk m c 2 t) (iblk m c 3 t) (iblk m c 4 t) (iblk m c 5 t) (iblk m c 6 t) (iblk m c 7 t) : S4096x128.Idx → EReal) hy).trans (dealtOf_at m c t r l (by omega))).trans ?_
  refine congrArg (dealtOf m c) (funext fun a => Fin.ext (Eq.symm ?_))
  refine (emb11 t y a).trans ?_
  rw [hy]
  match a with
  | ⟨0, _⟩ =>
    show (BitVec.ofNat 32 ((grid0.coords t) 0).val).toNat * 4096 + r.val = t.val * 4096 + r.val
    rw [coords_val, BitVec.toNat_ofNat, Nat.mod_eq_of_lt (by omega)]
  | ⟨1, _⟩ => exact (show 0 * 128 + l.val = l.val by omega)

end Cert.Kernel3Ideal.Merge

end
-- ==== Proof.Route.Body.lean ====
/- One grid point of the merging kernel, run once and for any floats: what the body of `cc0_merge_route` leaves in its four
   output blocks, as functions of the blocks it reads.

   The first output is the sum of the residual rows and the merged branches, the second its normalised rows dealt to rows of
   128 lanes by eight strided stores, the other two what the router chooses. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.ValueIdxCore
public import Idealize.ShloMosaic.Lib.Tactic

@[expose] public section

set_option maxRecDepth 16384

noncomputable section

namespace Cert.Kernel4Ideal.Route

open Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The boxes that the body loads and stores -/

abbrev r512x1024 : Rect S512x1024 := Rect.unit (s := S512x1024) ![0, 0] S512x1024.size inb_S512x1024_S512x1024_0_0
abbrev r1024x1024 : Rect S1024x1024 := Rect.unit (s := S1024x1024) ![0, 0] S1024x1024.size inb_S1024x1024_S1024x1024_0_0
abbrev rLeft : Rect S512x2048 := Rect.unit (s := S512x2048) ![0, 0] S512x1024.size inb_S512x2048_S512x1024_0_0
abbrev rRight : Rect S512x2048 := Rect.unit (s := S512x2048) ![0, 1024] S512x1024.size inb_S512x2048_S512x1024_0_1024
abbrev r1x1024 : Rect S1x1024 := Rect.unit (s := S1x1024) ![0, 0] S1x1024.size inb_S1x1024_S1x1024_0_0
abbrev r1024x256 : Rect S1024x256 := Rect.unit (s := S1024x256) ![0, 0] S1024x256.size inb_S1024x256_S1024x256_0_0
abbrev rHigh : Rect S1024x256 := Rect.unit (s := S1024x256) ![0, 0] S1024x128.size inb_S1024x256_S1024x128_0_0
abbrev r1x128 : Rect S1x128 := Rect.unit (s := S1x128) ![0, 0] S1x128.size inb_S1x128_S1x128_0_0
abbrev r512x4 : Rect S512x4 := Rect.unit (s := S512x4) ![0, 0] S512x4.size inb_S512x4_S512x4_0_0
abbrev r512x128 : Rect S512x128 := Rect.unit (s := S512x128) ![0, 0] S512x128.size inb_S512x128_S512x128_0_0

/-! ## What a point leaves -/

/-- The rows over their root mean square, before the norm's weights. -/
def scaled (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) : FVec F S512x1024 .f32 :=
  k0_pay5 (View.ld x0 r512x1024) (View.ld x4 r1024x1024) (View.ld x1 r512x1024) (View.ld x5 r1024x1024) (View.ld x2 rLeft) (View.ld x2 rRight) (View.ld x3 r512x1024) (View.ld x6 r1024x1024)

/-- The first output: the residual rows with the merged branches added. -/
def summed (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) : Vec F S512x1024 .f32 :=
  View.canon [⟨r512x1024, k0_pay4 (View.ld x0 r512x1024) (View.ld x4 r1024x1024) (View.ld x1 r512x1024) (View.ld x5 r1024x1024) (View.ld x2 rLeft) (View.ld x2 rRight) (View.ld x3 r512x1024) (View.ld x6 r1024x1024)⟩]

/-- The second output: the normalised rows, eight strided stores of 128 columns each. -/
def dealt (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) : Vec F S4096x128 .f32 :=
  View.canon [⟨⟨⟨![7, 0], S512x128.size, ![8, 1], inb_S4096x128_S512x128_7_0_s_8_1⟩, spos_8_1⟩, k0_pay14 (scaled x0 x1 x2 x3 x4 x5 x6) (View.ld x7 r1x1024)⟩,
     ⟨⟨⟨![6, 0], S512x128.size, ![8, 1], inb_S4096x128_S512x128_6_0_s_8_1⟩, spos_8_1⟩, k0_pay13 (scaled x0 x1 x2 x3 x4 x5 x6) (View.ld x7 r1x1024)⟩,
     ⟨⟨⟨![5, 0], S512x128.size, ![8, 1], inb_S4096x128_S512x128_5_0_s_8_1⟩, spos_8_1⟩, k0_pay12 (scaled x0 x1 x2 x3 x4 x5 x6) (View.ld x7 r1x1024)⟩,
     ⟨⟨⟨![4, 0], S512x128.size, ![8, 1], inb_S4096x128_S512x128_4_0_s_8_1⟩, spos_8_1⟩, k0_pay11 (scaled x0 x1 x2 x3 x4 x5 x6) (View.ld x7 r1x1024)⟩,
     ⟨⟨⟨![3, 0], S512x128.size, ![8, 1], inb_S4096x128_S512x128_3_0_s_8_1⟩, spos_8_1⟩, k0_pay10 (scaled x0 x1 x2 x3 x4 x5 x6) (View.ld x7 r1x1024)⟩,
     ⟨⟨⟨![2, 0], S512x128.size, ![8, 1], inb_S4096x128_S512x128_2_0_s_8_1⟩, spos_8_1⟩, k0_pay9 (scaled x0 x1 x2 x3 x4 x5 x6) (View.ld x7 r1x1024)⟩,
     ⟨⟨⟨![1, 0], S512x128.size, ![8, 1], inb_S4096x128_S512x128_1_0_s_8_1⟩, spos_8_1⟩, k0_pay8 (scaled x0 x1 x2 x3 x4 x5 x6) (View.ld x7 r1x1024)⟩,
     ⟨⟨⟨![0, 0], S512x128.size, ![8, 1], inb_S4096x128_S512x128_0_0_s_8_1⟩, spos_8_1⟩, k0_pay7 (scaled x0 x1 x2 x3 x4 x5 x6) (View.ld x7 r1x1024)⟩]

/-- What the router computes from the normalised rows, their rounding error and its weights: the four rounds' scores and choices. -/
structure Rounds where
  scores : FVec F S32x512 .f32
  best0 : FVec F S1x512 .f32
  best1 : FVec F S1x512 .f32
  best2 : FVec F S1x512 .f32
  expert0 : IVec S1x512 32
  expert1 : IVec S1x512 32
  expert2 : IVec S1x512 32
  taken : IVec S32x512 1

/-- The first three rounds. -/
def rounds (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Rounds (F := F) :=
  let e := k0_pay16 (scaled x0 x1 x2 x3 x4 x5 x6) (View.ld x7 r1x1024)
  let p := k0_pay17 (scaled x0 x1 x2 x3 x4 x5 x6) (View.ld x7 r1x1024) (View.ld x8 r1024x256)
  let w := k0_pay18 (View.ld x8 rHigh)
  let b := View.ld x9 r1x128
  ⟨k0_pay25 e p w b, k0_pay20 e p w b, k0_pay23 e p w b, k0_pay26 e p w b, k0_pay21 e p w b, k0_pay24 e p w b, k0_pay27 e p w b, k0_pay28 e p w b⟩

/-- The third output: the four experts of each row. -/
def picked (R : Rounds (F := F)) : IVec S512x4 32 :=
  k0_pay2 (F := F) R.expert2 (k0_pay31 (iota .tc S32x512 32 [0] iota_S32x512_d0_w32) R.scores R.taken) (iota .tc S8x512 32 [0] iota_S8x512_d0_w32) (k0_pay38 (F := F) R.expert0 R.expert1)

/-- The fourth output: their weights. -/
def shares (R : Rounds (F := F)) : FVec F S512x128 .f32 :=
  k0_pay3 (k0_pay34 R.best0 R.best2) (k0_pay35 R.best0 R.scores R.taken) (k0_pay36 R.best0 R.best1 R.scores R.best2 R.taken) (iota .tc S8x512 32 [0] iota_S8x512_d0_w32)
    (k0_pay37 R.best0 R.best1 R.scores R.best2 R.taken) k0_pay39 (k0_pay40 R.best0 R.best1 R.scores R.best2 R.taken)

def chosen (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Vec F S512x4 .i32 :=
  View.canon [⟨r512x4, picked (rounds x0 x1 x2 x3 x4 x5 x6 x7 x8 x9)⟩]

def weights (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32) : Vec F S512x128 .f32 :=
  View.canon [⟨r512x128, shares (rounds x0 x1 x2 x3 x4 x5 x6 x7 x8 x9)⟩]

/-! ## The stores fill their blocks -/

theorem cover512x1024 (p : Vec F S512x1024 .f32) (y : S512x1024.Idx) :
    ∃ pc ∈ ([⟨r512x1024, p⟩] : List (View.Piece (Elt F) S512x1024 .f32)), y ∈ pc.1.set :=
  View.cover_of_tiled [⟨r512x1024, p⟩] S512x1024.size (by rfl) y

theorem cover512x4 (p : Vec F S512x4 .i32) (y : S512x4.Idx) :
    ∃ pc ∈ ([⟨r512x4, p⟩] : List (View.Piece (Elt F) S512x4 .i32)), y ∈ pc.1.set :=
  View.cover_of_tiled [⟨r512x4, p⟩] S512x4.size (by rfl) y

theorem cover512x128 (p : Vec F S512x128 .f32) (y : S512x128.Idx) :
    ∃ pc ∈ ([⟨r512x128, p⟩] : List (View.Piece (Elt F) S512x128 .f32)), y ∈ pc.1.set :=
  View.cover_of_tiled [⟨r512x128, p⟩] S512x128.size (by rfl) y

/-- Row `r` of the second block lies in the store of its remainder by eight. -/
theorem mem_piece (y : S4096x128.Idx) (s : ℕ) (hs : (y 0).val % 8 = s) (inb) (sp) :
    y ∈ (⟨⟨![s, 0], S512x128.size, ![8, 1], inb⟩, sp⟩ : Rect S4096x128).set := by
  refine (LoadRect.mem_set _).mpr fun a => ?_
  have h0 : (y 0).val < 4096 := (y 0).isLt
  have h1 : (y 1).val < 128 := (y 1).isLt
  match a with
  | ⟨0, _⟩ => exact ⟨(y 0).val / 8, by show (y 0).val / 8 < 512; omega, by show (y 0).val = s + 8 * ((y 0).val / 8); omega⟩
  | ⟨1, _⟩ => exact ⟨(y 1).val, h1, by show (y 1).val = 0 + 1 * (y 1).val; omega⟩

theorem covered (p7 p6 p5 p4 p3 p2 p1 p0 : Vec F S512x128 .f32) (y : S4096x128.Idx) :
    ∃ p ∈ ([⟨⟨⟨![7, 0], S512x128.size, ![8, 1], inb_S4096x128_S512x128_7_0_s_8_1⟩, spos_8_1⟩, p7⟩,
     ⟨⟨⟨![6, 0], S512x128.size, ![8, 1], inb_S4096x128_S512x128_6_0_s_8_1⟩, spos_8_1⟩, p6⟩,
     ⟨⟨⟨![5, 0], S512x128.size, ![8, 1], inb_S4096x128_S512x128_5_0_s_8_1⟩, spos_8_1⟩, p5⟩,
     ⟨⟨⟨![4, 0], S512x128.size, ![8, 1], inb_S4096x128_S512x128_4_0_s_8_1⟩, spos_8_1⟩, p4⟩,
     ⟨⟨⟨![3, 0], S512x128.size, ![8, 1], inb_S4096x128_S512x128_3_0_s_8_1⟩, spos_8_1⟩, p3⟩,
     ⟨⟨⟨![2, 0], S512x128.size, ![8, 1], inb_S4096x128_S512x128_2_0_s_8_1⟩, spos_8_1⟩, p2⟩,
     ⟨⟨⟨![1, 0], S512x128.size, ![8, 1], inb_S4096x128_S512x128_1_0_s_8_1⟩, spos_8_1⟩, p1⟩,
     ⟨⟨⟨![0, 0], S512x128.size, ![8, 1], inb_S4096x128_S512x128_0_0_s_8_1⟩, spos_8_1⟩, p0⟩]
      : List (View.Piece (Elt F) S4096x128 .f32)), y ∈ p.1.set := by
  have hy : (y 0).val % 8 < 8 := Nat.mod_lt _ (by decide)
  generalize hs : (y 0).val % 8 = s at hy
  simp only [List.exists_mem_cons_iff]
  interval_cases s
  · exact .inr (.inr (.inr (.inr (.inr (.inr (.inr (.inl (mem_piece y 0 hs _ spos_8_1))))))))
  · exact .inr (.inr (.inr (.inr (.inr (.inr (.inl (mem_piece y 1 hs _ spos_8_1)))))))
  · exact .inr (.inr (.inr (.inr (.inr (.inl (mem_piece y 2 hs _ spos_8_1))))))
  · exact .inr (.inr (.inr (.inr (.inl (mem_piece y 3 hs _ spos_8_1)))))
  · exact .inr (.inr (.inr (.inl (mem_piece y 4 hs _ spos_8_1))))
  · exact .inr (.inr (.inl (mem_piece y 5 hs _ spos_8_1)))
  · exact .inr (.inl (mem_piece y 6 hs _ spos_8_1))
  · exact .inl (mem_piece y 7 hs _ spos_8_1)

/-! ## The body -/

set_option maxHeartbeats 4000000 in
/-- The body on whole buffers, the inputs at their blocks and the outputs at anything, leaves the inputs as they were and the
    four outputs as above. -/
theorem sound_body (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S4096x128 .f32) (harg12 : arg12.IsWhole) (arg13 : Memref sig .tc .vmem S512x4 .i32) (harg13 : arg13.IsWhole) (arg14 : Memref sig .tc .vmem S512x128 .f32) (harg14 : arg14.IsWhole)
    (x0 : Vec F S512x1024 .bf16) (x1 : Vec F S512x1024 .bf16) (x2 : Vec F S512x2048 .bf16) (x3 : Vec F S512x1024 .f32) (x4 : Vec F S1024x1024 .bf16) (x5 : Vec F S1024x1024 .bf16) (x6 : Vec F S1024x1024 .bf16) (x7 : Vec F S1x1024 .f32) (x8 : Vec F S1024x256 .bf16) (x9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (summed x0 x1 x2 x3 x4 x5 x6) ∗ owns (c : Thread nD τ) arg12 fullShare (dealt x0 x1 x2 x3 x4 x5 x6 x7) ∗ owns (c : Thread nD τ) arg13 fullShare (chosen x0 x1 x2 x3 x4 x5 x6 x7 x8 x9) ∗ owns (c : Thread nD τ) arg14 fullShare (weights x0 x1 x2 x3 x4 x5 x6 x7 x8 x9)) -∗ K ⟨⟩))
      ⊢ wp frame (wpE (defs₀ (F := F)) Variants.none c none) Set.univ
          (cc0_merge_route i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_merge_route_eq_skeleton]; unfold cc0_merge_route_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0
    isplitr
    · ipureintro
      rfl
    iexact H0
  isplitl [H1]
  · iexists f1
    isplitr
    · ipureintro
      rfl
    iexact H1
  isplitl [H2]
  · iexists f2
    isplitr
    · ipureintro
      rfl
    iexact H2
  isplitl [H3]
  · iexists f3
    isplitr
    · ipureintro
      rfl
    iexact H3
  isplitl [H4]
  · iexists f4
    isplitr
    · ipureintro
      rfl
    iexact H4
  isplitl [H5]
  · iexists f5
    isplitr
    · ipureintro
      rfl
    iexact H5
  isplitl [H6]
  · iexists f6
    isplitr
    · ipureintro
      rfl
    iexact H6
  isplitl [H7]
  · iexists f7
    isplitr
    · ipureintro
      rfl
    iexact H7
  isplitl [H8]
  · iexists f8
    isplitr
    · ipureintro
      rfl
    iexact H8
  isplitl [H9]
  · iexists f9
    isplitr
    · ipureintro
      rfl
    iexact H9
  isplitl [H10]
  · iexists _
    isplitr
    rotate_left
    · iexact H10
    ipureintro
    exact View.read_writes_eq_canon _ _ _ (cover512x1024 _)
  isplitl [H11]
  · iexists _
    isplitr
    rotate_left
    · iexact H11
    ipureintro
    exact View.read_writes_eq_canon _ _ _ (covered _ _ _ _ _ _ _ _)
  isplitl [H12]
  · iexists _
    isplitr
    rotate_left
    · iexact H12
    ipureintro
    simp only [chosen, picked, rounds]
    exact View.read_writes_eq_canon _ _ _ (cover512x4 _)
  iexists _
  isplitr
  rotate_left
  · iexact H13
  ipureintro
  simp only [weights, shares, rounds]
  exact View.read_writes_eq_canon _ _ _ (cover512x128 _)

end Cert.Kernel4Ideal.Route

end
-- ==== Proof.Route.Run.lean ====
/- The launch of the merging kernel, for any floats: the host prepares the router's weights and the branches' matrices, the
   pipeline then runs the body at its 64 points, and what each output array holds in the end is what the pipeline library
   computes from the blocks that `Body` describes. -/
module

public import proofs.«01_k».proof.Proof.Route.Body
public import Idealize.ShloMosaic.Lib.Claim

@[expose] public section

set_option maxRecDepth 16384

noncomputable section

namespace Cert.Kernel4Ideal.Route

open Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipeline -/

/-- The buffers of core `c` when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is as launched. -/
theorem untouched (c : Dev nD) (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  untouched m c main_arg0 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  untouched m c main_arg1 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  untouched m c main_arg2 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  untouched m c main_arg3 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  untouched m c main_arg4 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  untouched m c main_arg5 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  untouched m c main_arg6 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg7 (c : Dev nD) : V m c main_arg7 = m ((c : Thread nD τ).loc main_arg7) :=
  untouched m c main_arg7 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg8 (c : Dev nD) : V m c main_arg8 = m ((c : Thread nD τ).loc main_arg8) :=
  untouched m c main_arg8 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))
theorem V_main_arg9 (c : Dev nD) : V m c main_arg9 = m ((c : Thread nD τ).loc main_arg9) :=
  untouched m c main_arg9 (by
    simp only [hostOps0, List.flatten_cons, List.flatten_nil, List.append_nil, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))

/-! ## The pipeline's data -/

/-- Window `w`'s block at point `t`, as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- After the body each input's buffer is at its block and each output's at what `Body` says of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => summed (iblk m c 0 t) (iblk m c 1 t) (iblk m c 2 t) (iblk m c 3 t) (iblk m c 4 t) (iblk m c 5 t) (iblk m c 6 t)
    | ⟨11, _⟩ => dealt (iblk m c 0 t) (iblk m c 1 t) (iblk m c 2 t) (iblk m c 3 t) (iblk m c 4 t) (iblk m c 5 t) (iblk m c 6 t) (iblk m c 7 t)
    | ⟨12, _⟩ => chosen (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => weights (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = summed (iblk m c 0 t) (iblk m c 1 t) (iblk m c 2 t) (iblk m c 3 t) (iblk m c 4 t) (iblk m c 5 t) (iblk m c 6 t) := by dsimp only [dats]
theorem after_11 (c : Dev nD) (t : Fin cfg0.N) : (dats m 0 c).after 11 t = dealt (iblk m c 0 t) (iblk m c 1 t) (iblk m c 2 t) (iblk m c 3 t) (iblk m c 4 t) (iblk m c 5 t) (iblk m c 6 t) (iblk m c 7 t) := by dsimp only [dats]
theorem after_12 (c : Dev nD) (t : Fin cfg0.N) : (dats m 0 c).after 12 t = chosen (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_13 (c : Dev nD) (t : Fin cfg0.N) : (dats m 0 c).after 13 t = weights (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! An input's buffer holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _
    iexact H10
  isplitl [H11]
  · iexists _
    iexact H11
  isplitl [H12]
  · iexists _
    iexact H12
  isplitl [H13]
  · iexists _
    iexact H13
  iintro ⟨H0, H1, H2, H3, H4, H5, H6, H7, H8, H9, H10, H11, H12, H13⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ## The run and the frame -/

set_option backward.isDefEq.respectTransparency.types false in
set_option maxHeartbeats 800000 in
/-- The launch: every weakly fair execution terminates with the pipeline's arrays at what the data says, every other unscoped
    buffer as the pipeline found it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The ten argument arrays end as launched. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run m ρ)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (kept m ρ) ((θ_run defs _ _).mono (fun _ h => h.2) (run_quiescent m ρ))

end Cert.Kernel4Ideal.Route

end
-- ==== Proof.Route.Pick.lean ====
/- Picking the four greatest of 32 numbers, in one's own words: four rounds, each of which takes the greatest of what is
   left, the first of equals, and then counts it as −∞. If no number is −∞ to begin with, these are the first four of a
   stable sort with the greater first. -/
module

public import Idealize.ShloMosaic.Lib.SortPrefix
public import Idealize.ShloMosaic.PureOps.Ideal.Laws

@[expose] public section

noncomputable section

namespace Cert.Route

open Idealize.ShloMosaic

/-- `e` is where `g` is greatest, and the first such place. -/
structure IsBest {n : ℕ} (g : Fin n → EReal) (e : Fin n) : Prop where
  le : ∀ k, g k ≤ g e
  first : ∀ k, k < e → g k ≠ g e

/-- There is one. -/
theorem exists_best {n : ℕ} (h : 0 < n) (g : Fin n → EReal) : ∃ e, IsBest g e := by
  classical
  haveI : Nonempty (Fin n) := ⟨⟨0, h⟩⟩
  obtain ⟨m, _, hm'⟩ := Finset.exists_max_image Finset.univ g Finset.univ_nonempty
  have hm : ∀ k, g k ≤ g m := fun k => hm' k (Finset.mem_univ k)
  have hs : (Finset.univ.filter fun k => g k = g m).Nonempty := ⟨m, by simp⟩
  refine ⟨(Finset.univ.filter fun k => g k = g m).min' hs, ?_, ?_⟩
  · have e := Finset.min'_mem _ hs
    simp only [Finset.mem_filter, Finset.mem_univ, true_and] at e
    intro k
    rw [e]
    exact hm k
  · have e := Finset.min'_mem _ hs
    simp only [Finset.mem_filter, Finset.mem_univ, true_and] at e
    intro k hk hne
    rw [e] at hne
    exact absurd (Finset.min'_le (Finset.univ.filter fun k => g k = g m) k (by simp [hne])) (not_le.mpr hk)

/-- `g` with place `e` taken. -/
def drop {n : ℕ} (g : Fin n → EReal) (e : Fin n) (k : Fin n) : EReal := if k = e then ⊥ else g k

/-- Greater first; of equals, the earlier. -/
def before {n : ℕ} (f : Fin n → EReal) (k k' : Fin n) : Bool := decide (f k' < f k) || (decide (f k = f k') && decide (k < k'))

theorem before_strict {n : ℕ} (f : Fin n → EReal) : StrictTotalBefore (before f) :=
  StrictTotalBefore.of_key_then_position (fun a b : EReal => decide (b < a)) f (by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- A stable sort of places in their order asks of two equals nothing. -/
theorem stableSort_eq {n : ℕ} (f : Fin n → EReal) (l : List (Fin n)) (hl : l.Pairwise (· < ·)) :
    stableSort (fun k k' => decide (f k' < f k)) l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, not_lt.mpr hab.le]

theorem sortedFrom_eq {n : ℕ} (f : Fin n → EReal) : sortedFrom (fun k k' => decide (f k' < f k)) = sortedFrom (before f) := by
  funext k
  unfold sortedFrom
  rw [List.get_of_eq (show sortPositions n (fun k k' => decide (f k' < f k)) = sortPositions n (before f) from
    stableSort_eq f (List.finRange n) (List.pairwise_lt_finRange n))]
  rfl

/-- The places of the four greatest. -/
def top {n : ℕ} (h : 4 ≤ n) (f : Fin n → EReal) (j : Fin 4) : Fin n := sortedFrom (fun k k' => decide (f k' < f k)) (j.castLE h)

/-- What is left after the rounds before `j` took `σ`. -/
def left {n : ℕ} (f : Fin n → EReal) (σ : Fin 4 → Fin n) (j : Fin 4) (k : Fin n) : EReal := if ∃ i, i < j ∧ σ i = k then ⊥ else f k

open Classical in
theorem top_eq {n : ℕ} (h : 4 ≤ n) (f : Fin n → EReal) (hf : ∀ k, f k ≠ ⊥) (σ : Fin 4 → Fin n) (hσ : ∀ j, IsBest (left f σ j) (σ j)) (j : Fin 4) :
    top h f j = σ j ∧ left f σ j (σ j) = f (σ j) := by
  have free : ∀ j : Fin 4, ∃ k, ¬ ∃ i, i < j ∧ σ i = k := fun j => by
    by_contra hc
    push Not at hc
    have hsub : (Finset.univ : Finset (Fin n)) ⊆ (Finset.univ.filter fun i : Fin 4 => i < j).image σ := fun k _ => by
      obtain ⟨i, hi, e⟩ := hc k
      exact Finset.mem_image.mpr ⟨i, by simp [hi], e⟩
    have h1 := Finset.card_le_card hsub
    have h2 := h1.trans Finset.card_image_le
    have h3 : (Finset.univ.filter fun i : Fin 4 => i < j).card < 4 := by
      clear h2 h1 hsub hc
      revert j
      decide
    rw [Finset.card_univ, Fintype.card_fin] at h2
    omega
  have fresh : ∀ j, ¬ ∃ i, i < j ∧ σ i = σ j := fun j hc => by
    obtain ⟨k, hk⟩ := free j
    have := (hσ j).le k
    unfold left at this
    rw [if_neg hk, if_pos hc] at this
    exact hf k (le_bot_iff.mp this)
  have own : ∀ j, left f σ j (σ j) = f (σ j) := fun j => if_neg (fresh j)
  have best : ∀ (j : Fin 4) (p : Fin n), (¬ ∃ i, i < j ∧ σ i = p) → before f p (σ j) = false := fun j p hp => by
    have hle := (hσ j).le p
    have hne := (hσ j).first p
    rw [own] at hle hne
    have e : left f σ j p = f p := if_neg hp
    rw [e] at hle hne
    unfold before
    simp only [Bool.or_eq_false_iff, decide_eq_false_iff_not, Bool.and_eq_false_iff, not_lt]
    refine ⟨hle, ?_⟩
    by_cases hlt : p < σ j
    · exact Or.inl (hne hlt)
    · exact Or.inr (not_lt.mp hlt)
  refine ⟨?_, own j⟩
  unfold top
  rw [sortedFrom_eq]
  refine (before_strict f).sortedFrom_eq_of_prefix h σ (fun i i' e => ?_) (fun i i' hii => best i _ fun hc => ?_) (fun i p hp => best i p fun hc => ?_) j
  · rcases lt_trichotomy i i' with hlt | hlt | hlt
    · exact absurd ⟨i, hlt, e⟩ (fresh i')
    · exact hlt
    · exact absurd ⟨i', hlt, e.symm⟩ (fresh i)
  · obtain ⟨i₀, hlt, e⟩ := hc
    exact fresh i' ⟨i₀, hlt.trans hii, e⟩
  · obtain ⟨i₀, _, e⟩ := hc
    exact hp i₀ e

/-- The same, for the four rounds one after another. -/
theorem top_of_rounds {n : ℕ} (h : 4 ≤ n) (f : Fin n → EReal) (hf : ∀ k, f k ≠ ⊥) (e0 e1 e2 e3 : Fin n)
    (h0 : IsBest f e0) (h1 : IsBest (drop f e0) e1) (h2 : IsBest (drop (drop f e0) e1) e2) (h3 : IsBest (drop (drop (drop f e0) e1) e2) e3) :
    (top h f 0 = e0 ∧ top h f 1 = e1 ∧ top h f 2 = e2 ∧ top h f 3 = e3)
      ∧ drop f e0 e1 = f e1 ∧ drop (drop f e0) e1 e2 = f e2 ∧ drop (drop (drop f e0) e1) e2 e3 = f e3 := by
  classical
  have l0 : left f ![e0, e1, e2, e3] 0 = f := funext fun k => if_neg fun ⟨i, hi, _⟩ => absurd hi (by omega)
  have l1 : left f ![e0, e1, e2, e3] 1 = drop f e0 := funext fun k => by
    by_cases a : e0 = k <;> by_cases b : e1 = k <;> by_cases c : e2 = k <;> simp [left, drop, Fin.exists_fin_succ, eq_comm, a, b, c]
  have l2 : left f ![e0, e1, e2, e3] 2 = drop (drop f e0) e1 := funext fun k => by
    by_cases a : e0 = k <;> by_cases b : e1 = k <;> by_cases c : e2 = k <;> simp [left, drop, Fin.exists_fin_succ, eq_comm, a, b, c]
  have l3 : left f ![e0, e1, e2, e3] 3 = drop (drop (drop f e0) e1) e2 := funext fun k => by
    by_cases a : e0 = k <;> by_cases b : e1 = k <;> by_cases c : e2 = k <;> simp [left, drop, Fin.exists_fin_succ, eq_comm, a, b, c]
  have key := top_eq h f hf ![e0, e1, e2, e3] fun j => by
    match j with
    | 0 => rw [l0]; exact h0
    | 1 => rw [l1]; exact h1
    | 2 => rw [l2]; exact h2
    | 3 => rw [l3]; exact h3
  exact ⟨⟨(key 0).1, (key 1).1, (key 2).1, (key 3).1⟩, by have := (key 1).2; rwa [l1] at this, by have := (key 2).2; rwa [l2] at this, by have := (key 3).2; rwa [l3] at this⟩

/-- The share of a choice: the softmax of the four greatest. -/
def share (f : Fin 32 → EReal) (j : Fin 4) : EReal :=
  Ideal.div (Ideal.exp (f (top (by decide) f j) - f (top (by decide) f 0))) (∑ i, Ideal.exp (f (top (by decide) f i) - f (top (by decide) f 0)))

end Cert.Route

end
-- ==== Proof.Route.Finite.lean ====
/- Numbers that are not infinite, and that the router's scores are such when its arguments are. -/
module

public import proofs.«01_k».proof.Proof.Route.Pick
public import proofs.«01_k».proof.Proof.Merge.Spec

@[expose] public section

noncomputable section

namespace Cert.Route

open Idealize.ShloMosaic

/-- A number that is not infinite. -/
def IsNum (x : EReal) : Prop := ∃ r : ℝ, x = (r : EReal)

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.sum {ι : Type} (s : Finset ι) {f : ι → EReal} (hf : ∀ i, IsNum (f i)) : IsNum (∑ i ∈ s, f i) := by
  classical
  induction s using Finset.induction_on with
  | empty => exact ⟨0, by simp⟩
  | insert a s ha ih =>
    rw [Finset.sum_insert ha]
    exact (hf a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number less itself. -/
theorem IsNum.sub_self {x : EReal} (hx : IsNum x) : x - x = 0 := by
  obtain ⟨a, rfl⟩ := hx
  rw [← EReal.coe_sub, _root_.sub_self]
  rfl

/-- The sigmoid is a number everywhere. -/
theorem isNum_logistic (x : EReal) : IsNum (Ideal.logistic x) := by
  unfold Ideal.logistic
  induction x with
  | bot =>
    have e : (1 : EReal) + ⊤ = ⊤ := EReal.add_top_of_ne_bot (EReal.coe_ne_bot 1)
    exact ⟨0, by simp [Ideal.div, e]⟩
  | top => exact ⟨1, by simp [Ideal.div]⟩
  | coe r =>
    refine ⟨1 / (1 + Real.exp (-r)), ?_⟩
    have e : (1 : EReal) + Ideal.exp (-(r : EReal)) = ((1 + Real.exp (-r) : ℝ) : EReal) := by
      rw [← EReal.coe_neg, Ideal.exp_coe]
      rfl
    have hne : (1 + Real.exp (-r) : ℝ) ≠ 0 := ne_of_gt (by positivity)
    rw [e, Ideal.div_coe hne, one_mul]

theorem lanes_word : Ideal.ofBits .f32 0x44800000#32 = ((1024 : ℝ) : EReal) := by
  simp [Ideal.ofBits, Ideal.ieee, -EReal.coe_mul]
  norm_num

theorem epsilon_word : ∃ r : ℝ, 0 < r ∧ Ideal.ofBits .f32 0x358637BD#32 = (r : EReal) := by
  refine ⟨_, ?_, by simp [Ideal.ofBits, Ideal.ieee, -EReal.coe_mul]; rfl⟩
  positivity

/-- The square of an infinite number. -/
theorem square_of_infinite {x : EReal} (h : ¬ IsNum x) : x * x = ⊤ := by
  induction x with
  | bot => exact EReal.bot_mul_bot
  | top => exact EReal.top_mul_top
  | coe r => exact absurd ⟨r, rfl⟩ h

theorem square_ne_bot (x : EReal) : x * x ≠ ⊥ := by
  induction x with
  | bot => rw [EReal.bot_mul_bot]; exact top_ne_bot
  | top => rw [EReal.top_mul_top]; exact top_ne_bot
  | coe r => rw [← EReal.coe_mul]; exact EReal.coe_ne_bot _

/-- A sum of squares, one of them infinite. -/
theorem squares_of_infinite {x : Fin 1024 → EReal} {j : Fin 1024} (h : ¬ IsNum (x j)) : ∑ k, x k * x k = ⊤ := by
  have hs : ∀ s : Finset (Fin 1024), ∑ k ∈ s, x k * x k ≠ ⊥ := fun s => by
    classical
    induction s using Finset.induction_on with
    | empty => simp
    | insert a s ha ih =>
      rw [Finset.sum_insert ha]
      exact fun e => (EReal.add_eq_bot_iff.mp e).elim (square_ne_bot _) ih
  rw [← Finset.add_sum_erase _ _ (Finset.mem_univ j), square_of_infinite h]
  exact EReal.top_add_of_ne_bot (hs _)

/-- The norm of a row is a row of numbers where the norm's weights are: if the row has an infinite entry, its sum of squares is
    infinite, and every entry is multiplied by 0. -/
theorem isNum_norm (x : Fin 1024 → EReal) {g : Fin 1024 → EReal} (hg : ∀ k, IsNum (g k)) (k : Fin 1024) : IsNum (Cert.Projection.norm x g k) := by
  unfold Cert.Projection.norm
  refine IsNum.mul ?_ (hg k)
  obtain ⟨ε, hε, e⟩ := epsilon_word
  by_cases hx : ∀ k, IsNum (x k)
  · refine (hx k).mul ?_
    choose r hr using hx
    have hs : ∑ j, x j * x j = ((∑ j, r j * r j : ℝ) : EReal) := by
      rw [coe_sum]
      exact Finset.sum_congr rfl fun j _ => by rw [hr, EReal.coe_mul]
    rw [hs, lanes_word, e, Ideal.div_coe (by norm_num), ← EReal.coe_mul, ← EReal.coe_add, Ideal.rsqrt_coe]
    have hpos : 0 < (∑ j, r j * r j) * (1 / 1024) + ε := by
      have : 0 ≤ ∑ j, r j * r j := Finset.sum_nonneg fun j _ => mul_self_nonneg _
      positivity
    rw [if_neg (not_lt.mpr hpos.le), if_neg hpos.ne']
    exact ⟨_, rfl⟩
  · obtain ⟨j, hj⟩ := not_forall.mp hx
    have ht : Ideal.div ⊤ ((1024 : ℝ) : EReal) = ⊤ := by
      rw [Ideal.div_coe (by norm_num)]
      exact EReal.top_mul_coe_of_pos (by norm_num)
    rw [squares_of_infinite hj, lanes_word, e, ht, EReal.top_add_coe]
    exact ⟨0, mul_zero _⟩

/-- An expert's score of a row. -/
def score (h : Fin 1024 → EReal) (w : Fin 1024 → Fin 32 → EReal) (b : Fin 32 → EReal) (k : Fin 32) : EReal := ∑ d, h d * w d k + b k

theorem isNum_score {h : Fin 1024 → EReal} {w : Fin 1024 → Fin 32 → EReal} {b : Fin 32 → EReal} (hh : ∀ d, IsNum (h d)) (hw : ∀ d k, IsNum (w d k))
    (hb : ∀ k, IsNum (b k)) (k : Fin 32) : IsNum (score h w b k) :=
  (IsNum.sum _ fun d => (hh d).mul (hw d k)).add (hb k)

/-- What compares below infinity in size is a number. -/
theorem isNum_of_abs_lt (x : Ideal .f32) (h : FloatOps.cmpf (F := Ideal) .olt (FloatOps.absf x) (FloatOps.ofBits .f32 0x7F800000#32) = 1#1) : IsNum x := by
  have ht : (FloatOps.ofBits .f32 0x7F800000#32 : Ideal .f32) = (⊤ : EReal) := by
    show Ideal.ofBits .f32 0x7F800000#32 = _
    simp [Ideal.ofBits, Ideal.ieee]
  rw [ht] at h
  have hlt : max x (-x) < (⊤ : EReal) := by
    by_contra hc
    have h0 : FloatOps.cmpf (F := Ideal) .olt (FloatOps.absf x) (⊤ : EReal) = 0#1 := by
      show Ideal.cmp .olt (max x (-x)) ⊤ = 0#1
      simp only [Ideal.cmp, decide_eq_false hc]
      rfl
    rw [h0] at h
    exact absurd h (by decide)
  induction x using EReal.rec with
  | bot => simp at hlt
  | top => simp at hlt
  | coe r => exact ⟨r, rfl⟩

end Cert.Route

end
-- ==== Proof.Route.Spec.lean ====
/- What the router computes of a token: the scores of its normalised row, the experts of the four greatest, and their softmax, with
   lanes of zeros behind. -/
module

public import proofs.«01_k».proof.Proof.Route.Finite

@[expose] public section

noncomputable section

namespace Cert.Route

open Idealize.ShloMosaic

/-- The word of −∞. -/
theorem bottom_word : Ideal.ofBits .f32 0xFF800000#32 = (⊥ : EReal) := by
  simp [Ideal.ofBits, Ideal.ieee]

/-- Nothing is greater than the first of the four. -/
theorem le_top {n : ℕ} (h : 4 ≤ n) (f : Fin n → EReal) (hf : ∀ k, f k ≠ ⊥) (k : Fin n) : f k ≤ f (top h f 0) := by
  have hn : 0 < n := by omega
  obtain ⟨e0, h0⟩ := exists_best hn f
  obtain ⟨e1, h1⟩ := exists_best hn (drop f e0)
  obtain ⟨e2, h2⟩ := exists_best hn (drop (drop f e0) e1)
  obtain ⟨e3, h3⟩ := exists_best hn (drop (drop (drop f e0) e1) e2)
  rw [(top_of_rounds h f hf e0 e1 e2 e3 h0 h1 h2 h3).1.1]
  exact h0.le k

/-- The scores of token `T`. -/
def logits (og oh : (⟨2, ![32768, 1024]⟩ : Shape).Idx → EReal) (gates : (⟨2, ![32768, 2048]⟩ : Shape).Idx → EReal)
    (x : (⟨2, ![32768, 1024]⟩ : Shape).Idx → EReal) (wg wh wo : (⟨2, ![1024, 1024]⟩ : Shape).Idx → EReal)
    (g : (⟨1, ![1024]⟩ : Shape).Idx → EReal) (w : (⟨2, ![1024, 32]⟩ : Shape).Idx → EReal) (b : (⟨1, ![32]⟩ : Shape).Idx → EReal) (T : Fin 32768) : Fin 32 → EReal :=
  score (Cert.Projection.norm (Cert.Merge.after (Cert.Merge.row og oh gates x wg wh wo T)) (fun k => g (ix1 k))) (fun d k => w (ix2 d k)) (fun k => b (ix1 k))

/-- The four experts of each token. -/
def chosen (f : Fin 32768 → Fin 32 → EReal) (i : (⟨2, ![32768, 4]⟩ : Shape).Idx) : BitVec 32 := BitVec.ofNat 32 (top (n := 32) (by decide) (f (i 0)) (i 1)).val

/-- Their shares, and zeros. -/
def weights (f : Fin 32768 → Fin 32 → EReal) (i : (⟨2, ![32768, 128]⟩ : Shape).Idx) : EReal := if h : (i 1).val < 4 then share (f (i 0)) ⟨(i 1).val, h⟩ else 0

variable (og oh : (⟨2, ![32768, 1024]⟩ : Shape).Idx → EReal) (gates : (⟨2, ![32768, 2048]⟩ : Shape).Idx → EReal)
  (x : (⟨2, ![32768, 1024]⟩ : Shape).Idx → EReal) (wg wh wo : (⟨2, ![1024, 1024]⟩ : Shape).Idx → EReal)
  (g : (⟨1, ![1024]⟩ : Shape).Idx → EReal) (w : (⟨2, ![1024, 32]⟩ : Shape).Idx → EReal) (b : (⟨1, ![32]⟩ : Shape).Idx → EReal)

/-- The normalised row is of numbers. -/
theorem isNum_normed (h7 : ∀ i, IsNum (g i)) (T : Fin 32768) (k : Fin 1024) :
    IsNum (Cert.Projection.norm (Cert.Merge.after (Cert.Merge.row og oh gates x wg wh wo T)) (fun k => g (ix1 k)) k) :=
  isNum_norm _ (fun _ => h7 _) k

/-- So are the scores. -/
theorem isNum_logits (h7 : ∀ i, IsNum (g i)) (h8 : ∀ i, IsNum (w i)) (h9 : ∀ i, IsNum (b i)) (T : Fin 32768) (k : Fin 32) :
    IsNum (logits og oh gates x wg wh wo g w b T k) :=
  isNum_score (isNum_normed og oh gates x wg wh wo g h7 T) (fun _ _ => h8 _) (fun _ => h9 _) k

theorem IsNum.ne_bot {x : EReal} (h : IsNum x) : x ≠ ⊥ := by
  obtain ⟨r, rfl⟩ := h
  exact EReal.coe_ne_bot r

end Cert.Route

end
-- ==== Proof.Route.Plain.lean ====
/-
# The plain router's results

The plain program's operations, cut into the normalised rows, their scores, the four greatest of each row and their softmax.
-/
module

public import proofs.«01_k».proof.Proof.Route.Spec
public import proofs.«01_k».proof.Proof.Merge.Spec
public import proofs.«01_k».proof.Proof.Gen.Reference4Ideal

@[expose] public section

set_option maxRecDepth 16384

noncomputable section

namespace Cert.Reference4Ideal.Route

open Idealize.ShloMosaic Cert.Reference4Ideal.Gen

variable [Facts]

open Facts
open Cert.Route (score top share IsNum)

/-- The gate of one branch: the sigmoid of its half of the columns. -/
def sigmoid (z : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf z)))

theorem sigmoid_at (z : FVec Ideal S32768x1024 .f32) (r : Fin 32768) (k : Fin 1024) :
    sigmoid z (ix2 r k) = Ideal.logistic (z (ix2 r k)) := by
  pointwise [sigmoid]
  rfl

/-- A product with one of the three matrices. -/
def product (x : FVec Ideal S32768x1024 .f32) (w : FVec Ideal S1024x1024 .f32) : FVec Ideal S32768x1024 .f32 :=
  Host.dotGeneral dot_S32768x1024_S1024x1024_S32768x1024_1_0_0_1_n_n none x w

theorem product_at (x : FVec Ideal S32768x1024 .f32) (w : FVec Ideal S1024x1024 .f32) (r : Fin 32768) (n : Fin 1024) :
    product x w (ix2 r n) = ∑ k, x (ix2 r k) * w (ix2 k n) := by
  pointwise [product]

variable (og oh : FVec Ideal S32768x1024 .bf16) (gates : FVec Ideal S32768x2048 .bf16) (x : FVec Ideal S32768x1024 .f32)
  (wg wh wo : FVec Ideal S1024x1024 .f32) (g : FVec Ideal S1024 .f32)

def gateGla : FVec Ideal S32768x1024 .f32 :=
  sigmoid (extractStridedSlice S32768x1024 ![0, 0] (extf .f32 gates bitsLt_bf16_f32) slices_S32768x2048_S32768x1024_0_0)

def gateHyena : FVec Ideal S32768x1024 .f32 :=
  sigmoid (extractStridedSlice S32768x1024 ![0, 1024] (extf .f32 gates bitsLt_bf16_f32) slices_S32768x2048_S32768x1024_0_1024)

theorem gateGla_at (r : Fin 32768) (k : Fin 1024) : gateGla gates (ix2 r k) = Ideal.logistic (gates (ix2 r ⟨k.val, by omega⟩)) := by
  refine (sigmoid_at _ r k).trans (congrArg Ideal.logistic ?_)
  refine (extractStridedSlice_apply _ _ _ (ix2 r k) (ix2 r ⟨k.val, by omega⟩) fun a => ?_).trans rfl
  match a with
  | ⟨0, _⟩ => exact (show r.val = 0 + r.val by omega)
  | ⟨1, _⟩ => exact (show k.val = 0 + k.val by omega)

theorem gateHyena_at (r : Fin 32768) (k : Fin 1024) : gateHyena gates (ix2 r k) = Ideal.logistic (gates (ix2 r ⟨1024 + k.val, by omega⟩)) := by
  refine (sigmoid_at _ r k).trans (congrArg Ideal.logistic ?_)
  refine (extractStridedSlice_apply _ _ _ (ix2 r k) (ix2 r ⟨1024 + k.val, by omega⟩) fun a => ?_).trans rfl
  match a with
  | ⟨0, _⟩ => exact (show r.val = 0 + r.val by omega)
  | ⟨1, _⟩ => rfl

/-- The gated sum of the branches. -/
def mixed : FVec Ideal S32768x1024 .f32 :=
  addf (mulf (gateGla gates) (product (extf .f32 og bitsLt_bf16_f32) wg)) (mulf (gateHyena gates) (product (extf .f32 oh bitsLt_bf16_f32) wh))

theorem mixed_at (r : Fin 32768) (j : Fin 1024) :
    mixed og oh gates wg wh (ix2 r j) = Cert.Merge.mixed (Cert.Merge.row og oh gates x wg wh wo r) j := by
  show gateGla gates (ix2 r j) * product (extf .f32 og bitsLt_bf16_f32) wg (ix2 r j)
    + gateHyena gates (ix2 r j) * product (extf .f32 oh bitsLt_bf16_f32) wh (ix2 r j) = _
  rw [gateGla_at, gateHyena_at, product_at, product_at]
  rfl

/-- The rows after the mixers. -/
def summed : FVec Ideal S32768x1024 .f32 := addf x (product (mixed og oh gates wg wh) wo)

theorem summed_at (r : Fin 32768) (d : Fin 1024) :
    summed og oh gates x wg wh wo (ix2 r d) = Cert.Merge.after (Cert.Merge.row og oh gates x wg wh wo r) d := by
  show x (ix2 r d) + product (mixed og oh gates wg wh) wo (ix2 r d) = _
  rw [product_at]
  simp only [mixed_at og oh gates x wg wh wo]
  rfl

/-- The norm of all rows. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem normed_at (x : FVec Ideal S32768x1024 .f32) (g : FVec Ideal S1024 .f32) (r : Fin 32768) (k : Fin 1024) :
    normed x g (ix2 r k) = Cert.Projection.norm (fun k => x (ix2 r k)) (fun k => g (ix1 k)) k := by
  pointwise [normed, Cert.Projection.norm]

/-- The scores of all rows. -/
def scores (h : FVec Ideal S32768x1024 .f32) (w : FVec Ideal S1024x32 .f32) (b : FVec Ideal S32 .f32) : FVec Ideal S32768x32 .f32 :=
  addf (Host.dotGeneral dot_S32768x1024_S1024x32_S32768x32_1_0_0_1_n_n none h w) (broadcastInDim S32768x32 ![0, 1] bcast_S1x32_S32768x32_0_1 (broadcastInDim S1x32 ![1] bcast_S32_S1x32_1 b))

theorem scores_at (h : FVec Ideal S32768x1024 .f32) (w : FVec Ideal S1024x32 .f32) (b : FVec Ideal S32 .f32) (r : Fin 32768) (k : Fin 32) :
    scores h w b (ix2 r k) = score (fun d => h (ix2 r d)) (fun d k => w (ix2 d k)) (fun k => b (ix1 k)) k := by
  pointwise [scores, Cert.Route.score]

/-- The four greatest scores of each row. -/
def greatest (s : FVec Ideal S32768x32 .f32) : FVec Ideal S32768x4 .f32 := (Host.topK S32768x4 1 (FloatOps.cmpfTotal .gt) s sliceFits_S32768x32_S32768x4).1

/-- Their experts. -/
def chosen (s : FVec Ideal S32768x32 .f32) : IVec S32768x4 32 := (Host.topK S32768x4 1 (FloatOps.cmpfTotal .gt) s sliceFits_S32768x32_S32768x4).2

/-- The comparison of the sort. -/
theorem word_gt (x y : EReal) : ((FloatOps.cmpfTotal (F := Ideal) (φ := .f32) .gt x y) == 1#1) = decide (y < x) := by
  show (BitVec.ofBool (decide (y < x)) == 1#1) = decide (y < x)
  cases decide (y < x) <;> rfl

theorem sorted_row (s : FVec Ideal S32768x32 .f32) (r : Fin 32768) (j : Fin 4) :
    sortedFrom (fun k k' : Fin 32 => (FloatOps.cmpfTotal (F := Ideal) (φ := .f32) .gt (s (ix2 r k)) (s (ix2 r k'))) == 1#1) ⟨j.val, by omega⟩
      = top (n := 32) (by decide) (fun k => s (ix2 r k)) j := by
  unfold top
  simp only [word_gt]
  rfl

/-- A row with another coordinate on the sorted axis. -/
theorem along_row (r : Fin 32768) (q k : Fin 32) : Shape.Idx.along (s := S32768x32) (ix2 r q) 1 k = ix2 r k := by
  funext a
  match a with
  | ⟨0, _⟩ => rfl
  | ⟨1, _⟩ => rfl

/-- The sort of two operands, entry by entry. -/
theorem sort_at {s : Shape} (d : ℕ) (hd : d < s.rank) {α β : Type} (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩)))
      ∧ (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]
  exact ⟨rfl, rfl⟩

/-- The order of a row's places, whatever column asks for it. -/
theorem order_eq (s : FVec Ideal S32768x32 .f32) (r : Fin 32768) (q : Fin 32) :
    (fun k k' : Fin 32 => (FloatOps.cmpfTotal (F := Ideal) (φ := .f32) .gt (s (Shape.Idx.along (s := S32768x32) (ix2 r q) 1 k)) (s (Shape.Idx.along (s := S32768x32) (ix2 r q) 1 k'))) == 1#1)
      = fun k k' => (FloatOps.cmpfTotal (F := Ideal) (φ := .f32) .gt (s (ix2 r k)) (s (ix2 r k'))) == 1#1 := by
  funext k k'
  rw [along_row, along_row]

/-- The columns' numbers. -/
abbrev columns : IVec S32768x32 32 := fun i => if hd : 1 < S32768x32.rank then iotaInDim S32768x32 32 ⟨1, hd⟩ i else 0#32

theorem columns_at (r : Fin 32768) (k : Fin 32) : columns (ix2 r k) = BitVec.ofNat 32 k.val := rfl

theorem chosen_at (s : FVec Ideal S32768x32 .f32) (r : Fin 32768) (j : Fin 4) :
    chosen s (ix2 r j) = BitVec.ofNat 32 (top (n := 32) (by decide) (fun k => s (ix2 r k)) j).val := by
  rw [← sorted_row]
  have e : chosen s = extractStridedSlice S32768x4 (fun _ => 0) (Host.sort2 S32768x32 1 (fun a b => FloatOps.cmpfTotal (F := Ideal) (φ := .f32) .gt a.1 b.1) s columns).2 sliceFits_S32768x32_S32768x4 := rfl
  rw [e]
  refine (extractStridedSlice_apply _ _ _ (ix2 r j) (ix2 r (⟨j.val, by omega⟩ : Fin 32)) fun a => ?_).trans ?_
  · match a with
    | ⟨0, _⟩ => exact (show r.val = 0 + r.val by omega)
    | ⟨1, _⟩ => exact (show j.val = 0 + j.val by omega)
  · refine (sort_at 1 (by decide) _ s columns _).2.trans ?_
    refine (congrArg columns (along_row r _ _)).trans ?_
    refine (columns_at r _).trans ?_
    exact congrArg (fun o => BitVec.ofNat 32 (sortedFrom o (⟨j.val, by omega⟩ : Fin 32)).val) (order_eq s r ⟨j.val, by omega⟩)

theorem greatest_at (s : FVec Ideal S32768x32 .f32) (r : Fin 32768) (j : Fin 4) :
    greatest s (ix2 r j) = s (ix2 r (top (n := 32) (by decide) (fun k => s (ix2 r k)) j)) := by
  rw [← sorted_row]
  have e : greatest s = extractStridedSlice S32768x4 (fun _ => 0) (Host.sort2 S32768x32 1 (fun a b => FloatOps.cmpfTotal (F := Ideal) (φ := .f32) .gt a.1 b.1) s columns).1 sliceFits_S32768x32_S32768x4 := rfl
  rw [e]
  refine (extractStridedSlice_apply _ _ _ (ix2 r j) (ix2 r (⟨j.val, by omega⟩ : Fin 32)) fun a => ?_).trans ?_
  · match a with
    | ⟨0, _⟩ => exact (show r.val = 0 + r.val by omega)
    | ⟨1, _⟩ => exact (show j.val = 0 + j.val by omega)
  · refine (sort_at 1 (by decide) _ s columns _).1.trans ?_
    refine (congrArg s (along_row r _ _)).trans ?_
    exact congrArg (fun o => s (ix2 r (sortedFrom o (⟨j.val, by omega⟩ : Fin 32)))) (order_eq s r ⟨j.val, by omega⟩)

/-- The greatest of each row of four. -/
def crest (v : FVec Ideal S32768x4 .f32) : FVec Ideal S32768 .f32 :=
  maximumf (broadcastInDim S32768 ![] bcast_S_S32768 (constant S_ .f32 0xFF800000#32)) (Host.reduce FloatOps.maximumf v (constant S_ .f32 0xFF800000#32) reducesTo_S32768x4_S32768_d1 h_S_)

theorem crest_at (v : FVec Ideal S32768x4 .f32) (r : Fin 32768) (hv : ∀ i, v (ix2 r i) ≤ v (ix2 r 0)) : crest v (ix1 r) = v (ix2 r 0) := by
  have h : crest v (ix1 r) = max (⊥ : EReal) (Finset.univ.fold max (⊥ : EReal) fun i : Fin 4 => v (ix2 r i)) := by
    pointwise [crest, Cert.Route.bottom_word]
  rw [h, max_eq_right bot_le]
  exact le_antisymm (Finset.fold_max_le _ |>.mpr ⟨bot_le, fun i _ => hv i⟩) (Finset.le_fold_max _ |>.mpr (Or.inr ⟨0, Finset.mem_univ _, le_rfl⟩))

/-- Their exponentials. -/
def risen (v : FVec Ideal S32768x4 .f32) : FVec Ideal S32768x4 .f32 :=
  Host.exp (subf v (broadcastInDim S32768x4 ![0, 1] bcast_S32768x1_S32768x4_0_1 (broadcastInDim S32768x1 ![0] bcast_S32768_S32768x1_0 (crest v))))

theorem risen_at (v : FVec Ideal S32768x4 .f32) (r : Fin 32768) (i : Fin 4) : risen v (ix2 r i) = Ideal.exp (v (ix2 r i) - crest v (ix1 r)) := by
  unfold risen
  generalize crest v = z
  pointwise

/-- The exponentials over their sum, with lanes of zeros behind. -/
def softened (e : FVec Ideal S32768x4 .f32) : FVec Ideal S32768x128 .f32 :=
  pad S32768x128 ![0, 0] ![0, 124] ![0, 0] (Host.divf e (broadcastInDim S32768x4 ![0, 1] bcast_S32768x1_S32768x4_0_1 (broadcastInDim S32768x1 ![0] bcast_S32768_S32768x1_0 (Host.reduceAdd e (constant S_ .f32 0x00000000#32) reducesTo_S32768x4_S32768_d1 h_S_)))) (sitofp .f32 (constantI S_ 32 0#32)) pads_S32768x4_S32768x128_000_01240 h_S_

theorem softened_at (e : FVec Ideal S32768x4 .f32) (r : Fin 32768) (l : Fin 128) :
    softened e (ix2 r l) = if h : l.val < 4 then Ideal.div (e (ix2 r ⟨l.val, h⟩)) (∑ i, e (ix2 r i)) else 0 := by
  have z : (FloatOps.sitofp (F := Ideal) .f32 0#32 : Ideal .f32) = (0 : EReal) := by
    show (((0#32).toInt : ℝ) : EReal) = 0
    simp
  pointwise [softened, z]

/-- The softmax of the four greatest scores of each row. -/
def weights (s : FVec Ideal S32768x32 .f32) : FVec Ideal S32768x128 .f32 := softened (risen (greatest s))

theorem weights_at (s : FVec Ideal S32768x32 .f32) (r : Fin 32768) (hs : ∀ k, s (ix2 r k) ≠ ⊥) (l : Fin 128) :
    weights s (ix2 r l) = if h : l.val < 4 then share (fun k => s (ix2 r k)) ⟨l.val, h⟩ else 0 := by
  have hg : ∀ i, greatest s (ix2 r i) ≤ greatest s (ix2 r 0) := fun i => by
    rw [greatest_at, greatest_at]
    exact Cert.Route.le_top (by decide) (fun k => s (ix2 r k)) hs _
  have he : ∀ i, risen (greatest s) (ix2 r i) = Ideal.exp (s (ix2 r (top (n := 32) (by decide) (fun k => s (ix2 r k)) i)) - s (ix2 r (top (n := 32) (by decide) (fun k => s (ix2 r k)) 0))) := fun i => by
    rw [risen_at, crest_at _ r hg, greatest_at, greatest_at]
  unfold weights
  rw [softened_at]
  simp only [he]
  rfl

/-! ## Of the arguments -/

variable (w : FVec Ideal S1024x32 .f32) (b : FVec Ideal S32 .f32)

theorem logits_at (r : Fin 32768) (k : Fin 32) :
    scores (normed (summed og oh gates x wg wh wo) g) w b (ix2 r k) = Cert.Route.logits og oh gates x wg wh wo g w b r k := by
  rw [scores_at]
  simp only [normed_at, summed_at]
  rfl

/-- The experts of all rows. -/
theorem chosen_eq : chosen (scores (normed (summed og oh gates x wg wh wo) g) w b) = Cert.Route.chosen (Cert.Route.logits og oh gates x wg wh wo g w b) := by
  funext i
  obtain ⟨r, j, rfl⟩ : ∃ (r : Fin 32768) (j : Fin 4), i = ix2 r j := ⟨i 0, i 1, eq_ix2 i⟩
  rw [chosen_at]
  exact congrArg (fun f => BitVec.ofNat 32 (top (n := 32) (by decide) f j).val) (funext fun k => logits_at og oh gates x wg wh wo g w b r k)

/-- Their shares, where the scores are above −∞. -/
theorem weights_eq (hf : ∀ r k, Cert.Route.logits og oh gates x wg wh wo g w b r k ≠ ⊥) :
    weights (scores (normed (summed og oh gates x wg wh wo) g) w b) = Cert.Route.weights (Cert.Route.logits og oh gates x wg wh wo g w b) := by
  funext i
  obtain ⟨r, l, rfl⟩ : ∃ (r : Fin 32768) (l : Fin 128), i = ix2 r l := ⟨i 0, i 1, eq_ix2 i⟩
  rw [weights_at _ r (fun k => by rw [logits_at]; exact hf r k)]
  exact congrArg (fun f => if h : l.val < 4 then share f ⟨l.val, h⟩ else 0) (funext fun k => logits_at og oh gates x wg wh wo g w b r k)

end Cert.Reference4Ideal.Route

end
-- ==== Proof.Route.Pass.lean ====
/- One round of the router, column by column: the greatest score of a column, the first expert that has it, and the column
   with that expert struck out. -/
module

public import proofs.«01_k».proof.Proof.Gen.Kernel4Ideal.Skeleton
public import proofs.«01_k».proof.Proof.Gen.Kernel4Ideal.Launch
public import proofs.«01_k».proof.Proof.Route.Pick
public import Idealize.ShloMosaic.Lib.Pointwise
public import Idealize.ShloMosaic.PureOps.Ideal.Laws

@[expose] public section

set_option maxRecDepth 16384

noncomputable section

namespace Cert.Kernel4Ideal.Route

open Cert.Kernel4Ideal.Gen Idealize.ShloMosaic Idealize.ShloMosaic.TcCoe
open Cert.Route

/-- The experts' numbers, down the rows. -/
abbrev numbers : IVec S32x512 32 := iota .tc S32x512 32 [0] iota_S32x512_d0_w32

/-- The greatest of each column. -/
def greatest (s : FVec Ideal S32x512 .f32) : FVec Ideal S1x512 .f32 :=
  shapeCast S1x512 (multiReduction .maximumf [0] S512 s 0xFF800000#32 reduces_S32x512_S512 (.inl rfl) rfl) shapeCasts_S512_S1x512

/-- The first row of each column that has it. -/
def place (s : FVec Ideal S32x512 .f32) : IVec S1x512 32 :=
  shapeCast S1x512 (multiReductionI .minsi [0] S512
    (select (cmpf .oeq s (broadcastTo S32x512 (greatest s) broadcasts_S1x512_S32x512)) numbers (broadcast S32x512 32#32))
    2147483647#32 reduces_S32x512_S512 rfl) shapeCasts_S512_S1x512

/-- The rows that hold the number. -/
def struck (p : IVec S1x512 32) : IVec S32x512 1 := cmpi .eq numbers (broadcastTo S32x512 p broadcasts_S1x512_S32x512)

/-- The columns with those rows struck out. -/
def strike (b : IVec S32x512 1) (s : FVec Ideal S32x512 .f32) : FVec Ideal S32x512 .f32 :=
  select b (broadcast S32x512 (Scalar.ofBits (F := Ideal) .f32 0xFF800000#32)) s

/-! ## Folds -/

theorem fold_max_best {n : ℕ} (g : Fin n → EReal) (e : Fin n) (h : IsBest g e) : Finset.univ.fold max ⊥ g = g e := by
  refine le_antisymm (Finset.fold_max_le _ |>.mpr ⟨bot_le, fun k _ => h.le k⟩) (Finset.le_fold_max _ |>.mpr (Or.inr ⟨e, Finset.mem_univ e, le_rfl⟩))

theorem bot_word : (FloatOps.ofBits .f32 0xFF800000#32 : Ideal .f32) = (⊥ : EReal) := by
  show Ideal.ofBits .f32 0xFF800000#32 = _
  simp [Ideal.ofBits, Ideal.ieee]

theorem lift_col (c : Fin 512) (k : Fin 32) : (reduces_S32x512_S512).lift (ix1 c) k = (ix2 k c : S32x512.Idx) := by
  funext a
  refine Fin.ext ?_
  match a with
  | ⟨0, _⟩ => rfl
  | ⟨1, _⟩ => rfl

theorem greatest_at (s : FVec Ideal S32x512 .f32) (c : Fin 512) :
    greatest s (ix2 0 c) = Finset.univ.fold max (⊥ : EReal) fun k : Fin 32 => s (ix2 k c) := by
  have h : greatest s (ix2 0 c) = multiReduction .maximumf [0] S512 s 0xFF800000#32 reduces_S32x512_S512 (.inl rfl) rfl (ix1 c) := by
    unfold greatest
    pointwise
  refine h.trans ((Ideal.multiReduction_maximumf_single s _ _ _ _ (ix1 c)).trans ?_)
  rw [bot_word]
  refine congrArg (Finset.univ.fold max (⊥ : EReal)) (funext fun k => ?_)
  exact congrArg s (lift_col c k)

theorem place_at (s : FVec Ideal S32x512 .f32) (c : Fin 512) :
    place s (ix2 0 c) = Finset.univ.fold IntOp.minsi 2147483647#32 fun k : Fin 32 => if s (ix2 k c) = greatest s (ix2 0 c) then BitVec.ofNat 32 k.val else 32#32 := by
  have h : place s (ix2 0 c) = multiReductionI .minsi [0] S512
    (select (cmpf .oeq s (broadcastTo S32x512 (greatest s) broadcasts_S1x512_S32x512)) numbers (broadcast S32x512 32#32))
    2147483647#32 reduces_S32x512_S512 rfl (ix1 c) := by
    unfold place
    pointwise
  refine h.trans ((multiReductionI_eq_fold .minsi _ _ _ _ (ix1 c)).trans ((Shape.Reduces.fold_filter_drop_single _ _ _ _ (ix1 c)).trans ?_))
  refine congrArg (Finset.univ.fold IntOp.minsi 2147483647#32) (funext fun k => ?_)
  refine (congrArg (select (cmpf .oeq s (broadcastTo S32x512 (greatest s) broadcasts_S1x512_S32x512)) numbers (broadcast S32x512 32#32)) (lift_col c k)).trans ?_
  generalize greatest s = g
  pointwise [numbers]

/-- A number below 2³¹ as a signed word. -/
theorem toInt_word (k : ℕ) (h : k < 2 ^ 31) : (BitVec.ofNat 32 k).toInt = k := by
  rw [BitVec.toInt_eq_toNat_of_lt (by rw [BitVec.toNat_ofNat]; omega), BitVec.toNat_ofNat]
  omega

theorem toInt_minsi (a b : BitVec 32) : (IntOp.minsi a b).toInt = min a.toInt b.toInt := by
  unfold IntOp.minsi
  split <;> simp_all [BitVec.slt] <;> omega

/-- The least of the words is the one that is least. -/
theorem fold_minsi (b : BitVec 32) (w : Fin 32 → BitVec 32) (e : Fin 32) (hb : (w e).toInt ≤ b.toInt) (hw : ∀ k, (w e).toInt ≤ (w k).toInt) :
    Finset.univ.fold IntOp.minsi b w = w e := by
  refine BitVec.eq_of_toInt_eq ?_
  rw [← Finset.fold_hom (op := IntOp.minsi) (op' := min) (m := BitVec.toInt) toInt_minsi]
  refine le_antisymm (Finset.fold_min_le _ |>.mpr (Or.inr ⟨e, Finset.mem_univ e, le_rfl⟩)) (Finset.le_fold_min _ |>.mpr ⟨hb, fun k _ => hw k⟩)

/-- A round on column `c`: what it finds. -/
theorem round_at (s : FVec Ideal S32x512 .f32) (c : Fin 512) :
    ∃ e : Fin 32, IsBest (fun k => s (ix2 k c)) e ∧ greatest s (ix2 0 c) = s (ix2 e c) ∧ place s (ix2 0 c) = BitVec.ofNat 32 e.val := by
  obtain ⟨e, he⟩ := exists_best (n := 32) (by decide) fun k => s (ix2 k c)
  have hg : greatest s (ix2 0 c) = s (ix2 e c) := by rw [greatest_at]; exact fold_max_best _ e he
  refine ⟨e, he, hg, ?_⟩
  rw [place_at, hg]
  refine (fold_minsi _ _ e ?_ fun k => ?_).trans (if_pos rfl)
  · rw [if_pos rfl, toInt_word _ (by omega)]
    exact (show ((e.val : ℕ) : ℤ) ≤ 2147483647 by omega)
  · rw [if_pos rfl, toInt_word _ (by omega)]
    by_cases h : s (ix2 k c) = s (ix2 e c)
    · rw [if_pos h, toInt_word _ (by omega)]
      by_contra hlt
      exact he.first k (Fin.lt_def.mpr (by omega)) h
    · rw [if_neg h]
      exact (show ((e.val : ℕ) : ℤ) ≤ 32 by omega)

/-- The column with its expert struck out. -/
theorem strike_at (p : IVec S1x512 32) (s : FVec Ideal S32x512 .f32) (c : Fin 512) (e : Fin 32) (h : p (ix2 0 c) = BitVec.ofNat 32 e.val) :
    (fun k => strike (struck p) s (ix2 k c)) = drop (fun k => s (ix2 k c)) e := by
  funext k
  show Scalar.select (IntOp.cmpi .eq (numbers (ix2 k c)) (broadcastTo S32x512 p broadcasts_S1x512_S32x512 (ix2 k c))) (FloatOps.ofBits (F := Ideal) .f32 0xFF800000#32) (s (ix2 k c)) = _
  have e1 : broadcastTo S32x512 p broadcasts_S1x512_S32x512 (ix2 k c) = p (ix2 0 c) := by pointwise
  have e2 : numbers (ix2 k c) = BitVec.ofNat 32 k.val := by pointwise [numbers]
  rw [e1, e2, h, bot_word]
  unfold drop
  by_cases hk : k = e
  · subst hk
    simp [Scalar.select, IntOp.cmpi]
  · have hne : BitVec.ofNat 32 k.val ≠ BitVec.ofNat 32 e.val := fun hc => hk (Fin.ext (by
      have := congrArg BitVec.toNat hc
      rw [BitVec.toNat_ofNat, BitVec.toNat_ofNat] at this
      omega))
    simp [Scalar.select, IntOp.cmpi, hk, beq_eq_false_iff_ne.mpr hne]

end Cert.Kernel4Ideal.Route

end
-- ==== Proof.Route.Stack.lean ====
/- How the router lays its four rounds out: four rows of a stack of eight, under 120 rows of zeros, turned on its side. -/
module

public import proofs.«01_k».proof.Proof.Route.Pass
public import proofs.«01_k».proof.Proof.Route.Body

@[expose] public section

set_option maxRecDepth 16384

noncomputable section

namespace Cert.Kernel4Ideal.Route

open Cert.Kernel4Ideal.Gen Idealize.ShloMosaic Idealize.ShloMosaic.TcCoe
open Cert.Route

/-- A row put in one place of the stack. -/
def put (n : BitVec 32) (a : FVec Ideal S1x512 .f32) (v : FVec Ideal S8x512 .f32) : FVec Ideal S8x512 .f32 :=
  select (cmpi .eq (iota .tc S8x512 32 [0] iota_S8x512_d0_w32) (broadcast S8x512 n))
    (broadcastTo S8x512 (shapeCast S1x512 a shapeCasts_S1x512_S1x512) broadcasts_S1x512_S8x512) v

/-- The stack. -/
def stack (a0 a1 a2 a3 : FVec Ideal S1x512 .f32) : FVec Ideal S8x512 .f32 :=
  put 3#32 a3 (put 2#32 a2 (put 1#32 a1 (put 0#32 a0 (broadcast S8x512 (Scalar.ofBits (F := Ideal) .f32 0x00000000#32)))))

/-- The stack over the zeros, turned on its side. -/
def wide (v : FVec Ideal S8x512 .f32) : FVec Ideal S512x128 .f32 :=
  transpose S512x128 [1, 0] (concatenate S128x512 0 [⟨S8x512, v⟩, ⟨S120x512, k0_pay1 (F := Ideal)⟩] concatenates_S8x512_S120x512_S128x512_d0) transposes_S128x512_p1_0_S512x128

theorem put_at (n : ℕ) (hn : n < 8) (a : FVec Ideal S1x512 .f32) (v : FVec Ideal S8x512 .f32) (q : Fin 8) (c : Fin 512) :
    put (BitVec.ofNat 32 n) a v (ix2 q c) = if q.val = n then a (ix2 0 c) else v (ix2 q c) := by
  show Scalar.select (IntOp.cmpi .eq (iota .tc S8x512 32 [0] iota_S8x512_d0_w32 (ix2 q c)) (BitVec.ofNat 32 n))
    (broadcastTo S8x512 (shapeCast S1x512 a shapeCasts_S1x512_S1x512) broadcasts_S1x512_S8x512 (ix2 q c)) (v (ix2 q c)) = _
  have e1 : broadcastTo S8x512 (shapeCast S1x512 a shapeCasts_S1x512_S1x512) broadcasts_S1x512_S8x512 (ix2 q c) = a (ix2 0 c) := by pointwise
  have e2 : iota .tc S8x512 32 [0] iota_S8x512_d0_w32 (ix2 q c) = BitVec.ofNat 32 q.val := by pointwise
  rw [e1, e2]
  by_cases hk : q.val = n
  · rw [hk]
    simp [Scalar.select, IntOp.cmpi]
  · have hne : BitVec.ofNat 32 q.val ≠ BitVec.ofNat 32 n := fun hc => hk (by
      have := congrArg BitVec.toNat hc
      rw [BitVec.toNat_ofNat, BitVec.toNat_ofNat] at this
      omega)
    simp [Scalar.select, IntOp.cmpi, hk, beq_eq_false_iff_ne.mpr hne]

theorem zero_word : (Scalar.ofBits (F := Ideal) .f32 0x00000000#32) = (0 : EReal) := by
  show Ideal.ofBits .f32 0x00000000#32 = _
  simp [Ideal.ofBits, Ideal.ieee]

theorem stack_at (a0 a1 a2 a3 : FVec Ideal S1x512 .f32) (q : Fin 8) (c : Fin 512) :
    stack a0 a1 a2 a3 (ix2 q c) = if h : q.val < 4 then (![a0, a1, a2, a3] ⟨q.val, h⟩) (ix2 0 c) else 0 := by
  unfold stack
  rw [put_at 3 (by decide), put_at 2 (by decide), put_at 1 (by decide), put_at 0 (by decide)]
  have hz : (broadcast S8x512 (Scalar.ofBits (F := Ideal) .f32 0x00000000#32) : FVec Ideal S8x512 .f32) (ix2 q c) = (0 : EReal) := zero_word
  rw [hz]
  fin_cases q <;> rfl

theorem wide_at (v : FVec Ideal S8x512 .f32) (c : Fin 512) (l : Fin 128) :
    wide v (ix2 c l) = if h : l.val < 8 then v (ix2 ⟨l.val, h⟩ c) else 0 := by
  unfold wide
  pointwise [k0_pay1]

/-- A small number through a float and back. -/
theorem there_and_back (k : ℕ) (h : k < 32) : FloatOps.fptosi (F := Ideal) (φ := .f32) 32 (FloatOps.sitofp (F := Ideal) .f32 (BitVec.ofNat 32 k)) = BitVec.ofNat 32 k := by
  show Ideal.fptosi 32 ((((BitVec.ofNat 32 k).toInt : ℝ)) : EReal) = _
  rw [toInt_word k (by omega)]
  show BitVec.ofInt 32 (max (-(2 ^ 31 : ℕ) : ℤ) (min (((2 ^ 31 : ℕ) : ℤ) - 1) (if (0 : ℝ) ≤ (((k : ℕ) : ℤ) : ℝ) then ⌊(((k : ℕ) : ℤ) : ℝ)⌋ else ⌈(((k : ℕ) : ℤ) : ℝ)⌉))) = _
  rw [Int.floor_intCast, Int.ceil_intCast, ite_self]
  have e : max (-(2 ^ 31 : ℕ) : ℤ) (min (((2 ^ 31 : ℕ) : ℤ) - 1) ((k : ℕ) : ℤ)) = k := by
    norm_num
    omega
  rw [e]
  rfl

theorem picked_eq (R : Rounds (F := Ideal)) :
    picked (F := Ideal) R = fptosi 32 (extractStridedSlice S512x4 ![0, 0] (wide (stack (sitofp .f32 R.expert0) (sitofp .f32 R.expert1) (sitofp .f32 R.expert2)
      (sitofp .f32 (place (strike R.taken R.scores))))) slices_S512x128_o0_0_S512x4) := rfl

/-- A round's exponential. -/
def rise (b a : FVec Ideal S1x512 .f32) : FVec Ideal S1x512 .f32 := exp (subf b a)

/-- The reciprocal of the four's sum. -/
def inverse (b0 b1 b2 b3 : FVec Ideal S1x512 .f32) : FVec Ideal S1x512 .f32 :=
  divf (broadcast S1x512 (Scalar.ofBits (F := Ideal) .f32 0x3F800000#32)) (addf (addf (addf (rise b0 b0) (rise b1 b0)) (rise b2 b0)) (rise b3 b0))

theorem pay36_eq (b0 b1 b2 : FVec Ideal S1x512 .f32) (x : FVec Ideal S32x512 .f32) (t : IVec S32x512 1) :
    k0_pay36 (F := Ideal) b0 b1 x b2 t = inverse b0 b1 b2 (greatest (strike t x)) := rfl

theorem pay35_eq (b0 : FVec Ideal S1x512 .f32) (x : FVec Ideal S32x512 .f32) (t : IVec S32x512 1) :
    k0_pay35 (F := Ideal) b0 x t = rise (greatest (strike t x)) b0 := rfl

/-- The four shares, stacked. -/
def shared (b0 b1 b2 b3 : FVec Ideal S1x512 .f32) : FVec Ideal S8x512 .f32 :=
  stack (mulf (rise b0 b0) (inverse b0 b1 b2 b3)) (mulf (rise b1 b0) (inverse b0 b1 b2 b3)) (mulf (rise b2 b0) (inverse b0 b1 b2 b3)) (mulf (rise b3 b0) (inverse b0 b1 b2 b3))

theorem shares_eq (R : Rounds (F := Ideal)) : shares (F := Ideal) R = wide (shared R.best0 R.best1 R.best2 (greatest (strike R.taken R.scores))) := by
  unfold shared
  rw [← pay36_eq, ← pay35_eq]
  rfl

end Cert.Kernel4Ideal.Route

end
-- ==== Proof.Route.Router.lean ====
/- What the router leaves of a column of scores that are all numbers: its four greatest, in the order of a stable sort, and their softmax. -/
module

public import proofs.«01_k».proof.Proof.Route.Stack

@[expose] public section

set_option maxRecDepth 16384

noncomputable section

namespace Cert.Kernel4Ideal.Route

open Cert.Kernel4Ideal.Gen Idealize.ShloMosaic Idealize.ShloMosaic.TcCoe
open Cert.Route

/-- The rounds on a block of scores. -/
def roundsOf (s : FVec Ideal S32x512 .f32) : Rounds (F := Ideal) :=
  let s1 := strike (struck (place s)) s
  let s2 := strike (struck (place s1)) s1
  ⟨s2, greatest s, greatest s1, greatest s2, place s, place s1, place s2, struck (place s2)⟩

theorem rounds_eq (x0 : Vec Ideal S512x1024 .bf16) (x1 : Vec Ideal S512x1024 .bf16) (x2 : Vec Ideal S512x2048 .bf16) (x3 : Vec Ideal S512x1024 .f32) (x4 : Vec Ideal S1024x1024 .bf16) (x5 : Vec Ideal S1024x1024 .bf16) (x6 : Vec Ideal S1024x1024 .bf16) (x7 : Vec Ideal S1x1024 .f32) (x8 : Vec Ideal S1024x256 .bf16) (x9 : Vec Ideal S1x128 .f32) :
    rounds (F := Ideal) x0 x1 x2 x3 x4 x5 x6 x7 x8 x9
      = roundsOf (k0_pay19 (k0_pay16 (scaled x0 x1 x2 x3 x4 x5 x6) (View.ld x7 r1x1024)) (k0_pay17 (scaled x0 x1 x2 x3 x4 x5 x6) (View.ld x7 r1x1024) (View.ld x8 r1024x256))
          (k0_pay18 (View.ld x8 rHigh)) (View.ld x9 r1x128)) := rfl

variable (s : FVec Ideal S32x512 .f32) (c : Fin 512)

/-- The four choices of a column: what each round reads off it. -/
theorem found (hf : ∀ k, s (ix2 k c) ≠ ⊥) :
    let s1 := strike (struck (place s)) s
    let s2 := strike (struck (place s1)) s1
    let s3 := strike (struck (place s2)) s2
    let f : Fin 32 → EReal := fun k => s (ix2 k c)
    let t := top (n := 32) (by decide) f
    (place s (ix2 0 c) = BitVec.ofNat 32 (t 0).val ∧ place s1 (ix2 0 c) = BitVec.ofNat 32 (t 1).val ∧ place s2 (ix2 0 c) = BitVec.ofNat 32 (t 2).val ∧ place s3 (ix2 0 c) = BitVec.ofNat 32 (t 3).val)
      ∧ greatest s (ix2 0 c) = f (t 0) ∧ greatest s1 (ix2 0 c) = f (t 1) ∧ greatest s2 (ix2 0 c) = f (t 2) ∧ greatest s3 (ix2 0 c) = f (t 3) := by
  intro s1 s2 s3 f t
  obtain ⟨e0, b0, g0, p0⟩ := round_at s c
  obtain ⟨e1, b1, g1, p1⟩ := round_at s1 c
  obtain ⟨e2, b2, g2, p2⟩ := round_at s2 c
  obtain ⟨e3, b3, g3, p3⟩ := round_at s3 c
  have c1 : (fun k => s1 (ix2 k c)) = drop f e0 := strike_at _ s c e0 p0
  have c2 : (fun k => s2 (ix2 k c)) = drop (drop f e0) e1 := (strike_at _ s1 c e1 p1).trans (by rw [c1])
  have c3 : (fun k => s3 (ix2 k c)) = drop (drop (drop f e0) e1) e2 := (strike_at _ s2 c e2 p2).trans (by rw [c2])
  rw [c1] at b1
  rw [c2] at b2
  rw [c3] at b3
  obtain ⟨⟨t0, t1, t2, t3⟩, v1, v2, v3⟩ := top_of_rounds (n := 32) (by decide) f hf e0 e1 e2 e3 b0 b1 b2 b3
  have t0' : t 0 = e0 := t0
  have t1' : t 1 = e1 := t1
  have t2' : t 2 = e2 := t2
  have t3' : t 3 = e3 := t3
  rw [t0', t1', t2', t3']
  exact ⟨⟨p0, p1, p2, p3⟩, g0, g1.trans ((congrFun c1 e1).trans v1), g2.trans ((congrFun c2 e2).trans v2), g3.trans ((congrFun c3 e3).trans v3)⟩

omit s in
/-- The stack of four rows of numbers, each a small one, read back. -/
theorem numbers_back (p0 p1 p2 p3 : IVec S1x512 32) (t : Fin 4 → Fin 32) (h0 : p0 (ix2 0 c) = BitVec.ofNat 32 (t 0).val) (h1 : p1 (ix2 0 c) = BitVec.ofNat 32 (t 1).val)
    (h2 : p2 (ix2 0 c) = BitVec.ofNat 32 (t 2).val) (h3 : p3 (ix2 0 c) = BitVec.ofNat 32 (t 3).val) (j : Fin 4) :
    (fptosi 32 (extractStridedSlice S512x4 ![0, 0] (wide (stack (sitofp .f32 p0) (sitofp .f32 p1) (sitofp .f32 p2) (sitofp .f32 p3))) slices_S512x128_o0_0_S512x4) : IVec S512x4 32) (ix2 c j)
      = BitVec.ofNat 32 (t j).val := by
  have e : extractStridedSlice S512x4 ![0, 0] (wide (stack (sitofp .f32 p0) (sitofp .f32 p1) (sitofp .f32 p2) (sitofp .f32 p3))) slices_S512x128_o0_0_S512x4 (ix2 c j)
      = (![sitofp .f32 p0, sitofp .f32 p1, sitofp .f32 p2, sitofp .f32 p3] : Fin 4 → FVec Ideal S1x512 .f32) j (ix2 0 c) := by
    refine (extractStridedSlice_apply _ _ _ (ix2 c j) (ix2 c ⟨j.val, by omega⟩) fun a => ?_).trans ?_
    · match a with
      | ⟨0, _⟩ => exact (show c.val = 0 + c.val by omega)
      | ⟨1, _⟩ => exact (show j.val = 0 + j.val by omega)
    · rw [wide_at, dif_pos (show j.val < 8 by omega), stack_at, dif_pos j.isLt]
  refine (congrArg (FloatOps.fptosi (F := Ideal) (φ := .f32) 32) e).trans ?_
  have key : ∀ (p : IVec S1x512 32) (k : Fin 32), p (ix2 0 c) = BitVec.ofNat 32 k.val →
      FloatOps.fptosi (F := Ideal) (φ := .f32) 32 ((sitofp .f32 p : FVec Ideal S1x512 .f32) (ix2 0 c)) = BitVec.ofNat 32 k.val := fun p k h => by
    show FloatOps.fptosi (F := Ideal) (φ := .f32) 32 (FloatOps.sitofp (F := Ideal) .f32 (p (ix2 0 c))) = _
    rw [h, there_and_back _ k.isLt]
  match j with
  | 0 => exact key p0 _ h0
  | 1 => exact key p1 _ h1
  | 2 => exact key p2 _ h2
  | 3 => exact key p3 _ h3

theorem picked_at (hf : ∀ k, s (ix2 k c) ≠ ⊥) (j : Fin 4) :
    picked (F := Ideal) (roundsOf s) (ix2 c j) = BitVec.ofNat 32 (top (n := 32) (by decide) (fun k => s (ix2 k c)) j).val := by
  obtain ⟨⟨p0, p1, p2, p3⟩, -⟩ := found s c hf
  rw [picked_eq]
  simp only [roundsOf]
  exact numbers_back c _ _ _ _ (top (n := 32) (by decide) fun k => s (ix2 k c)) p0 p1 p2 p3 j

omit s in
/-- The stack of four shares, from the rounds' greatest scores. -/
theorem shared_at (b : Fin 4 → FVec Ideal S1x512 .f32) (l : Fin 128) :
    wide (shared (b 0) (b 1) (b 2) (b 3)) (ix2 c l)
      = if h : l.val < 4 then Ideal.exp (b ⟨l.val, h⟩ (ix2 0 c) - b 0 (ix2 0 c)) * Ideal.div 1 (Ideal.exp (b 0 (ix2 0 c) - b 0 (ix2 0 c)) + Ideal.exp (b 1 (ix2 0 c) - b 0 (ix2 0 c)) + Ideal.exp (b 2 (ix2 0 c) - b 0 (ix2 0 c)) + Ideal.exp (b 3 (ix2 0 c) - b 0 (ix2 0 c))) else 0 := by
  rw [wide_at]
  unfold shared
  by_cases h : l.val < 4
  · rw [dif_pos (show l.val < 8 by omega), stack_at, dif_pos h, dif_pos h]
    have one : (Scalar.ofBits (F := Ideal) .f32 0x3F800000#32) = (1 : EReal) := by
      show Ideal.ofBits .f32 0x3F800000#32 = _
      simp [Ideal.ofBits, Ideal.ieee, -EReal.coe_mul]
      norm_num
    rw [← one]
    generalize (⟨l.val, h⟩ : Fin 4) = j
    match j with
    | 0 => rfl
    | 1 => rfl
    | 2 => rfl
    | 3 => rfl
  · rw [dif_neg h]
    by_cases h8 : l.val < 8
    · rw [dif_pos h8, stack_at, dif_neg h]
    · rw [dif_neg h8]

omit s in
theorem shared_of (b0 b1 b2 b3 : FVec Ideal S1x512 .f32) (v : Fin 4 → EReal) (h0 : b0 (ix2 0 c) = v 0) (h1 : b1 (ix2 0 c) = v 1) (h2 : b2 (ix2 0 c) = v 2) (h3 : b3 (ix2 0 c) = v 3) (l : Fin 128) :
    wide (shared b0 b1 b2 b3) (ix2 c l)
      = if h : l.val < 4 then Ideal.exp (v ⟨l.val, h⟩ - v 0) * Ideal.div 1 (Ideal.exp (v 0 - v 0) + Ideal.exp (v 1 - v 0) + Ideal.exp (v 2 - v 0) + Ideal.exp (v 3 - v 0)) else 0 := by
  have hb : ∀ i : Fin 4, (![b0, b1, b2, b3] : Fin 4 → FVec Ideal S1x512 .f32) i (ix2 0 c) = v i := fun i => by
    match i with
    | 0 => exact h0
    | 1 => exact h1
    | 2 => exact h2
    | 3 => exact h3
  have key := shared_at c ![b0, b1, b2, b3] l
  simp only [hb] at key
  exact key

/-- A product with the reciprocal of a sum of exponentials. -/
theorem share_of_reciprocal (a : Fin 4 → ℝ) (j : Fin 4) :
    (Ideal.exp (a j : EReal)) * Ideal.div (1 : EReal) (Ideal.exp (a 0 : EReal) + Ideal.exp (a 1 : EReal) + Ideal.exp (a 2 : EReal) + Ideal.exp (a 3 : EReal))
      = Ideal.div (Ideal.exp (a j : EReal)) (∑ i, Ideal.exp (a i : EReal)) := by
  have hs : (∑ i, Ideal.exp (a i : EReal)) = ((∑ i, Real.exp (a i) : ℝ) : EReal) := by
    simp [Fin.sum_univ_four, Ideal.exp_coe]
  have hs' : Ideal.exp (a 0 : EReal) + Ideal.exp (a 1 : EReal) + Ideal.exp (a 2 : EReal) + Ideal.exp (a 3 : EReal) = ((∑ i, Real.exp (a i) : ℝ) : EReal) := by
    rw [← hs, Fin.sum_univ_four]
  have hpos : (∑ i, Real.exp (a i)) ≠ 0 := ne_of_gt (Finset.sum_pos (fun i _ => Real.exp_pos _) Finset.univ_nonempty)
  rw [hs, hs', Ideal.div_coe hpos, Ideal.div_coe hpos, one_mul]

theorem shares_at (hf : ∀ k, ∃ r : ℝ, s (ix2 k c) = (r : EReal)) (l : Fin 128) :
    shares (F := Ideal) (roundsOf s) (ix2 c l) = if h : l.val < 4 then share (fun k => s (ix2 k c)) ⟨l.val, h⟩ else 0 := by
  obtain ⟨-, g0, g1, g2, g3⟩ := found s c fun k => by
    obtain ⟨r, h⟩ := hf k
    rw [h]
    exact EReal.coe_ne_bot r
  rw [shares_eq]
  simp only [roundsOf]
  refine (shared_of c _ _ _ _ (fun i => s (ix2 (top (n := 32) (by decide) (fun k => s (ix2 k c)) i) c)) g0 g1 g2 g3 l).trans ?_
  by_cases h : l.val < 4
  · rw [dif_pos h, dif_pos h]
    choose r hr using hf
    unfold share
    generalize top (n := 32) (by decide) (fun k => s (ix2 k c)) = t
    have hsub : ∀ i : Fin 4, s (ix2 (t i) c) - s (ix2 (t 0) c) = ((r (t i) - r (t 0) : ℝ) : EReal) := fun i => by
      rw [hr, hr]
      exact (EReal.coe_sub _ _).symm
    simp only [hsub]
    exact share_of_reciprocal (fun i => r (t i) - r (t 0)) _
  · rw [dif_neg h, dif_neg h]

end Cert.Kernel4Ideal.Route

end
-- ==== Proof.Route.Scores.lean ====
/- The router's scores as a step computes them, from normalised rows that are numbers. -/
module

public import proofs.«01_k».proof.Proof.Route.Finite
public import proofs.«01_k».proof.Proof.Gen.Kernel4Ideal.Skeleton
public import proofs.«01_k».proof.Proof.Gen.Kernel4Ideal.Launch
public import Idealize.ShloMosaic.Lib.Pointwise

@[expose] public section

set_option maxRecDepth 16384

noncomputable section

namespace Cert.Kernel4Ideal.Route

open Cert.Kernel4Ideal.Gen Idealize.ShloMosaic Idealize.ShloMosaic.TcCoe
open Cert.Route

/-- The product of the rounded rows with the weights and their rounding errors side by side. -/
theorem pay17_at (y : FVec Ideal S512x1024 .f32) (g : Vec Ideal S1x1024 .f32) (w : Vec Ideal S1024x256 .bf16) (c : Fin 512) (q : Fin 256) :
    k0_pay17 (F := Ideal) y g w (ix2 c q) = ∑ d, k0_pay6 (F := Ideal) y g (ix2 c d) * w (ix2 d q) := by
  unfold k0_pay17 k0_pay15
  generalize k0_pay6 (F := Ideal) y g = h
  pointwise

/-- The rounding error of the rows. -/
theorem pay16_at (y : FVec Ideal S512x1024 .f32) (g : Vec Ideal S1x1024 .f32) (c : Fin 512) (d : Fin 1024) :
    k0_pay16 (F := Ideal) y g (ix2 c d) = k0_pay6 (F := Ideal) y g (ix2 c d) - k0_pay6 (F := Ideal) y g (ix2 c d) := by
  unfold k0_pay16 k0_pay15
  generalize k0_pay6 (F := Ideal) y g = h
  pointwise

theorem pay18_eq (w : Vec Ideal S1024x128 .bf16) : k0_pay18 (F := Ideal) w = w := by
  funext j
  obtain ⟨r, l, rfl⟩ : ∃ (r : Fin 1024) (l : Fin 128), j = ix2 r l := ⟨j 0, j 1, eq_ix2 j⟩
  pointwise [k0_pay18]

theorem pay19_at (e : FVec Ideal S512x1024 .bf16) (p : FVec Ideal S512x256 .f32) (w : FVec Ideal S1024x128 .bf16) (b : Vec Ideal S1x128 .f32) (k : Fin 32) (c : Fin 512) :
    k0_pay19 (F := Ideal) e p w b (ix2 k c)
      = (p (ix2 c ⟨k.val, by omega⟩) + p (ix2 c ⟨128 + k.val, by omega⟩) + ∑ d, e (ix2 c d) * w (ix2 d ⟨k.val, by omega⟩)) + b (ix2 0 ⟨k.val, by omega⟩) := by
  pointwise [k0_pay19]

/-- An entry of the scores, of rows and weights that are numbers: the errors' products are nothing. -/
theorem scores_at (y : FVec Ideal S512x1024 .f32) (g : Vec Ideal S1x1024 .f32) (w : Vec Ideal S1024x256 .bf16) (wl : Vec Ideal S1024x128 .bf16) (b : Vec Ideal S1x128 .f32)
    (c : Fin 512) (h : Fin 1024 → EReal) (W : Fin 1024 → Fin 32 → EReal) (B : Fin 32 → EReal)
    (hh : ∀ d, k0_pay6 (F := Ideal) y g (ix2 c d) = h d) (nh : ∀ d, IsNum (h d)) (nW : ∀ d k, IsNum (W d k))
    (hw : ∀ d (k : Fin 32), w (ix2 d ⟨k.val, by omega⟩) = W d k) (hw' : ∀ d (k : Fin 32), w (ix2 d ⟨128 + k.val, by omega⟩) = W d k - W d k)
    (hb : ∀ k : Fin 32, b (ix2 0 ⟨k.val, by omega⟩) = B k) (k : Fin 32) :
    k0_pay19 (F := Ideal) (k0_pay16 y g) (k0_pay17 y g w) (k0_pay18 wl) b (ix2 k c) = score h W B k := by
  rw [pay19_at, pay17_at, pay17_at, hb]
  have e1 : ∑ d, k0_pay6 (F := Ideal) y g (ix2 c d) * w (ix2 d ⟨128 + k.val, by omega⟩) = 0 :=
    Finset.sum_eq_zero fun d _ => by rw [hw' d k, (nW d k).sub_self, mul_zero]
  have e2 : ∑ d, k0_pay16 (F := Ideal) y g (ix2 c d) * k0_pay18 (F := Ideal) wl (ix2 d ⟨k.val, by omega⟩) = 0 :=
    Finset.sum_eq_zero fun d _ => by
      rw [pay16_at, hh d, (nh d).sub_self]
      exact zero_mul _
  have e0 : ∑ d, k0_pay6 (F := Ideal) y g (ix2 c d) * w (ix2 d ⟨k.val, by omega⟩) = ∑ d, h d * W d k :=
    Finset.sum_congr rfl fun d _ => by rw [hh d, hw d k]
  rw [e0, e1, e2, add_zero, add_zero]
  rfl

end Cert.Kernel4Ideal.Route

end
-- ==== Proof.Route.Tile.lean ====
/-
# One step of the router

The experts and shares that a step leaves, entry by entry, from the blocks it reads.
-/
module

public import proofs.«01_k».proof.Proof.Merge.Spec
public import proofs.«01_k».proof.Proof.Route.Router
public import proofs.«01_k».proof.Proof.Route.Scores
public import proofs.«01_k».proof.Proof.Route.Spec
public import Idealize.ShloMosaic.Lib.Pointwise
public import Idealize.ShloMosaic.Lib.Pipeline.ValueKit

@[expose] public section

set_option maxRecDepth 16384

noncomputable section

namespace Cert.Kernel4Ideal.Route

open Cert.Kernel4Ideal.Gen Idealize.ShloMosaic Idealize.ShloMosaic.TcCoe

/-- A product of a block of rows with one of the three matrices. -/
def times (x : FVec Ideal S512x1024 .bf16) (w : FVec Ideal S1024x1024 .bf16) : FVec Ideal S512x1024 .f32 :=
  matmul dot_S512x1024_S1024x1024_S512x1024_1_0_0_1_n_n none x (shapeCast S1024x1024 w shapeCasts_S1024x1024_S1024x1024) (constant S512x1024 .f32 0x00000000#32)

theorem times_at (x : FVec Ideal S512x1024 .bf16) (w : FVec Ideal S1024x1024 .bf16) (r : Fin 512) (n : Fin 1024) :
    times x w (ix2 r n) = ∑ k, x (ix2 r k) * w (ix2 k n) := by
  pointwise [times]

/-- The gated sum of the branches of a block of rows. -/
def mix (og : FVec Ideal S512x1024 .bf16) (wg : FVec Ideal S1024x1024 .bf16) (oh : FVec Ideal S512x1024 .bf16) (wh : FVec Ideal S1024x1024 .bf16)
    (zg zh : FVec Ideal S512x1024 .bf16) : FVec Ideal S512x1024 .bf16 :=
  truncf .bf16 (addf (mulf (logistic (extf .f32 zg bitsLt_bf16_f32)) (times og wg)) (mulf (logistic (extf .f32 zh bitsLt_bf16_f32)) (times oh wh))) bitsLt_bf16_f32

/-- A row of a step. -/
def blockRow (og oh : FVec Ideal S512x1024 .bf16) (zg zh : FVec Ideal S512x1024 .bf16) (x : FVec Ideal S512x1024 .f32)
    (wg wh wo : FVec Ideal S1024x1024 .bf16) (r : Fin 512) : Cert.Merge.Row where
  gla k := og (ix2 r k)
  hyena k := oh (ix2 r k)
  gateGla k := zg (ix2 r k)
  gateHyena k := zh (ix2 r k)
  rest k := x (ix2 r k)
  wGla k j := wg (ix2 k j)
  wHyena k j := wh (ix2 k j)
  wOut j d := wo (ix2 j d)

variable (og oh zg zh : FVec Ideal S512x1024 .bf16) (x : FVec Ideal S512x1024 .f32) (wg wh wo : FVec Ideal S1024x1024 .bf16)

theorem mix_at (r : Fin 512) (j : Fin 1024) :
    mix og wg oh wh zg zh (ix2 r j) = Cert.Merge.mixed (blockRow og oh zg zh x wg wh wo r) j := by
  show Ideal.logistic (zg (ix2 r j)) * times og wg (ix2 r j) + Ideal.logistic (zh (ix2 r j)) * times oh wh (ix2 r j) = _
  rw [times_at, times_at]
  rfl

theorem pay4_eq : k0_pay4 (F := Ideal) og wg oh wh zg zh x wo = addf x (times (mix og wg oh wh zg zh) wo) := rfl

theorem pay4_at (r : Fin 512) (d : Fin 1024) :
    k0_pay4 (F := Ideal) og wg oh wh zg zh x wo (ix2 r d) = Cert.Merge.after (blockRow og oh zg zh x wg wh wo r) d := by
  rw [pay4_eq]
  show x (ix2 r d) + times (mix og wg oh wh zg zh) wo (ix2 r d) = _
  rw [times_at]
  simp only [mix_at og oh zg zh x wg wh wo]
  rfl

theorem pay6_at (g : Vec Ideal S1x1024 .f32) (r : Fin 512) (k : Fin 1024) :
    k0_pay6 (F := Ideal) (k0_pay5 og wg oh wh zg zh x wo) g (ix2 r k)
      = Cert.Projection.norm (Cert.Merge.after (blockRow og oh zg zh x wg wh wo r)) (fun k => g (ix2 0 k)) k := by
  have e : (fun d => k0_pay4 (F := Ideal) og wg oh wh zg zh x wo (ix2 r d)) = Cert.Merge.after (blockRow og oh zg zh x wg wh wo r) :=
    funext fun d => pay4_at og oh zg zh x wg wh wo r d
  rw [← e]
  unfold k0_pay6 k0_pay5
  generalize k0_pay4 (F := Ideal) og wg oh wh zg zh x wo = y
  pointwise [Cert.Projection.norm]

/-! ## The two blocks -/

variable (x0 x1 : Vec Ideal S512x1024 .bf16) (x2 : Vec Ideal S512x2048 .bf16) (x3 : Vec Ideal S512x1024 .f32)
  (x4 x5 x6 : Vec Ideal S1024x1024 .bf16) (x7 : Vec Ideal S1x1024 .f32) (x8 : Vec Ideal S1024x256 .bf16) (x9 : Vec Ideal S1x128 .f32)

/-- A row of a step, from the blocks. -/
def readRow (r : Fin 512) : Cert.Merge.Row where
  gla k := x0 (ix2 r k)
  hyena k := x1 (ix2 r k)
  gateGla k := x2 (ix2 r ⟨k.val, by omega⟩)
  gateHyena k := x2 (ix2 r ⟨1024 + k.val, by omega⟩)
  rest k := x3 (ix2 r k)
  wGla k j := x4 (ix2 k j)
  wHyena k j := x5 (ix2 k j)
  wOut j d := x6 (ix2 j d)

theorem ld512 {e : EltTy} (v : Vec Ideal S512x1024 e) : View.ld v r512x1024 = v := View.ld_unit_lit _ _ (by decide)
theorem ld1024 (v : Vec Ideal S1024x1024 .bf16) : View.ld v r1024x1024 = v := View.ld_unit_lit _ _ (by decide)

theorem ld_norm (v : Vec Ideal S1x1024 .f32) : View.ld v r1x1024 = v := View.ld_unit_lit _ _ (by decide)

theorem row_eq (r : Fin 512) :
    blockRow (View.ld x0 r512x1024) (View.ld x1 r512x1024) (View.ld x2 rLeft) (View.ld x2 rRight) (View.ld x3 r512x1024) (View.ld x4 r1024x1024)
      (View.ld x5 r1024x1024) (View.ld x6 r1024x1024) r = readRow x0 x1 x2 x3 x4 x5 x6 r := by
  rw [ld512, ld512, ld512, ld1024, ld1024, ld1024]
  unfold blockRow readRow
  congr 1
  · funext k
    refine congrArg x2 (funext fun a => Fin.ext ?_)
    match a with
    | ⟨0, _⟩ => exact (show 0 + 1 * r.val = r.val by omega)
    | ⟨1, _⟩ => exact (show 0 + 1 * k.val = k.val by omega)
  · funext k
    refine congrArg x2 (funext fun a => Fin.ext ?_)
    match a with
    | ⟨0, _⟩ => exact (show 0 + 1 * r.val = r.val by omega)
    | ⟨1, _⟩ => exact (show 1024 + 1 * k.val = 1024 + k.val by omega)

theorem ld_weights (v : Vec Ideal S1024x256 .bf16) : View.ld v r1024x256 = v := View.ld_unit_lit _ _ (by decide)
theorem ld_bias (v : Vec Ideal S1x128 .f32) : View.ld v r1x128 = v := View.ld_unit_lit _ _ (by decide)

/-- The normalised row that a step scores. -/
def normedRow (r : Fin 512) : Fin 1024 → EReal :=
  Cert.Projection.norm (Cert.Merge.after (readRow x0 x1 x2 x3 x4 x5 x6 r)) (fun k => x7 (ix2 0 k))

theorem normed_at (r : Fin 512) (d : Fin 1024) :
    k0_pay6 (F := Ideal) (scaled x0 x1 x2 x3 x4 x5 x6) (View.ld x7 r1x1024) (ix2 r d) = normedRow x0 x1 x2 x3 x4 x5 x6 x7 r d := by
  unfold scaled normedRow
  rw [pay6_at, row_eq, ld_norm]

/-- The scores of a step. -/
def scored : FVec Ideal S32x512 .f32 :=
  k0_pay19 (k0_pay16 (scaled x0 x1 x2 x3 x4 x5 x6) (View.ld x7 r1x1024)) (k0_pay17 (scaled x0 x1 x2 x3 x4 x5 x6) (View.ld x7 r1x1024) (View.ld x8 r1024x256))
    (k0_pay18 (View.ld x8 rHigh)) (View.ld x9 r1x128)

theorem scored_at (r : Fin 512) (W : Fin 1024 → Fin 32 → EReal) (B : Fin 32 → EReal)
    (nh : ∀ d, Cert.Route.IsNum (normedRow x0 x1 x2 x3 x4 x5 x6 x7 r d)) (nW : ∀ d k, Cert.Route.IsNum (W d k))
    (hw : ∀ d (k : Fin 32), x8 (ix2 d ⟨k.val, by omega⟩) = W d k) (hw' : ∀ d (k : Fin 32), x8 (ix2 d ⟨128 + k.val, by omega⟩) = W d k - W d k)
    (hb : ∀ k : Fin 32, x9 (ix2 0 ⟨k.val, by omega⟩) = B k) (k : Fin 32) : scored x0 x1 x2 x3 x4 x5 x6 x7 x8 x9 (ix2 k r) = Cert.Route.score (normedRow x0 x1 x2 x3 x4 x5 x6 x7 r) W B k :=
  scores_at _ _ _ _ _ r (normedRow x0 x1 x2 x3 x4 x5 x6 x7 r) W B (normed_at x0 x1 x2 x3 x4 x5 x6 x7 r) nh nW
    (fun d k => by rw [ld_weights]; exact hw d k) (fun d k => by rw [ld_weights]; exact hw' d k) (fun k => by rw [ld_bias]; exact hb k) k

theorem chosen_at (r : Fin 512) (W : Fin 1024 → Fin 32 → EReal) (B : Fin 32 → EReal)
    (nh : ∀ d, Cert.Route.IsNum (normedRow x0 x1 x2 x3 x4 x5 x6 x7 r d)) (nW : ∀ d k, Cert.Route.IsNum (W d k)) (nB : ∀ k, Cert.Route.IsNum (B k))
    (hw : ∀ d (k : Fin 32), x8 (ix2 d ⟨k.val, by omega⟩) = W d k) (hw' : ∀ d (k : Fin 32), x8 (ix2 d ⟨128 + k.val, by omega⟩) = W d k - W d k)
    (hb : ∀ k : Fin 32, x9 (ix2 0 ⟨k.val, by omega⟩) = B k) (j : Fin 4) :
    chosen (F := Ideal) x0 x1 x2 x3 x4 x5 x6 x7 x8 x9 (ix2 r j) = BitVec.ofNat 32 (Cert.Route.top (n := 32) (by decide) (Cert.Route.score (normedRow x0 x1 x2 x3 x4 x5 x6 x7 r) W B) j).val := by
  have e := scored_at x0 x1 x2 x3 x4 x5 x6 x7 x8 x9 r W B nh nW hw hw' hb
  unfold chosen
  rw [View.canon_cons_unit_lit _ _ _ (by decide), rounds_eq]
  refine (picked_at (scored x0 x1 x2 x3 x4 x5 x6 x7 x8 x9) r (fun k => ?_) j).trans ?_
  · rw [e k]
    exact (Cert.Route.isNum_score nh nW nB k).ne_bot
  · exact congrArg (fun f => BitVec.ofNat 32 (Cert.Route.top (n := 32) (by decide) f j).val) (funext e)

theorem weights_at (r : Fin 512) (W : Fin 1024 → Fin 32 → EReal) (B : Fin 32 → EReal)
    (nh : ∀ d, Cert.Route.IsNum (normedRow x0 x1 x2 x3 x4 x5 x6 x7 r d)) (nW : ∀ d k, Cert.Route.IsNum (W d k)) (nB : ∀ k, Cert.Route.IsNum (B k))
    (hw : ∀ d (k : Fin 32), x8 (ix2 d ⟨k.val, by omega⟩) = W d k) (hw' : ∀ d (k : Fin 32), x8 (ix2 d ⟨128 + k.val, by omega⟩) = W d k - W d k)
    (hb : ∀ k : Fin 32, x9 (ix2 0 ⟨k.val, by omega⟩) = B k) (l : Fin 128) :
    weights (F := Ideal) x0 x1 x2 x3 x4 x5 x6 x7 x8 x9 (ix2 r l)
      = if h : l.val < 4 then Cert.Route.share (Cert.Route.score (normedRow x0 x1 x2 x3 x4 x5 x6 x7 r) W B) ⟨l.val, h⟩ else 0 := by
  have e := scored_at x0 x1 x2 x3 x4 x5 x6 x7 x8 x9 r W B nh nW hw hw' hb
  unfold weights
  rw [View.canon_cons_unit_lit _ _ _ (by decide), rounds_eq]
  refine (shares_at (scored x0 x1 x2 x3 x4 x5 x6 x7 x8 x9) r (fun k => ?_) l).trans ?_
  · rw [e k]
    exact Cert.Route.isNum_score nh nW nB k
  · exact congrArg (fun f => if h : l.val < 4 then Cert.Route.share f ⟨l.val, h⟩ else 0) (funext e)

end Cert.Kernel4Ideal.Route

end
-- ==== Proof.Route.Padded.lean ====
/- The router's weights and bias as the kernel finds them: written into the first lanes of zeros. -/
module

public import proofs.«01_k».proof.Proof.Gen.Kernel4Ideal.Launch
public import Idealize.ShloMosaic.Lib.Pointwise
public import Idealize.ShloMosaic.Lib.Routing.OpsSet

@[expose] public section

set_option maxRecDepth 16384

noncomputable section

namespace Cert.Kernel4Ideal.Route

open Cert.Kernel4Ideal.Gen Idealize.ShloMosaic Idealize.ShloMosaic.TcCoe Idealize.ShloMosaic.Routing

/-- A start that reads zeros is zero. -/
theorem start_zero {s si u : Shape} (d : ScatterDims s si u) (j : u.Idx) (idx : IVec si 32) (h : ∀ i, idx i = 0#32) (a : Fin s.rank) : d.start j idx a = 0 := by
  unfold ScatterDims.start
  split
  · rw [h]
    rfl
  · rfl

theorem lands_weights (idx : IVec S1 32) (h : ∀ i, idx i = 0#32) (d' : Fin 1024) (k : Fin 32) (d : Fin 1024) (l : Fin 128) :
    scatter_S1024x128_S1_S1024x32_01_n_1_0.resultIdx? (ix2 d' k : S1024x32.Idx) idx = some (ix2 d l : S1024x128.Idx) ↔ d' = d ∧ k.val = l.val := by
  refine (resultIdx?_ix2 (R := 1024) (C := 128) _ _ idx d l).trans ?_
  rw [start_zero _ _ _ h, start_zero _ _ _ h]
  have w0 : scatter_S1024x128_S1_S1024x32_01_n_1_0.window (ix2 d' k : S1024x32.Idx) 0 = d'.val := rfl
  have w1 : scatter_S1024x128_S1_S1024x32_01_n_1_0.window (ix2 d' k : S1024x32.Idx) 1 = k.val := rfl
  rw [Fin.ext_iff]
  refine Iff.trans (b := (0 : Int) + (d'.val : Int) = (d.val : Int) ∧ (0 : Int) + (k.val : Int) = (l.val : Int)) Iff.rfl ?_
  omega

theorem weights_padded (x : FVec Ideal S1024x128 .f32) (idx : IVec S1 32) (h : ∀ i, idx i = 0#32) (w : FVec Ideal S1024x32 .f32) (d : Fin 1024) (k : Fin 32) :
    Host.scatter scatter_S1024x128_S1_S1024x32_01_n_1_0 (fun _ b => b) x idx w (ix2 d ⟨k.val, by omega⟩) = w (ix2 d k) := by
  refine scatter_set_hit _ x idx w _ _ (fun j hj => ?_) (ix2 d k) ((lands_weights idx h d k d ⟨k.val, by omega⟩).mpr ⟨rfl, rfl⟩)
  obtain ⟨d', k', rfl⟩ : ∃ (d' : Fin 1024) (k' : Fin 32), j = ix2 d' k' := ⟨j 0, j 1, eq_ix2 j⟩
  obtain ⟨rfl, e⟩ := (lands_weights idx h d' k' d ⟨k.val, by omega⟩).mp hj
  rw [Fin.ext (show k'.val = k.val from e)]

theorem lands_bias (idx : IVec S2 32) (h : ∀ i, idx i = 0#32) (k : Fin 32) (l : Fin 128) :
    scatter_S1x128_S2_S32_0_0_01_0.resultIdx? (ix1 k : S32.Idx) idx = some (ix2 0 l : S1x128.Idx) ↔ k.val = l.val := by
  refine (resultIdx?_ix2 (R := 1) (C := 128) _ _ idx 0 l).trans ?_
  rw [start_zero _ _ _ h, start_zero _ _ _ h]
  have w0 : scatter_S1x128_S2_S32_0_0_01_0.window (ix1 k : S32.Idx) 0 = 0 := rfl
  have w1 : scatter_S1x128_S2_S32_0_0_01_0.window (ix1 k : S32.Idx) 1 = k.val := rfl
  refine Iff.trans (b := (0 : Int) + ((0 : ℕ) : Int) = (((0 : Fin 1).val : ℕ) : Int) ∧ (0 : Int) + (k.val : Int) = (l.val : Int)) Iff.rfl ?_
  simp

theorem bias_padded (x : FVec Ideal S1x128 .f32) (idx : IVec S2 32) (h : ∀ i, idx i = 0#32) (b : FVec Ideal S32 .f32) (k : Fin 32) :
    Host.scatter scatter_S1x128_S2_S32_0_0_01_0 (fun _ b => b) x idx b (ix2 0 ⟨k.val, by omega⟩) = b (ix1 k) := by
  refine scatter_set_hit _ x idx b _ _ (fun j hj => ?_) (ix1 k) ((lands_bias idx h k ⟨k.val, by omega⟩).mpr rfl)
  obtain ⟨k', rfl⟩ : ∃ k' : Fin 32, j = ix1 k' := ⟨j 0, eq_ix1 j⟩
  have e := (lands_bias idx h k' ⟨k.val, by omega⟩).mp hj
  rw [Fin.ext (show k'.val = k.val from e)]

end Cert.Kernel4Ideal.Route

end
-- ==== Proof.Route.Value.lean ====
/-
# The router's results

The matrices, the norm's weights and the router's padded weights as the pipeline finds them, a step's blocks, and the experts and
shares at the end.
-/
module

public import proofs.«01_k».proof.Proof.Route.Tile
public import proofs.«01_k».proof.Proof.Route.Run
public import proofs.«01_k».proof.Proof.Route.Padded
public import Idealize.ShloMosaic.Lib.Pipeline.Covers

@[expose] public section

set_option maxRecDepth 16384

noncomputable section

namespace Cert.Kernel4Ideal.Route

open Cert.Kernel4Ideal.Gen Idealize.ShloMosaic Idealize.ShloMosaic.TcCoe Idealize.SL.Sem
open Idealize.ShloMosaic.Pipeline (Dat Cfg Window)

variable (m : (ℓ : Loc nD τ sig) → Buf (Elt Ideal) ℓ)

/-! ## What the pipeline finds -/

/-- The norm's weights as a row. -/
theorem V_norm (c : Dev nD) (k : Fin 1024) :
    (V m c main_v16 : FVec Ideal S1x1024 .f32) (ix2 0 k) = (m ((c : Thread nD τ).loc main_arg7) : FVec Ideal S1024 .f32) (ix1 k) := by
  have h : (V m c main_v16 : FVec Ideal S1x1024 .f32) = shapeCast _ (m ((c : Thread nD τ).loc main_arg7) : FVec Ideal S1024 .f32) shapeCasts_S1024_S1x1024 := by
    unfold V hostOps0
    after_results
    rfl
  rw [h]
  pointwise

/-- The first branch's matrix. -/
theorem V_mat4 (c : Dev nD) (k j : Fin 1024) :
    (V m c main_v13 : S1024x1024.Idx → EReal) (ix2 k j) = (m ((c : Thread nD τ).loc main_arg4) : S1024x1024.Idx → EReal) (ix2 k j) := by
  have h : (V m c main_v13 : FVec Ideal S1024x1024 .bf16) = (truncf .bf16 (m ((c : Thread nD τ).loc main_arg4) : FVec Ideal S1024x1024 .f32) bitsLt_bf16_f32 : FVec Ideal S1024x1024 .bf16) := by
    unfold V hostOps0
    after_results
  rw [h]
  rfl

/-- The second branch's matrix. -/
theorem V_mat5 (c : Dev nD) (k j : Fin 1024) :
    (V m c main_v14 : S1024x1024.Idx → EReal) (ix2 k j) = (m ((c : Thread nD τ).loc main_arg5) : S1024x1024.Idx → EReal) (ix2 k j) := by
  have h : (V m c main_v14 : FVec Ideal S1024x1024 .bf16) = (truncf .bf16 (m ((c : Thread nD τ).loc main_arg5) : FVec Ideal S1024x1024 .f32) bitsLt_bf16_f32 : FVec Ideal S1024x1024 .bf16) := by
    unfold V hostOps0
    after_results
  rw [h]
  rfl

/-- The output matrix. -/
theorem V_mat6 (c : Dev nD) (k j : Fin 1024) :
    (V m c main_v15 : S1024x1024.Idx → EReal) (ix2 k j) = (m ((c : Thread nD τ).loc main_arg6) : S1024x1024.Idx → EReal) (ix2 k j) := by
  have h : (V m c main_v15 : FVec Ideal S1024x1024 .bf16) = (truncf .bf16 (m ((c : Thread nD τ).loc main_arg6) : FVec Ideal S1024x1024 .f32) bitsLt_bf16_f32 : FVec Ideal S1024x1024 .bf16) := by
    unfold V hostOps0
    after_results
  rw [h]
  rfl

/-- The router's weights among zeros. -/
abbrev paddedWeights (w : FVec Ideal S1024x32 .f32) : FVec Ideal S1024x128 .f32 :=
  Host.scatter scatter_S1024x128_S1_S1024x32_01_n_1_0 (fun _ b => b) (broadcastInDim S1024x128 ![] bcast_S_S1024x128 (constant S_ .f32 0x00000000#32))
    (broadcastInDim S1 ![] bcast_S_S1 (constantI S_ 32 0#32)) w

/-- Two matrices side by side: the rounded one, and what rounding left. -/
abbrev split (s : FVec Ideal S1024x128 .f32) : FVec Ideal S1024x256 .bf16 :=
  concatenate S1024x256 1 [⟨S1024x128, truncf .bf16 s bitsLt_bf16_f32⟩, ⟨S1024x128, truncf .bf16 (subf s (extf .f32 (truncf .bf16 s bitsLt_bf16_f32) bitsLt_bf16_f32)) bitsLt_bf16_f32⟩] concatenates_S1024x128_S1024x128_S1024x256_d1

theorem split_high (s : FVec Ideal S1024x128 .f32) (d : Fin 1024) (k : Fin 32) : split s (ix2 d ⟨k.val, by omega⟩) = s (ix2 d ⟨k.val, by omega⟩) := by
  pointwise [split]
  exact dif_pos (show k.val < 128 by omega)

theorem split_low (s : FVec Ideal S1024x128 .f32) (d : Fin 1024) (k : Fin 32) :
    split s (ix2 d ⟨128 + k.val, by omega⟩) = s (ix2 d ⟨k.val, by omega⟩) - s (ix2 d ⟨k.val, by omega⟩) := by
  pointwise [split]

theorem V_weights (c : Dev nD) :
    (V m c main_v7 : FVec Ideal S1024x256 .bf16) = split (paddedWeights (m ((c : Thread nD τ).loc main_arg8) : FVec Ideal S1024x32 .f32)) := by
  unfold V hostOps0
  after_results

theorem V_high (c : Dev nD) (d : Fin 1024) (k : Fin 32) :
    (V m c main_v7 : S1024x256.Idx → EReal) (ix2 d ⟨k.val, by omega⟩) = (m ((c : Thread nD τ).loc main_arg8) : S1024x32.Idx → EReal) (ix2 d k) :=
  (congrFun (V_weights m c) _).trans ((split_high _ d k).trans (weights_padded _ _ (fun _ => rfl) _ d k))

/-- The router's weights as they are given. -/
abbrev given (c : Dev nD) : S1024x32.Idx → EReal := (m ((c : Thread nD τ).loc main_arg8) : S1024x32.Idx → EReal)

theorem V_low (c : Dev nD) (d : Fin 1024) (k : Fin 32) :
    (V m c main_v7 : S1024x256.Idx → EReal) (ix2 d ⟨128 + k.val, by omega⟩) = given m c (ix2 d k) - given m c (ix2 d k) :=
  (congrFun (V_weights m c) _).trans ((split_low _ d k).trans (congrArg (fun x : EReal => x - x) (weights_padded _ _ (fun _ => rfl) _ d k)))

/-- The router's biases among zeros. -/
abbrev paddedBias (b : FVec Ideal S32 .f32) : FVec Ideal S1x128 .f32 :=
  Host.scatter scatter_S1x128_S2_S32_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

theorem V_biases (c : Dev nD) : (V m c main_v12 : FVec Ideal S1x128 .f32) = paddedBias (m ((c : Thread nD τ).loc main_arg9) : FVec Ideal S32 .f32) := by
  unfold V hostOps0
  after_results

theorem V_bias (c : Dev nD) (k : Fin 32) :
    (V m c main_v12 : S1x128.Idx → EReal) (ix2 0 ⟨k.val, by omega⟩) = (m ((c : Thread nD τ).loc main_arg9) : S32.Idx → EReal) (ix1 k) := by
  refine (congrFun (V_biases m c) _).trans (bias_padded _ _ (fun i => ?_) _ k)
  obtain ⟨j, rfl⟩ : ∃ j : Fin 2, i = ix1 j := ⟨i 0, eq_ix1 i⟩
  match j with
  | ⟨0, _⟩ => rfl
  | ⟨1, _⟩ => rfl

/-! ## A step's blocks -/

theorem coords_val (t : Fin cfg0.N) : ((grid0.coords t) 0).val = t.val :=
  (by decide +kernel : ∀ t : Fin grid0.N, ((grid0.coords t) 0).val = t.val) t

theorem emb0 (t : Fin cfg0.N) (y : ((cfg0.win 0).xblock (cfg0.grid.coords t)).Idx) (a : Fin 2) :
    ((((cfg0.win 0).rect t).emb y a : Fin _) : ℕ) = (cfg0.win 0).index t a * (cfg0.win 0).size a + (y a : Fin _).val :=
  (cfg0.win 0).rect_emb_val t y a rfl

theorem emb1 (t : Fin cfg0.N) (y : ((cfg0.win 1).xblock (cfg0.grid.coords t)).Idx) (a : Fin 2) :
    ((((cfg0.win 1).rect t).emb y a : Fin _) : ℕ) = (cfg0.win 1).index t a * (cfg0.win 1).size a + (y a : Fin _).val :=
  (cfg0.win 1).rect_emb_val t y a rfl

theorem emb2 (t : Fin cfg0.N) (y : ((cfg0.win 2).xblock (cfg0.grid.coords t)).Idx) (a : Fin 2) :
    ((((cfg0.win 2).rect t).emb y a : Fin _) : ℕ) = (cfg0.win 2).index t a * (cfg0.win 2).size a + (y a : Fin _).val :=
  (cfg0.win 2).rect_emb_val t y a rfl

theorem emb3 (t : Fin cfg0.N) (y : ((cfg0.win 3).xblock (cfg0.grid.coords t)).Idx) (a : Fin 2) :
    ((((cfg0.win 3).rect t).emb y a : Fin _) : ℕ) = (cfg0.win 3).index t a * (cfg0.win 3).size a + (y a : Fin _).val :=
  (cfg0.win 3).rect_emb_val t y a rfl

theorem emb4 (t : Fin cfg0.N) (y : ((cfg0.win 4).xblock (cfg0.grid.coords t)).Idx) (a : Fin 2) :
    ((((cfg0.win 4).rect t).emb y a : Fin _) : ℕ) = (cfg0.win 4).index t a * (cfg0.win 4).size a + (y a : Fin _).val :=
  (cfg0.win 4).rect_emb_val t y a rfl

theorem emb5 (t : Fin cfg0.N) (y : ((cfg0.win 5).xblock (cfg0.grid.coords t)).Idx) (a : Fin 2) :
    ((((cfg0.win 5).rect t).emb y a : Fin _) : ℕ) = (cfg0.win 5).index t a * (cfg0.win 5).size a + (y a : Fin _).val :=
  (cfg0.win 5).rect_emb_val t y a rfl

theorem emb6 (t : Fin cfg0.N) (y : ((cfg0.win 6).xblock (cfg0.grid.coords t)).Idx) (a : Fin 2) :
    ((((cfg0.win 6).rect t).emb y a : Fin _) : ℕ) = (cfg0.win 6).index t a * (cfg0.win 6).size a + (y a : Fin _).val :=
  (cfg0.win 6).rect_emb_val t y a rfl

theorem emb7 (t : Fin cfg0.N) (y : ((cfg0.win 7).xblock (cfg0.grid.coords t)).Idx) (a : Fin 2) :
    ((((cfg0.win 7).rect t).emb y a : Fin _) : ℕ) = (cfg0.win 7).index t a * (cfg0.win 7).size a + (y a : Fin _).val :=
  (cfg0.win 7).rect_emb_val t y a rfl

theorem emb8 (t : Fin cfg0.N) (y : ((cfg0.win 8).xblock (cfg0.grid.coords t)).Idx) (a : Fin 2) :
    ((((cfg0.win 8).rect t).emb y a : Fin _) : ℕ) = (cfg0.win 8).index t a * (cfg0.win 8).size a + (y a : Fin _).val :=
  (cfg0.win 8).rect_emb_val t y a rfl

theorem emb9 (t : Fin cfg0.N) (y : ((cfg0.win 9).xblock (cfg0.grid.coords t)).Idx) (a : Fin 2) :
    ((((cfg0.win 9).rect t).emb y a : Fin _) : ℕ) = (cfg0.win 9).index t a * (cfg0.win 9).size a + (y a : Fin _).val :=
  (cfg0.win 9).rect_emb_val t y a rfl

theorem emb12 (t : Fin cfg0.N) (y : ((cfg0.win 12).xblock (cfg0.grid.coords t)).Idx) (a : Fin 2) :
    ((((cfg0.win 12).rect t).emb y a : Fin _) : ℕ) = (cfg0.win 12).index t a * (cfg0.win 12).size a + (y a : Fin _).val :=
  (cfg0.win 12).rect_emb_val t y a rfl

theorem emb13 (t : Fin cfg0.N) (y : ((cfg0.win 13).xblock (cfg0.grid.coords t)).Idx) (a : Fin 2) :
    ((((cfg0.win 13).rect t).emb y a : Fin _) : ℕ) = (cfg0.win 13).index t a * (cfg0.win 13).size a + (y a : Fin _).val :=
  (cfg0.win 13).rect_emb_val t y a rfl

/-- The first mixer's rows. -/
theorem blk0 (c : Dev nD) (t : Fin cfg0.N) (r : Fin 512) (k : Fin 1024) (h : t.val * 512 + r.val < 32768) :
    (iblk m c 0 t : S512x1024.Idx → EReal) (ix2 r k)
      = (m ((c : Thread nD τ).loc main_arg0) : S32768x1024.Idx → EReal) (ix2 ⟨t.val * 512 + r.val, h⟩ k) := by
  rw [← V_main_arg0 m c]
  refine (show _ = (V m c main_arg0 : S32768x1024.Idx → EReal) (((cfg0.win 0).rect t).emb (ix2 r k)) from rfl).trans ?_
  refine congrArg (V m c main_arg0 : S32768x1024.Idx → EReal) (funext fun a => Fin.ext ?_)
  refine (emb0 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The second mixer's rows. -/
theorem blk1 (c : Dev nD) (t : Fin cfg0.N) (r : Fin 512) (k : Fin 1024) (h : t.val * 512 + r.val < 32768) :
    (iblk m c 1 t : S512x1024.Idx → EReal) (ix2 r k)
      = (m ((c : Thread nD τ).loc main_arg1) : S32768x1024.Idx → EReal) (ix2 ⟨t.val * 512 + r.val, h⟩ k) := by
  rw [← V_main_arg1 m c]
  refine (show _ = (V m c main_arg1 : S32768x1024.Idx → EReal) (((cfg0.win 1).rect t).emb (ix2 r k)) from rfl).trans ?_
  refine congrArg (V m c main_arg1 : S32768x1024.Idx → EReal) (funext fun a => Fin.ext ?_)
  refine (emb1 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The gates. -/
theorem blk2 (c : Dev nD) (t : Fin cfg0.N) (r : Fin 512) (k : Fin 2048) (h : t.val * 512 + r.val < 32768) :
    (iblk m c 2 t : S512x2048.Idx → EReal) (ix2 r k)
      = (m ((c : Thread nD τ).loc main_arg2) : S32768x2048.Idx → EReal) (ix2 ⟨t.val * 512 + r.val, h⟩ k) := by
  rw [← V_main_arg2 m c]
  refine (show _ = (V m c main_arg2 : S32768x2048.Idx → EReal) (((cfg0.win 2).rect t).emb (ix2 r k)) from rfl).trans ?_
  refine congrArg (V m c main_arg2 : S32768x2048.Idx → EReal) (funext fun a => Fin.ext ?_)
  refine (emb2 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 2048 + k.val = k.val by omega)

/-- The residual rows. -/
theorem blk3 (c : Dev nD) (t : Fin cfg0.N) (r : Fin 512) (k : Fin 1024) (h : t.val * 512 + r.val < 32768) :
    (iblk m c 3 t : S512x1024.Idx → EReal) (ix2 r k)
      = (m ((c : Thread nD τ).loc main_arg3) : S32768x1024.Idx → EReal) (ix2 ⟨t.val * 512 + r.val, h⟩ k) := by
  rw [← V_main_arg3 m c]
  refine (show _ = (V m c main_arg3 : S32768x1024.Idx → EReal) (((cfg0.win 3).rect t).emb (ix2 r k)) from rfl).trans ?_
  refine congrArg (V m c main_arg3 : S32768x1024.Idx → EReal) (funext fun a => Fin.ext ?_)
  refine (emb3 t (ix2 r k) a).trans ?_
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 1024 + k.val = k.val by omega)

/-- The first branch's matrix, whole. -/
theorem blk4 (c : Dev nD) (t : Fin cfg0.N) (k j : Fin 1024) :
    (iblk m c 4 t : S1024x1024.Idx → EReal) (ix2 k j) = (m ((c : Thread nD τ).loc main_arg4) : S1024x1024.Idx → EReal) (ix2 k j) := by
  refine Eq.trans ?_ (V_mat4 m c k j)
  refine (show _ = (V m c main_v13 : S1024x1024.Idx → EReal) (((cfg0.win 4).rect t).emb (ix2 k j)) from rfl).trans ?_
  refine congrArg (V m c main_v13 : S1024x1024.Idx → EReal) (funext fun a => Fin.ext ?_)
  refine (emb4 t (ix2 k j) a).trans ?_
  match a with
  | ⟨0, _⟩ => exact (show 0 * 1024 + k.val = k.val by omega)
  | ⟨1, _⟩ => exact (show 0 * 1024 + j.val = j.val by omega)

/-- The second branch's matrix, whole. -/
theorem blk5 (c : Dev nD) (t : Fin cfg0.N) (k j : Fin 1024) :
    (iblk m c 5 t : S1024x1024.Idx → EReal) (ix2 k j) = (m ((c : Thread nD τ).loc main_arg5) : S1024x1024.Idx → EReal) (ix2 k j) := by
  refine Eq.trans ?_ (V_mat5 m c k j)
  refine (show _ = (V m c main_v14 : S1024x1024.Idx → EReal) (((cfg0.win 5).rect t).emb (ix2 k j)) from rfl).trans ?_
  refine congrArg (V m c main_v14 : S1024x1024.Idx → EReal) (funext fun a => Fin.ext ?_)
  refine (emb5 t (ix2 k j) a).trans ?_
  match a with
  | ⟨0, _⟩ => exact (show 0 * 1024 + k.val = k.val by omega)
  | ⟨1, _⟩ => exact (show 0 * 1024 + j.val = j.val by omega)

/-- The output matrix, whole. -/
theorem blk6 (c : Dev nD) (t : Fin cfg0.N) (k j : Fin 1024) :
    (iblk m c 6 t : S1024x1024.Idx → EReal) (ix2 k j) = (m ((c : Thread nD τ).loc main_arg6) : S1024x1024.Idx → EReal) (ix2 k j) := by
  refine Eq.trans ?_ (V_mat6 m c k j)
  refine (show _ = (V m c main_v15 : S1024x1024.Idx → EReal) (((cfg0.win 6).rect t).emb (ix2 k j)) from rfl).trans ?_
  refine congrArg (V m c main_v15 : S1024x1024.Idx → EReal) (funext fun a => Fin.ext ?_)
  refine (emb6 t (ix2 k j) a).trans ?_
  match a with
  | ⟨0, _⟩ => exact (show 0 * 1024 + k.val = k.val by omega)
  | ⟨1, _⟩ => exact (show 0 * 1024 + j.val = j.val by omega)

/-- The norm's weights, whole. -/
theorem blk7 (c : Dev nD) (t : Fin cfg0.N) (k : Fin 1024) :
    (iblk m c 7 t : S1x1024.Idx → EReal) (ix2 0 k) = (m ((c : Thread nD τ).loc main_arg7) : S1024.Idx → EReal) (ix1 k) := by
  refine Eq.trans ?_ (V_norm m c k)
  refine (show _ = (V m c main_v16 : S1x1024.Idx → EReal) (((cfg0.win 7).rect t).emb (ix2 0 k)) from rfl).trans ?_
  refine congrArg (V m c main_v16 : S1x1024.Idx → EReal) (funext fun a => Fin.ext ?_)
  refine (emb7 t (ix2 0 k) a).trans ?_
  match a with
  | ⟨0, _⟩ => rfl
  | ⟨1, _⟩ => exact (show 0 * 1024 + k.val = k.val by omega)

/-- A row of a step is a row of the arrays. -/
theorem row_blk (c : Dev nD) (t : Fin cfg0.N) (r : Fin 512) (h : t.val * 512 + r.val < 32768) :
    readRow (iblk m c 0 t) (iblk m c 1 t) (iblk m c 2 t) (iblk m c 3 t) (iblk m c 4 t) (iblk m c 5 t) (iblk m c 6 t) r
      = Cert.Merge.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, h⟩ := by
  unfold readRow Cert.Merge.row
  congr 1
  · funext k; exact blk0 m c t r k h
  · funext k; exact blk1 m c t r k h
  · funext k; exact blk2 m c t r _ h
  · funext k; exact blk2 m c t r _ h
  · funext k; exact blk3 m c t r k h
  · funext k j; exact blk4 m c t k j
  · funext k j; exact blk5 m c t k j
  · funext k j; exact blk6 m c t k j

/-- The router's weights, whole. -/
theorem blk8 (c : Dev nD) (t : Fin cfg0.N) (d : Fin 1024) (l : Fin 256) :
    (iblk m c 8 t : S1024x256.Idx → EReal) (ix2 d l) = (V m c main_v7 : S1024x256.Idx → EReal) (ix2 d l) := by
  refine (show _ = (V m c main_v7 : S1024x256.Idx → EReal) (((cfg0.win 8).rect t).emb (ix2 d l)) from rfl).trans ?_
  refine congrArg (V m c main_v7 : S1024x256.Idx → EReal) (funext fun a => Fin.ext ?_)
  refine (emb8 t (ix2 d l) a).trans ?_
  match a with
  | ⟨0, _⟩ => exact (show 0 * 1024 + d.val = d.val by omega)
  | ⟨1, _⟩ => exact (show 0 * 256 + l.val = l.val by omega)

/-- The router's biases, whole. -/
theorem blk9 (c : Dev nD) (t : Fin cfg0.N) (l : Fin 128) :
    (iblk m c 9 t : S1x128.Idx → EReal) (ix2 0 l) = (V m c main_v12 : S1x128.Idx → EReal) (ix2 0 l) := by
  refine (show _ = (V m c main_v12 : S1x128.Idx → EReal) (((cfg0.win 9).rect t).emb (ix2 0 l)) from rfl).trans ?_
  refine congrArg (V m c main_v12 : S1x128.Idx → EReal) (funext fun a => Fin.ext ?_)
  refine (emb9 t (ix2 0 l) a).trans ?_
  match a with
  | ⟨0, _⟩ => rfl
  | ⟨1, _⟩ => exact (show 0 * 128 + l.val = l.val by omega)

/-! ## The arrays -/

/-- The norm's weights and the router's weights and biases are numbers. -/
structure Numbers (c : Dev nD) : Prop where
  scale : ∀ i, Cert.Route.IsNum ((m ((c : Thread nD τ).loc main_arg7) : S1024.Idx → EReal) i)
  router : ∀ i, Cert.Route.IsNum ((m ((c : Thread nD τ).loc main_arg8) : S1024x32.Idx → EReal) i)
  bias : ∀ i, Cert.Route.IsNum ((m ((c : Thread nD τ).loc main_arg9) : S32.Idx → EReal) i)

/-- The scores of the tokens, of `main`'s arguments. -/
def logitsOf (c : Dev nD) : Fin 32768 → Fin 32 → EReal :=
  Cert.Route.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The normalised row of a step is a token's. -/
theorem normedRow_blk (c : Dev nD) (t : Fin cfg0.N) (r : Fin 512) (h : t.val * 512 + r.val < 32768) :
    normedRow (iblk m c 0 t) (iblk m c 1 t) (iblk m c 2 t) (iblk m c 3 t) (iblk m c 4 t) (iblk m c 5 t) (iblk m c 6 t) (iblk m c 7 t) r
      = Cert.Projection.norm (Cert.Merge.after (Cert.Merge.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, h⟩)) (fun k => (m ((c : Thread nD τ).loc main_arg7) : S1024.Idx → EReal) (ix1 k)) := by
  unfold normedRow
  rw [row_blk m c t r h]
  exact congrArg (Cert.Projection.norm _) (funext fun k => blk7 m c t k)

variable (c : Dev nD) (hN : Numbers m c)

include hN in
theorem isNum_row (t : Fin cfg0.N) (r : Fin 512) (h : t.val * 512 + r.val < 32768) (d : Fin 1024) :
    Cert.Route.IsNum (normedRow (iblk m c 0 t) (iblk m c 1 t) (iblk m c 2 t) (iblk m c 3 t) (iblk m c 4 t) (iblk m c 5 t) (iblk m c 6 t) (iblk m c 7 t) r d) := by
  rw [normedRow_blk m c t r h]
  exact Cert.Route.isNum_normed _ _ _ _ _ _ _ _ hN.scale _ d

/-- The experts, of `main`'s arguments. -/
def chosenOf : S32768x4.Idx → BitVec 32 := Cert.Route.chosen (logitsOf m c)

/-- The shares, of `main`'s arguments. -/
def weightsOf : S32768x128.Idx → EReal := Cert.Route.weights (logitsOf m c)

include hN in
theorem chosenOf_at (t : Fin cfg0.N) (r : Fin 512) (j : Fin 4) (h : t.val * 512 + r.val < 32768) :
    (chosen (iblk m c 0 t) (iblk m c 1 t) (iblk m c 2 t) (iblk m c 3 t) (iblk m c 4 t) (iblk m c 5 t) (iblk m c 6 t) (iblk m c 7 t) (iblk m c 8 t) (iblk m c 9 t) : S512x4.Idx → BitVec 32) (ix2 r j) = chosenOf m c (ix2 ⟨t.val * 512 + r.val, h⟩ j) := by
  refine (chosen_at _ _ _ _ _ _ _ _ _ _ r (fun d k => (m ((c : Thread nD τ).loc main_arg8) : S1024x32.Idx → EReal) (ix2 d k)) (fun k => (m ((c : Thread nD τ).loc main_arg9) : S32.Idx → EReal) (ix1 k))
    (isNum_row m c hN t r h) (fun _ _ => hN.router _) (fun _ => hN.bias _) (fun d k => (blk8 m c t d _).trans (V_high m c d k)) (fun d k => (blk8 m c t d _).trans (V_low m c d k))
    (fun k => (blk9 m c t _).trans (V_bias m c k)) j).trans ?_
  rw [normedRow_blk m c t r h]
  rfl

include hN in
theorem weightsOf_at (t : Fin cfg0.N) (r : Fin 512) (l : Fin 128) (h : t.val * 512 + r.val < 32768) :
    (weights (iblk m c 0 t) (iblk m c 1 t) (iblk m c 2 t) (iblk m c 3 t) (iblk m c 4 t) (iblk m c 5 t) (iblk m c 6 t) (iblk m c 7 t) (iblk m c 8 t) (iblk m c 9 t) : S512x128.Idx → EReal) (ix2 r l) = weightsOf m c (ix2 ⟨t.val * 512 + r.val, h⟩ l) := by
  refine (weights_at _ _ _ _ _ _ _ _ _ _ r (fun d k => (m ((c : Thread nD τ).loc main_arg8) : S1024x32.Idx → EReal) (ix2 d k)) (fun k => (m ((c : Thread nD τ).loc main_arg9) : S32.Idx → EReal) (ix1 k))
    (isNum_row m c hN t r h) (fun _ _ => hN.router _) (fun _ => hN.bias _) (fun d k => (blk8 m c t d _).trans (V_high m c d k)) (fun d k => (blk8 m c t d _).trans (V_low m c d k))
    (fun k => (blk9 m c t _).trans (V_bias m c k)) l).trans ?_
  rw [normedRow_blk m c t r h]
  rfl

theorem covers12 : (cfg0.win 12).Covers := by
  refine Window.covers_of_indexMap_surj _ rfl (fun a => ?_) fun β => ?_
  · match a with
    | ⟨0, _⟩ => exact (show 0 < 512 by omega)
    | ⟨1, _⟩ => exact (show 0 < 4 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (4 + 4 - 1) / 4 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

theorem flushed12 (t : Fin cfg0.N) :
    (dats m 0 c).flushed 12 t = (cfg0.win 12).cut (grid0.coords t) (chosen (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after_12]

set_option maxHeartbeats 4000000 in
include hN in
/-- The experts after the run. -/
theorem chosen_final : ((dats m 0 c).arrAt 12 cfg0.N : S32768x4.Idx → BitVec 32) = chosenOf m c := by
  refine (dats m 0 c).arrAt_eq_of_covers 12 (chosenOf m c) covers12 fun t _ y => ?_
  have ht : t.val < 64 := Nat.lt_of_lt_of_eq t.isLt N_0
  obtain ⟨r, l, hy⟩ : ∃ (r : Fin 512) (l : Fin 4), (y : S512x4.Idx) = ix2 r l := ⟨_, _, eq_ix2 (y : S512x4.Idx)⟩
  refine (show _ = (chosen (iblk m c 0 t) (iblk m c 1 t) (iblk m c 2 t) (iblk m c 3 t) (iblk m c 4 t) (iblk m c 5 t) (iblk m c 6 t) (iblk m c 7 t) (iblk m c 8 t) (iblk m c 9 t) : S512x4.Idx → BitVec 32) y from congrFun (flushed12 m c t) y).trans ?_
  refine ((congrArg (chosen (iblk m c 0 t) (iblk m c 1 t) (iblk m c 2 t) (iblk m c 3 t) (iblk m c 4 t) (iblk m c 5 t) (iblk m c 6 t) (iblk m c 7 t) (iblk m c 8 t) (iblk m c 9 t) : S512x4.Idx → BitVec 32) hy).trans (chosenOf_at m c hN t r l (by omega))).trans ?_
  refine congrArg (chosenOf m c) (funext fun a => Fin.ext (Eq.symm ?_))
  refine (emb12 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 4 + l.val = l.val by omega)

theorem covers13 : (cfg0.win 13).Covers := by
  refine Window.covers_of_indexMap_surj _ rfl (fun a => ?_) fun β => ?_
  · match a with
    | ⟨0, _⟩ => exact (show 0 < 512 by omega)
    | ⟨1, _⟩ => exact (show 0 < 128 by omega)
  · have h0 : (β ⟨0, Nat.succ_pos 1⟩).val < 64 :=
      Nat.lt_of_lt_of_eq (show _ < (32768 + 512 - 1) / 512 from (β ⟨0, Nat.succ_pos 1⟩).isLt) (by norm_num)
    have h1 : (β ⟨1, Nat.lt_succ_self 1⟩).val < 1 :=
      Nat.lt_of_lt_of_eq (show _ < (128 + 128 - 1) / 128 from (β ⟨1, Nat.lt_succ_self 1⟩).isLt) (by norm_num)
    refine ⟨fun a => match a with | ⟨0, _⟩ => (⟨(β ⟨0, Nat.succ_pos 1⟩).val, h0⟩ : Fin 64), fun a => ?_⟩
    match a with
    | ⟨0, _⟩ =>
      show (BitVec.ofNat 32 (β ⟨0, Nat.succ_pos 1⟩).val).toNat = _
      rw [BitVec.toNat_ofNat, Nat.mod_eq_of_lt (by omega)]
    | ⟨1, _⟩ => exact (Nat.lt_one_iff.mp h1).symm

theorem flushed13 (t : Fin cfg0.N) :
    (dats m 0 c).flushed 13 t = (cfg0.win 13).cut (grid0.coords t) (weights (iblk m c 0 t) (iblk m c 1 t) (iblk m c 2 t) (iblk m c 3 t) (iblk m c 4 t) (iblk m c 5 t) (iblk m c 6 t) (iblk m c 7 t) (iblk m c 8 t) (iblk m c 9 t)) := by
  show (cfg0.win 13).cut (grid0.coords t) ((dats m 0 c).after 13 t) = _
  rw [after_13]

set_option maxHeartbeats 4000000 in
include hN in
/-- The shares after the run. -/
theorem weights_final : ((dats m 0 c).arrAt 13 cfg0.N : S32768x128.Idx → EReal) = weightsOf m c := by
  refine (dats m 0 c).arrAt_eq_of_covers 13 (weightsOf m c) covers13 fun t _ y => ?_
  have ht : t.val < 64 := Nat.lt_of_lt_of_eq t.isLt N_0
  obtain ⟨r, l, hy⟩ : ∃ (r : Fin 512) (l : Fin 128), (y : S512x128.Idx) = ix2 r l := ⟨_, _, eq_ix2 (y : S512x128.Idx)⟩
  refine (show _ = (weights (iblk m c 0 t) (iblk m c 1 t) (iblk m c 2 t) (iblk m c 3 t) (iblk m c 4 t) (iblk m c 5 t) (iblk m c 6 t) (iblk m c 7 t) (iblk m c 8 t) (iblk m c 9 t) : S512x128.Idx → EReal) y from congrFun (flushed13 m c t) y).trans ?_
  refine ((congrArg (weights (iblk m c 0 t) (iblk m c 1 t) (iblk m c 2 t) (iblk m c 3 t) (iblk m c 4 t) (iblk m c 5 t) (iblk m c 6 t) (iblk m c 7 t) (iblk m c 8 t) (iblk m c 9 t) : S512x128.Idx → EReal) hy).trans (weightsOf_at m c hN t r l (by omega))).trans ?_
  refine congrArg (weightsOf m c) (funext fun a => Fin.ext (Eq.symm ?_))
  refine (emb13 t y a).trans ?_
  rw [hy]
  match a with
  | ⟨0, _⟩ =>
    show (BitVec.ofNat 32 ((grid0.coords t) 0).val).toNat * 512 + r.val = t.val * 512 + r.val
    rw [coords_val, BitVec.toNat_ofNat, Nat.mod_eq_of_lt (by omega)]
  | ⟨1, _⟩ => exact (show 0 * 128 + l.val = l.val by omega)

end Cert.Kernel4Ideal.Route

end
-- ==== Proof.Route.Decode.lean ====
/- What the precondition says of the router's arguments: the norm's weights and the router's weights and biases are numbers. -/
module

public import proofs.«01_k».proof.Proof.Gen.Pre_finite
public import proofs.«01_k».proof.Proof.Route.Finite
public import Idealize.ShloMosaic.Lib.ReduceAll
public import Idealize.ShloMosaic.Lib.WordCmp
public import Idealize.ShloMosaic.Lib.ValueIdxCore

@[expose] public section

noncomputable section

namespace Cert.Route

open Idealize.ShloMosaic Idealize.ShloMosaic.ValueIdx
open Cert.Pre_finite Cert.Pre_finite.Facts

variable [Cert.Pre_finite.Facts]

/-- The precondition, decoded. -/
theorem of_finite (a0 a1 : FVec Ideal S32768x1024 .bf16) (a2 : FVec Ideal S32768x2048 .bf16) (a3 : FVec Ideal S32768x1024 .f32)
    (a4 a5 a6 : FVec Ideal S1024x1024 .f32) (a7 : FVec Ideal S1024 .f32) (a8 : FVec Ideal S1024x32 .f32) (a9 : FVec Ideal S32 .f32)
    (h : fn a0 a1 a2 a3 a4 a5 a6 a7 a8 a9 = fun _ => 1#1) :
    (∀ i, IsNum (a7 i)) ∧ (∀ i, IsNum (a8 i)) ∧ ∀ i, IsNum (a9 i) := by
  have h0 : IntOp.andi _ _ = 1#1 := congrFun h (fun a => a.elim0)
  obtain ⟨h0, g9⟩ := IntOp.andi_eq_one.mp h0
  obtain ⟨g7, g8⟩ := IntOp.andi_eq_one.mp (show IntOp.andi _ _ = 1#1 from h0)
  refine ⟨fun i => ?_, fun i => ?_, fun i => ?_⟩
  · exact isNum_of_abs_lt _ (Host.reduce_andi_all (t := S_) _ _ _ _ _ g7 i)
  · exact isNum_of_abs_lt _ (Host.reduce_andi_all (t := S_) _ _ _ _ _ g8 i)
  · exact isNum_of_abs_lt _ (Host.reduce_andi_all (t := S_) _ _ _ _ _ g9 i)

end Cert.Route

end
-- ==== Proof.lean ====
module

public import proofs.«01_k».proof.Defs
public import proofs.«01_k».proof.Proof.Frames
public import proofs.«01_k».proof.Proof.Plain
public import proofs.«01_k».proof.Proof.Value
public import proofs.«01_k».proof.Proof.Projection.Plain
public import proofs.«01_k».proof.Proof.Projection.Value
public import proofs.«01_k».proof.Proof.Gen.Kernel2.Frame
public import proofs.«01_k».proof.Proof.Gen.Kernel2Ideal.Value
public import proofs.«01_k».proof.Proof.Gen.Reference2Ideal.Run
public import proofs.«01_k».proof.Proof.Merge.Bits.Run
public import proofs.«01_k».proof.Proof.Merge.Plain
public import proofs.«01_k».proof.Proof.Merge.Value
public import proofs.«01_k».proof.Proof.Gen.Reference3Ideal.Run
public import proofs.«01_k».proof.Proof.Route.Bits.Run
public import proofs.«01_k».proof.Proof.Route.Run
public import proofs.«01_k».proof.Proof.Route.Plain
public import proofs.«01_k».proof.Proof.Route.Value
public import proofs.«01_k».proof.Proof.Route.Decode
public import proofs.«01_k».proof.Proof.Gen.Reference4Ideal.Run
public import proofs.«01_k».proof.Proof.Gen.Pre_finite

@[expose] public section

noncomputable section

namespace Cert.Proof

open Idealize.ShloMosaic Idealize.ShloMosaic.TcCoe Idealize.SL.Sem

/-- The kernel's result is the plain program's: both are the specification of the shared arguments. -/
theorem values : Cert.algebraic_KernelIdeal_ReferenceIdeal := by
  intro m g m' g' hpre hagree
  have hG := Cert.Frames.good m hpre
  refine ⟨fun c => Cert.KernelIdeal.Experts.goal m hG c, ?_, ?_⟩
  · exact (θ_run Cert.KernelIdeal.defs _ _).mono
      (fun _ h c => ⟨(h.1 c).1.trans (Cert.KernelIdeal.Experts.final m hG c), (h.1 c).2⟩) (Cert.KernelIdeal.Experts.ends m hG g)
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6⟩ := hagree c
    rw [h0, h1, h2, h3, h4, h5, h6]
    obtain rfl : c = 0 := Subsingleton.elim _ _
    have ht : ∀ i, (m (((0 : Dev Cert.KernelIdeal.nD).tc : Thread Cert.KernelIdeal.nD Cert.KernelIdeal.τ).loc Cert.KernelIdeal.main_arg0) i : BitVec 32).toNat < 32 := fun i => by
      have := hG.experts i
      rwa [Cert.KernelIdeal.Experts.experts_eq] at this
    refine (Cert.ReferenceIdeal.Experts.whole_eq _ ht _ _ _ _ _ _).trans ?_
    unfold Cert.KernelIdeal.Experts.goal
    congr 1

/-- The plain projection runs to its end. -/
theorem projection_ends : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run (F := Ideal) m g)

/-- The input projection's four results are the plain program's. -/
theorem projection : Cert.algebraic_Kernel2Ideal_Reference2Ideal := by
  intro m g m' g' _ hagree
  refine ⟨fun c => Cert.Kernel2Ideal.Projection.qkvr m c, fun c => Cert.Kernel2Ideal.Projection.hyena m c,
    fun c => Cert.Kernel2Ideal.Projection.gates m c, fun c => Cert.Kernel2Ideal.Projection.low m c, ?_, ?_⟩
  · exact (θ_run Cert.Kernel2Ideal.defs _ _).mono
      (fun _ h c => ⟨(h c).1.trans (Cert.Kernel2Ideal.Projection.qkvr_final m c),
        (h c).2.1.trans (Cert.Kernel2Ideal.Projection.hyena_final m c),
        (h c).2.2.1.trans (Cert.Kernel2Ideal.Projection.gates_final m c),
        (h c).2.2.2.1.trans (Cert.Kernel2Ideal.Projection.low_final m c), (h c).2.2.2.2⟩)
      (Cert.Kernel2Ideal.Value.run_blocks m g)
  · refine (θ_run Cert.Reference2Ideal.defs _ _).mono
      (fun _ h c => ⟨(h c).1.trans ?_, (h c).2.1.trans ?_, (h c).2.2.1.trans ?_, (h c).2.2.2.1.trans ?_, (h c).2.2.2.2⟩)
      (Cert.Reference2Ideal.Value.run (F := Ideal) m' g')
    all_goals
      obtain ⟨h0, h1, h2⟩ := hagree c
      rw [h0, h1, h2]
    · exact Cert.Reference2Ideal.Projection.qkvr_eq _ _ _
    · exact Cert.Reference2Ideal.Projection.hy_eq _ _ _
    · exact Cert.Reference2Ideal.Projection.gates_eq _ _ _
    · exact Cert.Reference2Ideal.Projection.low_eq _ _ _

/-- The plain merge runs to its end. -/
theorem merge_ends : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The merge's first two results are the plain program's. -/
theorem merge : Cert.algebraic_Kernel3Ideal_Reference3Ideal := by
  intro m g m' g' _ hagree
  refine ⟨fun c => Cert.Kernel3Ideal.Merge.summedOf m c, fun c => Cert.Kernel3Ideal.Merge.dealtOf m c, ?_, ?_⟩
  · exact (θ_run Cert.Kernel3Ideal.defs _ _).mono
      (fun _ h c => ⟨((h.1 c).1 10).trans (Cert.Kernel3Ideal.Merge.summed_final m c), ((h.1 c).1 11).trans (Cert.Kernel3Ideal.Merge.dealt_final m c), h.2 c⟩)
      (θ_run_and (Cert.Kernel3Ideal.Merge.run m g) (Cert.Kernel3Ideal.Merge.kept m g))
  · refine (θ_run Cert.Reference3Ideal.defs _ _).mono (fun _ h c => ⟨(h c).1.trans ?_, (h c).2.1.trans ?_, (h c).2.2⟩)
      (Cert.Reference3Ideal.Value.run (F := Ideal) m' g')
    · obtain ⟨h0, h1, h2, h3, h4, h5, h6, -⟩ := hagree c
      rw [h0, h1, h2, h3, h4, h5, h6]
      exact Cert.Reference3Ideal.Merge.summed_eq _ _ _ _ _ _ _
    · obtain ⟨h0, h1, h2, h3, h4, h5, h6, h7, -⟩ := hagree c
      unfold Cert.Reference3Ideal.Value.res_main_v37
      rw [h0, h1, h2, h3, h4, h5, h6, h7]
      exact Cert.Reference3Ideal.Merge.dealt_eq _ _ _ _ _ _ _ _

/-- The plain router runs to its end. -/
theorem routing_ends : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The router's experts and shares are the plain program's. -/
theorem routing : Cert.algebraic_Kernel4Ideal_Reference4Ideal_pre_finite := by
  intro m g m' g' hpre hagree
  have hN : ∀ c, Cert.Kernel4Ideal.Route.Numbers m c := fun c => by
    obtain ⟨h7, h8, h9⟩ := Cert.Route.of_finite _ _ _ _ _ _ _ _ _ _ (hpre c)
    exact ⟨h7, h8, h9⟩
  refine ⟨fun c => Cert.Kernel4Ideal.Route.chosenOf m c, fun c => Cert.Kernel4Ideal.Route.weightsOf m c, ?_, ?_⟩
  · exact (θ_run Cert.Kernel4Ideal.defs _ _).mono
      (fun _ h c => ⟨((h.1 c).1 12).trans (Cert.Kernel4Ideal.Route.chosen_final m c (hN c)), ((h.1 c).1 13).trans (Cert.Kernel4Ideal.Route.weights_final m c (hN c)), h.2 c⟩)
      (θ_run_and (Cert.Kernel4Ideal.Route.run m g) (Cert.Kernel4Ideal.Route.kept m g))
  · refine (θ_run Cert.Reference4Ideal.defs _ _).mono (fun _ h c => ⟨(h c).1.trans ?_, (h c).2.1.trans ?_, (h c).2.2⟩)
      (Cert.Reference4Ideal.Value.run (F := Ideal) m' g')
    · obtain ⟨h0, h1, h2, h3, h4, h5, h6, h7, h8, h9⟩ := hagree c
      unfold Cert.Reference4Ideal.Value.res_main_indices
      rw [h0, h1, h2, h3, h4, h5, h6, h7, h8, h9]
      exact Cert.Reference4Ideal.Route.chosen_eq _ _ _ _ _ _ _ _ _ _
    · obtain ⟨h0, h1, h2, h3, h4, h5, h6, h7, h8, h9⟩ := hagree c
      unfold Cert.Reference4Ideal.Value.res_main_v52
      rw [h0, h1, h2, h3, h4, h5, h6, h7, h8, h9]
      exact Cert.Reference4Ideal.Route.weights_eq _ _ _ _ _ _ _ _ _ _ fun r k =>
        (Cert.Route.isNum_logits _ _ _ _ _ _ _ _ _ _ (hN c).scale (hN c).router (hN c).bias r k).ne_bot

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_tables.Gen.facts, Cert.Pre_finite.Gen.facts,
    Cert.Frames.kernel_bits, Cert.Frames.kernel, Cert.Frames.reference, Cert.Frames.reference_pre,
    fun m g _ => Cert.Kernel2.Gen.frame m g, fun m g _ => Cert.Kernel2Ideal.Gen.frame m g, projection_ends,
    fun m g _ => Cert.Kernel3.Merge.quiescent m g, fun m g _ => Cert.Kernel3Ideal.Merge.quiescent m g, merge_ends,
    fun m g _ => Cert.Kernel4.Route.quiescent m g, fun m g _ => Cert.Kernel4Ideal.Route.quiescent m g, fun m g _ => Cert.Kernel4Ideal.Route.quiescent m g,
    routing_ends, fun m g _ => routing_ends m g trivial,
    trivial, values, trivial, projection, trivial, merge, trivial, routing⟩

end Cert.Proof

end
